-- ==== Defs.lean ====
def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_qt [hPre_finite_qt : Cert.Pre_finite_qt.Facts] (m : (ℓ : Loc Cert.LastIdeal.nD Cert.LastIdeal.τ Cert.LastIdeal.sig) → Buf (Elt Ideal) ℓ) : Prop :=
  ∀ c : Dev Cert.LastIdeal.nD,
    (Cert.Pre_finite_qt.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))).1 = (fun _ => 1#1)
    ∧ (Cert.Pre_finite_qt.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))).2.1 = (fun _ => 1#1)
    ∧ (Cert.Pre_finite_qt.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))).2.2.1 = (fun _ => 1#1)
    ∧ (Cert.Pre_finite_qt.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))).2.2.2.1 = (fun _ => 1#1)
    ∧ (Cert.Pre_finite_qt.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4))).2.2.2.2 = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite_qt [hPre_finite_qt : Cert.Pre_finite_qt.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite_qt.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4))).1 = (fun _ => 1#1)
    ∧ (Cert.Pre_finite_qt.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4))).2.1 = (fun _ => 1#1)
    ∧ (Cert.Pre_finite_qt.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4))).2.2.1 = (fun _ => 1#1)
    ∧ (Cert.Pre_finite_qt.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4))).2.2.2.1 = (fun _ => 1#1)
    ∧ (Cert.Pre_finite_qt.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4))).2.2.2.2 = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_finite_first [hPre_finite_first : Cert.Pre_finite_first.Facts] (m : (ℓ : Loc Cert.FirstIdeal.nD Cert.FirstIdeal.τ Cert.FirstIdeal.sig) → Buf (Elt Ideal) ℓ) : Prop :=
  ∀ c : Dev Cert.FirstIdeal.nD,
    (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).1 = (fun _ => 1#1)
    ∧ (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).2.1 = (fun _ => 1#1)
    ∧ (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).2.2.1 = (fun _ => 1#1)
    ∧ (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).2.2.2.1 = (fun _ => 1#1)
    ∧ (Cert.Pre_finite_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).2.2.2.2 = (fun _ => 1#1)

def Pre_FirstRefIdeal (m : (ℓ : Loc Cert.FirstRefIdeal.nD Cert.FirstRefIdeal.τ Cert.FirstRefIdeal.sig) → Buf (Elt Ideal) ℓ) : Prop :=
  True

def Pre_FirstRefIdeal_finite_first [hPre_finite_first : Cert.Pre_finite_first.Facts] (m : (ℓ : Loc Cert.FirstRefIdeal.nD Cert.FirstRefIdeal.τ Cert.FirstRefIdeal.sig) → Buf (Elt Ideal) ℓ) : Prop :=
  ∀ c : Dev Cert.FirstRefIdeal.nD,
    (Cert.Pre_finite_first.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).1 = (fun _ => 1#1)
    ∧ (Cert.Pre_finite_first.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).2.1 = (fun _ => 1#1)
    ∧ (Cert.Pre_finite_first.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).2.2.1 = (fun _ => 1#1)
    ∧ (Cert.Pre_finite_first.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).2.2.2.1 = (fun _ => 1#1)
    ∧ (Cert.Pre_finite_first.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).2.2.2.2 = (fun _ => 1#1)

def Pre_Power (m : (ℓ : Loc Cert.Power.nD Cert.Power.τ Cert.Power.sig) → Buf (Elt Bits) ℓ) : Prop :=
  True

def Pre_PowerIdeal (m : (ℓ : Loc Cert.PowerIdeal.nD Cert.PowerIdeal.τ Cert.PowerIdeal.sig) → Buf (Elt Ideal) ℓ) : Prop :=
  True

def Pre_PowerIdeal_finite_qt [hPre_finite_qt : Cert.Pre_finite_qt.Facts] (m : (ℓ : Loc Cert.PowerIdeal.nD Cert.PowerIdeal.τ Cert.PowerIdeal.sig) → Buf (Elt Ideal) ℓ) : Prop :=
  ∀ c : Dev Cert.PowerIdeal.nD,
    (Cert.Pre_finite_qt.fn (F := Ideal) (m ((c.tc : Thread Cert.PowerIdeal.nD Cert.PowerIdeal.τ).loc Cert.PowerIdeal.main_arg0)) (m ((c.tc : Thread Cert.PowerIdeal.nD Cert.PowerIdeal.τ).loc Cert.PowerIdeal.main_arg1)) (m ((c.tc : Thread Cert.PowerIdeal.nD Cert.PowerIdeal.τ).loc Cert.PowerIdeal.main_arg2)) (m ((c.tc : Thread Cert.PowerIdeal.nD Cert.PowerIdeal.τ).loc Cert.PowerIdeal.main_arg3)) (m ((c.tc : Thread Cert.PowerIdeal.nD Cert.PowerIdeal.τ).loc Cert.PowerIdeal.main_arg4))).1 = (fun _ => 1#1)
    ∧ (Cert.Pre_finite_qt.fn (F := Ideal) (m ((c.tc : Thread Cert.PowerIdeal.nD Cert.PowerIdeal.τ).loc Cert.PowerIdeal.main_arg0)) (m ((c.tc : Thread Cert.PowerIdeal.nD Cert.PowerIdeal.τ).loc Cert.PowerIdeal.main_arg1)) (m ((c.tc : Thread Cert.PowerIdeal.nD Cert.PowerIdeal.τ).loc Cert.PowerIdeal.main_arg2)) (m ((c.tc : Thread Cert.PowerIdeal.nD Cert.PowerIdeal.τ).loc Cert.PowerIdeal.main_arg3)) (m ((c.tc : Thread Cert.PowerIdeal.nD Cert.PowerIdeal.τ).loc Cert.PowerIdeal.main_arg4))).2.1 = (fun _ => 1#1)
    ∧ (Cert.Pre_finite_qt.fn (F := Ideal) (m ((c.tc : Thread Cert.PowerIdeal.nD Cert.PowerIdeal.τ).loc Cert.PowerIdeal.main_arg0)) (m ((c.tc : Thread Cert.PowerIdeal.nD Cert.PowerIdeal.τ).loc Cert.PowerIdeal.main_arg1)) (m ((c.tc : Thread Cert.PowerIdeal.nD Cert.PowerIdeal.τ).loc Cert.PowerIdeal.main_arg2)) (m ((c.tc : Thread Cert.PowerIdeal.nD Cert.PowerIdeal.τ).loc Cert.PowerIdeal.main_arg3)) (m ((c.tc : Thread Cert.PowerIdeal.nD Cert.PowerIdeal.τ).loc Cert.PowerIdeal.main_arg4))).2.2.1 = (fun _ => 1#1)
    ∧ (Cert.Pre_finite_qt.fn (F := Ideal) (m ((c.tc : Thread Cert.PowerIdeal.nD Cert.PowerIdeal.τ).loc Cert.PowerIdeal.main_arg0)) (m ((c.tc : Thread Cert.PowerIdeal.nD Cert.PowerIdeal.τ).loc Cert.PowerIdeal.main_arg1)) (m ((c.tc : Thread Cert.PowerIdeal.nD Cert.PowerIdeal.τ).loc Cert.PowerIdeal.main_arg2)) (m ((c.tc : Thread Cert.PowerIdeal.nD Cert.PowerIdeal.τ).loc Cert.PowerIdeal.main_arg3)) (m ((c.tc : Thread Cert.PowerIdeal.nD Cert.PowerIdeal.τ).loc Cert.PowerIdeal.main_arg4))).2.2.2.1 = (fun _ => 1#1)
    ∧ (Cert.Pre_finite_qt.fn (F := Ideal) (m ((c.tc : Thread Cert.PowerIdeal.nD Cert.PowerIdeal.τ).loc Cert.PowerIdeal.main_arg0)) (m ((c.tc : Thread Cert.PowerIdeal.nD Cert.PowerIdeal.τ).loc Cert.PowerIdeal.main_arg1)) (m ((c.tc : Thread Cert.PowerIdeal.nD Cert.PowerIdeal.τ).loc Cert.PowerIdeal.main_arg2)) (m ((c.tc : Thread Cert.PowerIdeal.nD Cert.PowerIdeal.τ).loc Cert.PowerIdeal.main_arg3)) (m ((c.tc : Thread Cert.PowerIdeal.nD Cert.PowerIdeal.τ).loc Cert.PowerIdeal.main_arg4))).2.2.2.2 = (fun _ => 1#1)

def Pre_PowerRefIdeal (m : (ℓ : Loc Cert.PowerRefIdeal.nD Cert.PowerRefIdeal.τ Cert.PowerRefIdeal.sig) → Buf (Elt Ideal) ℓ) : Prop :=
  True

def Pre_PowerRefIdeal_finite_qt [hPre_finite_qt : Cert.Pre_finite_qt.Facts] (m : (ℓ : Loc Cert.PowerRefIdeal.nD Cert.PowerRefIdeal.τ Cert.PowerRefIdeal.sig) → Buf (Elt Ideal) ℓ) : Prop :=
  ∀ c : Dev Cert.PowerRefIdeal.nD,
    (Cert.Pre_finite_qt.fn (F := Ideal) (m ((c.tc : Thread Cert.PowerRefIdeal.nD Cert.PowerRefIdeal.τ).loc Cert.PowerRefIdeal.main_arg0)) (m ((c.tc : Thread Cert.PowerRefIdeal.nD Cert.PowerRefIdeal.τ).loc Cert.PowerRefIdeal.main_arg1)) (m ((c.tc : Thread Cert.PowerRefIdeal.nD Cert.PowerRefIdeal.τ).loc Cert.PowerRefIdeal.main_arg2)) (m ((c.tc : Thread Cert.PowerRefIdeal.nD Cert.PowerRefIdeal.τ).loc Cert.PowerRefIdeal.main_arg3)) (m ((c.tc : Thread Cert.PowerRefIdeal.nD Cert.PowerRefIdeal.τ).loc Cert.PowerRefIdeal.main_arg4))).1 = (fun _ => 1#1)
    ∧ (Cert.Pre_finite_qt.fn (F := Ideal) (m ((c.tc : Thread Cert.PowerRefIdeal.nD Cert.PowerRefIdeal.τ).loc Cert.PowerRefIdeal.main_arg0)) (m ((c.tc : Thread Cert.PowerRefIdeal.nD Cert.PowerRefIdeal.τ).loc Cert.PowerRefIdeal.main_arg1)) (m ((c.tc : Thread Cert.PowerRefIdeal.nD Cert.PowerRefIdeal.τ).loc Cert.PowerRefIdeal.main_arg2)) (m ((c.tc : Thread Cert.PowerRefIdeal.nD Cert.PowerRefIdeal.τ).loc Cert.PowerRefIdeal.main_arg3)) (m ((c.tc : Thread Cert.PowerRefIdeal.nD Cert.PowerRefIdeal.τ).loc Cert.PowerRefIdeal.main_arg4))).2.1 = (fun _ => 1#1)
    ∧ (Cert.Pre_finite_qt.fn (F := Ideal) (m ((c.tc : Thread Cert.PowerRefIdeal.nD Cert.PowerRefIdeal.τ).loc Cert.PowerRefIdeal.main_arg0)) (m ((c.tc : Thread Cert.PowerRefIdeal.nD Cert.PowerRefIdeal.τ).loc Cert.PowerRefIdeal.main_arg1)) (m ((c.tc : Thread Cert.PowerRefIdeal.nD Cert.PowerRefIdeal.τ).loc Cert.PowerRefIdeal.main_arg2)) (m ((c.tc : Thread Cert.PowerRefIdeal.nD Cert.PowerRefIdeal.τ).loc Cert.PowerRefIdeal.main_arg3)) (m ((c.tc : Thread Cert.PowerRefIdeal.nD Cert.PowerRefIdeal.τ).loc Cert.PowerRefIdeal.main_arg4))).2.2.1 = (fun _ => 1#1)
    ∧ (Cert.Pre_finite_qt.fn (F := Ideal) (m ((c.tc : Thread Cert.PowerRefIdeal.nD Cert.PowerRefIdeal.τ).loc Cert.PowerRefIdeal.main_arg0)) (m ((c.tc : Thread Cert.PowerRefIdeal.nD Cert.PowerRefIdeal.τ).loc Cert.PowerRefIdeal.main_arg1)) (m ((c.tc : Thread Cert.PowerRefIdeal.nD Cert.PowerRefIdeal.τ).loc Cert.PowerRefIdeal.main_arg2)) (m ((c.tc : Thread Cert.PowerRefIdeal.nD Cert.PowerRefIdeal.τ).loc Cert.PowerRefIdeal.main_arg3)) (m ((c.tc : Thread Cert.PowerRefIdeal.nD Cert.PowerRefIdeal.τ).loc Cert.PowerRefIdeal.main_arg4))).2.2.2.1 = (fun _ => 1#1)
    ∧ (Cert.Pre_finite_qt.fn (F := Ideal) (m ((c.tc : Thread Cert.PowerRefIdeal.nD Cert.PowerRefIdeal.τ).loc Cert.PowerRefIdeal.main_arg0)) (m ((c.tc : Thread Cert.PowerRefIdeal.nD Cert.PowerRefIdeal.τ).loc Cert.PowerRefIdeal.main_arg1)) (m ((c.tc : Thread Cert.PowerRefIdeal.nD Cert.PowerRefIdeal.τ).loc Cert.PowerRefIdeal.main_arg2)) (m ((c.tc : Thread Cert.PowerRefIdeal.nD Cert.PowerRefIdeal.τ).loc Cert.PowerRefIdeal.main_arg3)) (m ((c.tc : Thread Cert.PowerRefIdeal.nD Cert.PowerRefIdeal.τ).loc Cert.PowerRefIdeal.main_arg4))).2.2.2.2 = (fun _ => 1#1)

def Pre_Cqr (m : (ℓ : Loc Cert.Cqr.nD Cert.Cqr.τ Cert.Cqr.sig) → Buf (Elt Bits) ℓ) : Prop :=
  True

def Pre_CqrIdeal (m : (ℓ : Loc Cert.CqrIdeal.nD Cert.CqrIdeal.τ Cert.CqrIdeal.sig) → Buf (Elt Ideal) ℓ) : Prop :=
  True

def Pre_CqrIdeal_full_rank [hPre_full_rank : Cert.Pre_full_rank.Facts] (m : (ℓ : Loc Cert.CqrIdeal.nD Cert.CqrIdeal.τ Cert.CqrIdeal.sig) → Buf (Elt Ideal) ℓ) : Prop :=
  ∀ c : Dev Cert.CqrIdeal.nD,
    (Cert.Pre_full_rank.fn (F := Ideal) (m ((c.tc : Thread Cert.CqrIdeal.nD Cert.CqrIdeal.τ).loc Cert.CqrIdeal.main_arg0))).1 = (fun _ => 1#1)
    ∧ (Cert.Pre_full_rank.fn (F := Ideal) (m ((c.tc : Thread Cert.CqrIdeal.nD Cert.CqrIdeal.τ).loc Cert.CqrIdeal.main_arg0))).2 = (fun _ => 1#1)

def Pre_CqrRefIdeal (m : (ℓ : Loc Cert.CqrRefIdeal.nD Cert.CqrRefIdeal.τ Cert.CqrRefIdeal.sig) → Buf (Elt Ideal) ℓ) : Prop :=
  True

def Pre_CqrRefIdeal_full_rank [hPre_full_rank : Cert.Pre_full_rank.Facts] (m : (ℓ : Loc Cert.CqrRefIdeal.nD Cert.CqrRefIdeal.τ Cert.CqrRefIdeal.sig) → Buf (Elt Ideal) ℓ) : Prop :=
  ∀ c : Dev Cert.CqrRefIdeal.nD,
    (Cert.Pre_full_rank.fn (F := Ideal) (m ((c.tc : Thread Cert.CqrRefIdeal.nD Cert.CqrRefIdeal.τ).loc Cert.CqrRefIdeal.main_arg0))).1 = (fun _ => 1#1)
    ∧ (Cert.Pre_full_rank.fn (F := Ideal) (m ((c.tc : Thread Cert.CqrRefIdeal.nD Cert.CqrRefIdeal.τ).loc Cert.CqrRefIdeal.main_arg0))).2 = (fun _ => 1#1)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastIdeal_pre_finite_qt [hLastIdeal : Cert.LastIdeal.Facts] [hPre_finite_qt : Cert.Pre_finite_qt.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_qt m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_LastRefIdeal_pre_finite_qt [hLastRefIdeal : Cert.LastRefIdeal.Facts] [hPre_finite_qt : Cert.Pre_finite_qt.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite_qt m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstIdeal_pre_finite_first [hFirstIdeal : Cert.FirstIdeal.Facts] [hPre_finite_first : Cert.Pre_finite_first.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_finite_first m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_FirstRefIdeal_pre_finite_first [hFirstRefIdeal : Cert.FirstRefIdeal.Facts] [hPre_finite_first : Cert.Pre_finite_first.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal_finite_first m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Power [hPower : Cert.Power.Facts] : Prop :=
  ∀ (m : (ℓ : Loc Cert.Power.nD Cert.Power.τ Cert.Power.sig) → Buf (Elt Bits) ℓ) (g : Dev Cert.Power.nD → PrngReg), Pre_Power m →
    θ_run (Cert.Power.defs (F := Bits)) (onTc (τ := Cert.Power.τ) (Cert.Power.main (F := Bits))) ⟨m, fun _ => 0, g⟩ (fun r => (∀ c : Dev Cert.Power.nD,
      r.2.mem ((c.tc : Thread Cert.Power.nD Cert.Power.τ).loc Cert.Power.main_arg0) = m ((c.tc : Thread Cert.Power.nD Cert.Power.τ).loc Cert.Power.main_arg0)
      ∧ r.2.mem ((c.tc : Thread Cert.Power.nD Cert.Power.τ).loc Cert.Power.main_arg1) = m ((c.tc : Thread Cert.Power.nD Cert.Power.τ).loc Cert.Power.main_arg1)
      ∧ r.2.mem ((c.tc : Thread Cert.Power.nD Cert.Power.τ).loc Cert.Power.main_arg2) = m ((c.tc : Thread Cert.Power.nD Cert.Power.τ).loc Cert.Power.main_arg2)
      ∧ r.2.mem ((c.tc : Thread Cert.Power.nD Cert.Power.τ).loc Cert.Power.main_arg3) = m ((c.tc : Thread Cert.Power.nD Cert.Power.τ).loc Cert.Power.main_arg3)
      ∧ r.2.mem ((c.tc : Thread Cert.Power.nD Cert.Power.τ).loc Cert.Power.main_arg4) = m ((c.tc : Thread Cert.Power.nD Cert.Power.τ).loc Cert.Power.main_arg4))
      ∧ r.2.sem = fun _ => 0)

def quiescent_PowerIdeal [hPowerIdeal : Cert.PowerIdeal.Facts] : Prop :=
  ∀ (m : (ℓ : Loc Cert.PowerIdeal.nD Cert.PowerIdeal.τ Cert.PowerIdeal.sig) → Buf (Elt Ideal) ℓ) (g : Dev Cert.PowerIdeal.nD → PrngReg), Pre_PowerIdeal m →
    θ_run (Cert.PowerIdeal.defs (F := Ideal)) (onTc (τ := Cert.PowerIdeal.τ) (Cert.PowerIdeal.main (F := Ideal))) ⟨m, fun _ => 0, g⟩ (fun r => (∀ c : Dev Cert.PowerIdeal.nD,
      r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
      ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
      ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
      ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3)
      ∧ r.2.mem ((c.tc : Thread Cert.PowerIdeal.nD Cert.PowerIdeal.τ).loc Cert.PowerIdeal.main_arg4) = m ((c.tc : Thread Cert.PowerIdeal.nD Cert.PowerIdeal.τ).loc Cert.PowerIdeal.main_arg4))
      ∧ r.2.sem = fun _ => 0)

def quiescent_PowerIdeal_pre_finite_qt [hPowerIdeal : Cert.PowerIdeal.Facts] [hPre_finite_qt : Cert.Pre_finite_qt.Facts] : Prop :=
  ∀ (m : (ℓ : Loc Cert.PowerIdeal.nD Cert.PowerIdeal.τ Cert.PowerIdeal.sig) → Buf (Elt Ideal) ℓ) (g : Dev Cert.PowerIdeal.nD → PrngReg), Pre_PowerIdeal_finite_qt m →
    θ_run (Cert.PowerIdeal.defs (F := Ideal)) (onTc (τ := Cert.PowerIdeal.τ) (Cert.PowerIdeal.main (F := Ideal))) ⟨m, fun _ => 0, g⟩ (fun r => (∀ c : Dev Cert.PowerIdeal.nD,
      r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
      ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
      ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
      ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3)
      ∧ r.2.mem ((c.tc : Thread Cert.PowerIdeal.nD Cert.PowerIdeal.τ).loc Cert.PowerIdeal.main_arg4) = m ((c.tc : Thread Cert.PowerIdeal.nD Cert.PowerIdeal.τ).loc Cert.PowerIdeal.main_arg4))
      ∧ r.2.sem = fun _ => 0)

def quiescent_PowerRefIdeal [hPowerRefIdeal : Cert.PowerRefIdeal.Facts] : Prop :=
  ∀ (m : (ℓ : Loc Cert.PowerRefIdeal.nD Cert.PowerRefIdeal.τ Cert.PowerRefIdeal.sig) → Buf (Elt Ideal) ℓ) (g : Dev Cert.PowerRefIdeal.nD → PrngReg), Pre_PowerRefIdeal m →
    θ_run (Cert.PowerRefIdeal.defs (F := Ideal)) (onTc (τ := Cert.PowerRefIdeal.τ) (Cert.PowerRefIdeal.main (F := Ideal))) ⟨m, fun _ => 0, g⟩ (fun r => (∀ c : Dev Cert.PowerRefIdeal.nD,
      r.2.mem ((c.tc : Thread Cert.PowerRefIdeal.nD Cert.PowerRefIdeal.τ).loc Cert.PowerRefIdeal.main_arg0) = m ((c.tc : Thread Cert.PowerRefIdeal.nD Cert.PowerRefIdeal.τ).loc Cert.PowerRefIdeal.main_arg0)
      ∧ r.2.mem ((c.tc : Thread Cert.PowerRefIdeal.nD Cert.PowerRefIdeal.τ).loc Cert.PowerRefIdeal.main_arg1) = m ((c.tc : Thread Cert.PowerRefIdeal.nD Cert.PowerRefIdeal.τ).loc Cert.PowerRefIdeal.main_arg1)
      ∧ r.2.mem ((c.tc : Thread Cert.PowerRefIdeal.nD Cert.PowerRefIdeal.τ).loc Cert.PowerRefIdeal.main_arg2) = m ((c.tc : Thread Cert.PowerRefIdeal.nD Cert.PowerRefIdeal.τ).loc Cert.PowerRefIdeal.main_arg2)
      ∧ r.2.mem ((c.tc : Thread Cert.PowerRefIdeal.nD Cert.PowerRefIdeal.τ).loc Cert.PowerRefIdeal.main_arg3) = m ((c.tc : Thread Cert.PowerRefIdeal.nD Cert.PowerRefIdeal.τ).loc Cert.PowerRefIdeal.main_arg3)
      ∧ r.2.mem ((c.tc : Thread Cert.PowerRefIdeal.nD Cert.PowerRefIdeal.τ).loc Cert.PowerRefIdeal.main_arg4) = m ((c.tc : Thread Cert.PowerRefIdeal.nD Cert.PowerRefIdeal.τ).loc Cert.PowerRefIdeal.main_arg4))
      ∧ r.2.sem = fun _ => 0)

def quiescent_PowerRefIdeal_pre_finite_qt [hPowerRefIdeal : Cert.PowerRefIdeal.Facts] [hPre_finite_qt : Cert.Pre_finite_qt.Facts] : Prop :=
  ∀ (m : (ℓ : Loc Cert.PowerRefIdeal.nD Cert.PowerRefIdeal.τ Cert.PowerRefIdeal.sig) → Buf (Elt Ideal) ℓ) (g : Dev Cert.PowerRefIdeal.nD → PrngReg), Pre_PowerRefIdeal_finite_qt m →
    θ_run (Cert.PowerRefIdeal.defs (F := Ideal)) (onTc (τ := Cert.PowerRefIdeal.τ) (Cert.PowerRefIdeal.main (F := Ideal))) ⟨m, fun _ => 0, g⟩ (fun r => (∀ c : Dev Cert.PowerRefIdeal.nD,
      r.2.mem ((c.tc : Thread Cert.PowerRefIdeal.nD Cert.PowerRefIdeal.τ).loc Cert.PowerRefIdeal.main_arg0) = m ((c.tc : Thread Cert.PowerRefIdeal.nD Cert.PowerRefIdeal.τ).loc Cert.PowerRefIdeal.main_arg0)
      ∧ r.2.mem ((c.tc : Thread Cert.PowerRefIdeal.nD Cert.PowerRefIdeal.τ).loc Cert.PowerRefIdeal.main_arg1) = m ((c.tc : Thread Cert.PowerRefIdeal.nD Cert.PowerRefIdeal.τ).loc Cert.PowerRefIdeal.main_arg1)
      ∧ r.2.mem ((c.tc : Thread Cert.PowerRefIdeal.nD Cert.PowerRefIdeal.τ).loc Cert.PowerRefIdeal.main_arg2) = m ((c.tc : Thread Cert.PowerRefIdeal.nD Cert.PowerRefIdeal.τ).loc Cert.PowerRefIdeal.main_arg2)
      ∧ r.2.mem ((c.tc : Thread Cert.PowerRefIdeal.nD Cert.PowerRefIdeal.τ).loc Cert.PowerRefIdeal.main_arg3) = m ((c.tc : Thread Cert.PowerRefIdeal.nD Cert.PowerRefIdeal.τ).loc Cert.PowerRefIdeal.main_arg3)
      ∧ r.2.mem ((c.tc : Thread Cert.PowerRefIdeal.nD Cert.PowerRefIdeal.τ).loc Cert.PowerRefIdeal.main_arg4) = m ((c.tc : Thread Cert.PowerRefIdeal.nD Cert.PowerRefIdeal.τ).loc Cert.PowerRefIdeal.main_arg4))
      ∧ r.2.sem = fun _ => 0)

def quiescent_Cqr [hCqr : Cert.Cqr.Facts] : Prop :=
  ∀ (m : (ℓ : Loc Cert.Cqr.nD Cert.Cqr.τ Cert.Cqr.sig) → Buf (Elt Bits) ℓ) (g : Dev Cert.Cqr.nD → PrngReg), Pre_Cqr m →
    θ_run (Cert.Cqr.defs (F := Bits)) (onTc (τ := Cert.Cqr.τ) (Cert.Cqr.main (F := Bits))) ⟨m, fun _ => 0, g⟩ (fun r => (∀ c : Dev Cert.Cqr.nD,
      r.2.mem ((c.tc : Thread Cert.Cqr.nD Cert.Cqr.τ).loc Cert.Cqr.main_arg0) = m ((c.tc : Thread Cert.Cqr.nD Cert.Cqr.τ).loc Cert.Cqr.main_arg0))
      ∧ r.2.sem = fun _ => 0)

def quiescent_CqrIdeal [hCqrIdeal : Cert.CqrIdeal.Facts] : Prop :=
  ∀ (m : (ℓ : Loc Cert.CqrIdeal.nD Cert.CqrIdeal.τ Cert.CqrIdeal.sig) → Buf (Elt Ideal) ℓ) (g : Dev Cert.CqrIdeal.nD → PrngReg), Pre_CqrIdeal m →
    θ_run (Cert.CqrIdeal.defs (F := Ideal)) (onTc (τ := Cert.CqrIdeal.τ) (Cert.CqrIdeal.main (F := Ideal))) ⟨m, fun _ => 0, g⟩ (fun r => (∀ c : Dev Cert.CqrIdeal.nD,
      r.2.mem ((c.tc : Thread Cert.CqrIdeal.nD Cert.CqrIdeal.τ).loc Cert.CqrIdeal.main_arg0) = m ((c.tc : Thread Cert.CqrIdeal.nD Cert.CqrIdeal.τ).loc Cert.CqrIdeal.main_arg0))
      ∧ r.2.sem = fun _ => 0)

def quiescent_CqrIdeal_pre_full_rank [hCqrIdeal : Cert.CqrIdeal.Facts] [hPre_full_rank : Cert.Pre_full_rank.Facts] : Prop :=
  ∀ (m : (ℓ : Loc Cert.CqrIdeal.nD Cert.CqrIdeal.τ Cert.CqrIdeal.sig) → Buf (Elt Ideal) ℓ) (g : Dev Cert.CqrIdeal.nD → PrngReg), Pre_CqrIdeal_full_rank m →
    θ_run (Cert.CqrIdeal.defs (F := Ideal)) (onTc (τ := Cert.CqrIdeal.τ) (Cert.CqrIdeal.main (F := Ideal))) ⟨m, fun _ => 0, g⟩ (fun r => (∀ c : Dev Cert.CqrIdeal.nD,
      r.2.mem ((c.tc : Thread Cert.CqrIdeal.nD Cert.CqrIdeal.τ).loc Cert.CqrIdeal.main_arg0) = m ((c.tc : Thread Cert.CqrIdeal.nD Cert.CqrIdeal.τ).loc Cert.CqrIdeal.main_arg0))
      ∧ r.2.sem = fun _ => 0)

def quiescent_CqrRefIdeal [hCqrRefIdeal : Cert.CqrRefIdeal.Facts] : Prop :=
  ∀ (m : (ℓ : Loc Cert.CqrRefIdeal.nD Cert.CqrRefIdeal.τ Cert.CqrRefIdeal.sig) → Buf (Elt Ideal) ℓ) (g : Dev Cert.CqrRefIdeal.nD → PrngReg), Pre_CqrRefIdeal m →
    θ_run (Cert.CqrRefIdeal.defs (F := Ideal)) (onTc (τ := Cert.CqrRefIdeal.τ) (Cert.CqrRefIdeal.main (F := Ideal))) ⟨m, fun _ => 0, g⟩ (fun r => (∀ c : Dev Cert.CqrRefIdeal.nD,
      r.2.mem ((c.tc : Thread Cert.CqrRefIdeal.nD Cert.CqrRefIdeal.τ).loc Cert.CqrRefIdeal.main_arg0) = m ((c.tc : Thread Cert.CqrRefIdeal.nD Cert.CqrRefIdeal.τ).loc Cert.CqrRefIdeal.main_arg0))
      ∧ r.2.sem = fun _ => 0)

def quiescent_CqrRefIdeal_pre_full_rank [hCqrRefIdeal : Cert.CqrRefIdeal.Facts] [hPre_full_rank : Cert.Pre_full_rank.Facts] : Prop :=
  ∀ (m : (ℓ : Loc Cert.CqrRefIdeal.nD Cert.CqrRefIdeal.τ Cert.CqrRefIdeal.sig) → Buf (Elt Ideal) ℓ) (g : Dev Cert.CqrRefIdeal.nD → PrngReg), Pre_CqrRefIdeal_full_rank m →
    θ_run (Cert.CqrRefIdeal.defs (F := Ideal)) (onTc (τ := Cert.CqrRefIdeal.τ) (Cert.CqrRefIdeal.main (F := Ideal))) ⟨m, fun _ => 0, g⟩ (fun r => (∀ c : Dev Cert.CqrRefIdeal.nD,
      r.2.mem ((c.tc : Thread Cert.CqrRefIdeal.nD Cert.CqrRefIdeal.τ).loc Cert.CqrRefIdeal.main_arg0) = m ((c.tc : Thread Cert.CqrRefIdeal.nD Cert.CqrRefIdeal.τ).loc Cert.CqrRefIdeal.main_arg0))
      ∧ r.2.sem = fun _ => 0)

def preserves_Last_LastIdeal : Prop :=
  True

def algebraic_LastIdeal_LastRefIdeal_pre_finite_qt [hLastIdeal : Cert.LastIdeal.Facts] [hLastRefIdeal : Cert.LastRefIdeal.Facts] [hPre_finite_qt : Cert.Pre_finite_qt.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite_qt m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v24)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v24) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v4) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_First_FirstIdeal : Prop :=
  True

def algebraic_FirstIdeal_FirstRefIdeal_pre_finite_first [hFirstIdeal : Cert.FirstIdeal.Facts] [hFirstRefIdeal : Cert.FirstRefIdeal.Facts] [hPre_finite_first : Cert.Pre_finite_first.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal_finite_first m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v24)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v24) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v4) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Power_PowerIdeal : Prop :=
  True

def algebraic_PowerIdeal_PowerRefIdeal_pre_finite_qt [hPowerIdeal : Cert.PowerIdeal.Facts] [hPowerRefIdeal : Cert.PowerRefIdeal.Facts] [hPre_finite_qt : Cert.Pre_finite_qt.Facts] : Prop :=
  ∀ (m : (ℓ : Loc Cert.PowerIdeal.nD Cert.PowerIdeal.τ Cert.PowerIdeal.sig) → Buf (Elt Ideal) ℓ) (g : Dev Cert.PowerIdeal.nD → PrngReg)
    (m' : (ℓ : Loc Cert.PowerRefIdeal.nD Cert.PowerRefIdeal.τ Cert.PowerRefIdeal.sig) → Buf (Elt Ideal) ℓ) (g' : Dev Cert.PowerRefIdeal.nD → PrngReg), Pre_PowerIdeal_finite_qt m →
    (∀ c : Dev Cert.PowerIdeal.nD,
      m' ((c.tc : Thread Cert.PowerRefIdeal.nD Cert.PowerRefIdeal.τ).loc Cert.PowerRefIdeal.main_arg0) = m ((c.tc : Thread Cert.PowerIdeal.nD Cert.PowerIdeal.τ).loc Cert.PowerIdeal.main_arg0)
      ∧ m' ((c.tc : Thread Cert.PowerRefIdeal.nD Cert.PowerRefIdeal.τ).loc Cert.PowerRefIdeal.main_arg1) = m ((c.tc : Thread Cert.PowerIdeal.nD Cert.PowerIdeal.τ).loc Cert.PowerIdeal.main_arg1)
      ∧ m' ((c.tc : Thread Cert.PowerRefIdeal.nD Cert.PowerRefIdeal.τ).loc Cert.PowerRefIdeal.main_arg2) = m ((c.tc : Thread Cert.PowerIdeal.nD Cert.PowerIdeal.τ).loc Cert.PowerIdeal.main_arg2)
      ∧ m' ((c.tc : Thread Cert.PowerRefIdeal.nD Cert.PowerRefIdeal.τ).loc Cert.PowerRefIdeal.main_arg3) = m ((c.tc : Thread Cert.PowerIdeal.nD Cert.PowerIdeal.τ).loc Cert.PowerIdeal.main_arg3)
      ∧ m' ((c.tc : Thread Cert.PowerRefIdeal.nD Cert.PowerRefIdeal.τ).loc Cert.PowerRefIdeal.main_arg4) = m ((c.tc : Thread Cert.PowerIdeal.nD Cert.PowerIdeal.τ).loc Cert.PowerIdeal.main_arg4)) →
    ∃ (v0 : (c : Dev Cert.PowerIdeal.nD) → Buf (Elt Ideal) ((c.tc : Thread Cert.PowerIdeal.nD Cert.PowerIdeal.τ).loc Cert.PowerIdeal.main_v24)),
      θ_run (Cert.PowerIdeal.defs (F := Ideal)) (onTc (τ := Cert.PowerIdeal.τ) (Cert.PowerIdeal.main (F := Ideal))) ⟨m, fun _ => 0, g⟩ (fun r => ∀ c : Dev Cert.PowerIdeal.nD,
          r.2.mem ((c.tc : Thread Cert.PowerIdeal.nD Cert.PowerIdeal.τ).loc Cert.PowerIdeal.main_v24) = v0 c
          ∧ r.2.mem ((c.tc : Thread Cert.PowerIdeal.nD Cert.PowerIdeal.τ).loc Cert.PowerIdeal.main_arg0) = m ((c.tc : Thread Cert.PowerIdeal.nD Cert.PowerIdeal.τ).loc Cert.PowerIdeal.main_arg0)
          ∧ r.2.mem ((c.tc : Thread Cert.PowerIdeal.nD Cert.PowerIdeal.τ).loc Cert.PowerIdeal.main_arg1) = m ((c.tc : Thread Cert.PowerIdeal.nD Cert.PowerIdeal.τ).loc Cert.PowerIdeal.main_arg1)
          ∧ r.2.mem ((c.tc : Thread Cert.PowerIdeal.nD Cert.PowerIdeal.τ).loc Cert.PowerIdeal.main_arg2) = m ((c.tc : Thread Cert.PowerIdeal.nD Cert.PowerIdeal.τ).loc Cert.PowerIdeal.main_arg2)
          ∧ r.2.mem ((c.tc : Thread Cert.PowerIdeal.nD Cert.PowerIdeal.τ).loc Cert.PowerIdeal.main_arg3) = m ((c.tc : Thread Cert.PowerIdeal.nD Cert.PowerIdeal.τ).loc Cert.PowerIdeal.main_arg3)
          ∧ r.2.mem ((c.tc : Thread Cert.PowerIdeal.nD Cert.PowerIdeal.τ).loc Cert.PowerIdeal.main_arg4) = m ((c.tc : Thread Cert.PowerIdeal.nD Cert.PowerIdeal.τ).loc Cert.PowerIdeal.main_arg4))
      ∧ θ_run (Cert.PowerRefIdeal.defs (F := Ideal)) (onTc (τ := Cert.PowerRefIdeal.τ) (Cert.PowerRefIdeal.main (F := Ideal))) ⟨m', fun _ => 0, g'⟩ (fun r => ∀ c : Dev Cert.PowerRefIdeal.nD,
          r.2.mem ((c.tc : Thread Cert.PowerRefIdeal.nD Cert.PowerRefIdeal.τ).loc Cert.PowerRefIdeal.main_v4) = v0 c
          ∧ r.2.mem ((c.tc : Thread Cert.PowerRefIdeal.nD Cert.PowerRefIdeal.τ).loc Cert.PowerRefIdeal.main_arg0) = m' ((c.tc : Thread Cert.PowerRefIdeal.nD Cert.PowerRefIdeal.τ).loc Cert.PowerRefIdeal.main_arg0)
          ∧ r.2.mem ((c.tc : Thread Cert.PowerRefIdeal.nD Cert.PowerRefIdeal.τ).loc Cert.PowerRefIdeal.main_arg1) = m' ((c.tc : Thread Cert.PowerRefIdeal.nD Cert.PowerRefIdeal.τ).loc Cert.PowerRefIdeal.main_arg1)
          ∧ r.2.mem ((c.tc : Thread Cert.PowerRefIdeal.nD Cert.PowerRefIdeal.τ).loc Cert.PowerRefIdeal.main_arg2) = m' ((c.tc : Thread Cert.PowerRefIdeal.nD Cert.PowerRefIdeal.τ).loc Cert.PowerRefIdeal.main_arg2)
          ∧ r.2.mem ((c.tc : Thread Cert.PowerRefIdeal.nD Cert.PowerRefIdeal.τ).loc Cert.PowerRefIdeal.main_arg3) = m' ((c.tc : Thread Cert.PowerRefIdeal.nD Cert.PowerRefIdeal.τ).loc Cert.PowerRefIdeal.main_arg3)
          ∧ r.2.mem ((c.tc : Thread Cert.PowerRefIdeal.nD Cert.PowerRefIdeal.τ).loc Cert.PowerRefIdeal.main_arg4) = m' ((c.tc : Thread Cert.PowerRefIdeal.nD Cert.PowerRefIdeal.τ).loc Cert.PowerRefIdeal.main_arg4))

def preserves_Cqr_CqrIdeal : Prop :=
  True

def algebraic_CqrIdeal_CqrRefIdeal_pre_full_rank [hCqrIdeal : Cert.CqrIdeal.Facts] [hCqrRefIdeal : Cert.CqrRefIdeal.Facts] [hPre_full_rank : Cert.Pre_full_rank.Facts] : Prop :=
  ∀ (m : (ℓ : Loc Cert.CqrIdeal.nD Cert.CqrIdeal.τ Cert.CqrIdeal.sig) → Buf (Elt Ideal) ℓ) (g : Dev Cert.CqrIdeal.nD → PrngReg)
    (m' : (ℓ : Loc Cert.CqrRefIdeal.nD Cert.CqrRefIdeal.τ Cert.CqrRefIdeal.sig) → Buf (Elt Ideal) ℓ) (g' : Dev Cert.CqrRefIdeal.nD → PrngReg), Pre_CqrIdeal_full_rank m →
    (∀ c : Dev Cert.CqrIdeal.nD,
      m' ((c.tc : Thread Cert.CqrRefIdeal.nD Cert.CqrRefIdeal.τ).loc Cert.CqrRefIdeal.main_arg0) = m ((c.tc : Thread Cert.CqrIdeal.nD Cert.CqrIdeal.τ).loc Cert.CqrIdeal.main_arg0)) →
    ∃ (v0 : (c : Dev Cert.CqrIdeal.nD) → Buf (Elt Ideal) ((c.tc : Thread Cert.CqrIdeal.nD Cert.CqrIdeal.τ).loc Cert.CqrIdeal.main_v0_0)) (v1 : (c : Dev Cert.CqrIdeal.nD) → Buf (Elt Ideal) ((c.tc : Thread Cert.CqrIdeal.nD Cert.CqrIdeal.τ).loc Cert.CqrIdeal.main_v0_1)),
      θ_run (Cert.CqrIdeal.defs (F := Ideal)) (onTc (τ := Cert.CqrIdeal.τ) (Cert.CqrIdeal.main (F := Ideal))) ⟨m, fun _ => 0, g⟩ (fun r => ∀ c : Dev Cert.CqrIdeal.nD,
          r.2.mem ((c.tc : Thread Cert.CqrIdeal.nD Cert.CqrIdeal.τ).loc Cert.CqrIdeal.main_v0_0) = v0 c
          ∧ r.2.mem ((c.tc : Thread Cert.CqrIdeal.nD Cert.CqrIdeal.τ).loc Cert.CqrIdeal.main_v0_1) = v1 c
          ∧ r.2.mem ((c.tc : Thread Cert.CqrIdeal.nD Cert.CqrIdeal.τ).loc Cert.CqrIdeal.main_arg0) = m ((c.tc : Thread Cert.CqrIdeal.nD Cert.CqrIdeal.τ).loc Cert.CqrIdeal.main_arg0))
      ∧ θ_run (Cert.CqrRefIdeal.defs (F := Ideal)) (onTc (τ := Cert.CqrRefIdeal.τ) (Cert.CqrRefIdeal.main (F := Ideal))) ⟨m', fun _ => 0, g'⟩ (fun r => ∀ c : Dev Cert.CqrRefIdeal.nD,
          r.2.mem ((c.tc : Thread Cert.CqrRefIdeal.nD Cert.CqrRefIdeal.τ).loc Cert.CqrRefIdeal.main_v0_0) = v0 c
          ∧ r.2.mem ((c.tc : Thread Cert.CqrRefIdeal.nD Cert.CqrRefIdeal.τ).loc Cert.CqrRefIdeal.main_v0_1) = v1 c
          ∧ r.2.mem ((c.tc : Thread Cert.CqrRefIdeal.nD Cert.CqrRefIdeal.τ).loc Cert.CqrRefIdeal.main_arg0) = m' ((c.tc : Thread Cert.CqrRefIdeal.nD Cert.CqrRefIdeal.τ).loc Cert.CqrRefIdeal.main_arg0))

def Claim : Prop :=
  ∃ (hLast : Cert.Last.Facts) (hLastIdeal : Cert.LastIdeal.Facts) (hLastRefIdeal : Cert.LastRefIdeal.Facts) (hFirst : Cert.First.Facts) (hFirstIdeal : Cert.FirstIdeal.Facts) (hFirstRefIdeal : Cert.FirstRefIdeal.Facts) (hPower : Cert.Power.Facts) (hPowerIdeal : Cert.PowerIdeal.Facts) (hPowerRefIdeal : Cert.PowerRefIdeal.Facts) (hCqr : Cert.Cqr.Facts) (hCqrIdeal : Cert.CqrIdeal.Facts) (hCqrRefIdeal : Cert.CqrRefIdeal.Facts) (hPre_finite_qt : Cert.Pre_finite_qt.Facts) (hPre_finite_first : Cert.Pre_finite_first.Facts) (hPre_full_rank : Cert.Pre_full_rank.Facts),
    quiescent_Last (hLast := hLast)
    ∧ quiescent_LastIdeal (hLastIdeal := hLastIdeal)
    ∧ quiescent_LastIdeal_pre_finite_qt (hLastIdeal := hLastIdeal) (hPre_finite_qt := hPre_finite_qt)
    ∧ quiescent_LastRefIdeal (hLastRefIdeal := hLastRefIdeal)
    ∧ quiescent_LastRefIdeal_pre_finite_qt (hLastRefIdeal := hLastRefIdeal) (hPre_finite_qt := hPre_finite_qt)
    ∧ quiescent_First (hFirst := hFirst)
    ∧ quiescent_FirstIdeal (hFirstIdeal := hFirstIdeal)
    ∧ quiescent_FirstIdeal_pre_finite_first (hFirstIdeal := hFirstIdeal) (hPre_finite_first := hPre_finite_first)
    ∧ quiescent_FirstRefIdeal (hFirstRefIdeal := hFirstRefIdeal)
    ∧ quiescent_FirstRefIdeal_pre_finite_first (hFirstRefIdeal := hFirstRefIdeal) (hPre_finite_first := hPre_finite_first)
    ∧ quiescent_Power (hPower := hPower)
    ∧ quiescent_PowerIdeal (hPowerIdeal := hPowerIdeal)
    ∧ quiescent_PowerIdeal_pre_finite_qt (hPowerIdeal := hPowerIdeal) (hPre_finite_qt := hPre_finite_qt)
    ∧ quiescent_PowerRefIdeal (hPowerRefIdeal := hPowerRefIdeal)
    ∧ quiescent_PowerRefIdeal_pre_finite_qt (hPowerRefIdeal := hPowerRefIdeal) (hPre_finite_qt := hPre_finite_qt)
    ∧ quiescent_Cqr (hCqr := hCqr)
    ∧ quiescent_CqrIdeal (hCqrIdeal := hCqrIdeal)
    ∧ quiescent_CqrIdeal_pre_full_rank (hCqrIdeal := hCqrIdeal) (hPre_full_rank := hPre_full_rank)
    ∧ quiescent_CqrRefIdeal (hCqrRefIdeal := hCqrRefIdeal)
    ∧ quiescent_CqrRefIdeal_pre_full_rank (hCqrRefIdeal := hCqrRefIdeal) (hPre_full_rank := hPre_full_rank)
    ∧ preserves_Last_LastIdeal
    ∧ algebraic_LastIdeal_LastRefIdeal_pre_finite_qt (hLastIdeal := hLastIdeal) (hLastRefIdeal := hLastRefIdeal) (hPre_finite_qt := hPre_finite_qt)
    ∧ preserves_First_FirstIdeal
    ∧ algebraic_FirstIdeal_FirstRefIdeal_pre_finite_first (hFirstIdeal := hFirstIdeal) (hFirstRefIdeal := hFirstRefIdeal) (hPre_finite_first := hPre_finite_first)
    ∧ preserves_Power_PowerIdeal
    ∧ algebraic_PowerIdeal_PowerRefIdeal_pre_finite_qt (hPowerIdeal := hPowerIdeal) (hPowerRefIdeal := hPowerRefIdeal) (hPre_finite_qt := hPre_finite_qt)
    ∧ preserves_Cqr_CqrIdeal
    ∧ algebraic_CqrIdeal_CqrRefIdeal_pre_full_rank (hCqrIdeal := hCqrIdeal) (hCqrRefIdeal := hCqrRefIdeal) (hPre_full_rank := hPre_full_rank)
-- ==== Pre_finite_first.lean ====
abbrev S8192x28672 : Shape := ⟨2, ![8192, 28672]⟩
abbrev S8192x224 : Shape := ⟨2, ![8192, 224]⟩
abbrev S28672x240 : Shape := ⟨2, ![28672, 240]⟩
abbrev S_ : Shape := ⟨0, ![]⟩

class Facts : Prop where
  natLt_8_32 : 8 < 32
  bcast_S_S8192x28672 : S_.BroadcastsInDim S8192x28672 (![] : Fin 0 → Fin S8192x28672.rank)
  natLt_16_32 : 16 < 32
  bcast_S_S8192x224 : S_.BroadcastsInDim S8192x224 (![] : Fin 0 → Fin S8192x224.rank)
  bitsLt_bf16_f32 : FTy.bits .bf16 < FTy.bits .f32
  bcast_S_S28672x240 : S_.BroadcastsInDim S28672x240 (![] : Fin 0 → Fin S28672x240.rank)

variable [Facts]

def fn_part1 {F : FTy → Type} [FloatOps F] (main_arg4 : FVec F S28672x240 .bf16) (main_v4 : IVec S8192x28672 1) (main_v9 : IVec S8192x224 1) (main_v14 : IVec S8192x28672 1) (main_v15 : IVec S8192x224 32) (main_v16 : IVec S8192x224 32) : IVec S8192x28672 1 × IVec S8192x224 1 × IVec S8192x28672 1 × IVec S8192x224 1 × IVec S28672x240 1 :=
  let main_v17 : IVec S8192x224 32 := andi main_v15 main_v16
  let main_c_6 : IVec S_ 32 := constantI S_ 32 32640#32
  let main_v18 : IVec S8192x224 32 := broadcastInDim S8192x224 ![] bcast_S_S8192x224 main_c_6
  let main_v19 : IVec S8192x224 1 := cmpi .ne main_v17 main_v18
  let main_v20 : FVec F S28672x240 .f32 := (extf .f32 · bitsLt_bf16_f32) main_arg4
  let main_v21 : FVec F S28672x240 .f32 := Host.absf main_v20
  let main_cst : FVec F S_ .f32 := constant S_ .f32 0x7F800000#32
  let main_v22 : FVec F S28672x240 .f32 := broadcastInDim S28672x240 ![] bcast_S_S28672x240 main_cst
  let main_v23 : IVec S28672x240 1 := cmpf .olt main_v21 main_v22
  (main_v4, main_v9, main_v14, main_v19, main_v23)

def fn {F : FTy → Type} [FloatOps F] (main_arg0 : IVec S8192x28672 8) (main_arg1 : IVec S8192x224 16) (main_arg2 : IVec S8192x28672 8) (main_arg3 : IVec S8192x224 16) (main_arg4 : FVec F S28672x240 .bf16) : IVec S8192x28672 1 × IVec S8192x224 1 × IVec S8192x28672 1 × IVec S8192x224 1 × IVec S28672x240 1 :=
  let main_v0 : IVec S8192x28672 32 := (extui 32 · natLt_8_32) main_arg0
  let main_c : IVec S_ 32 := constantI S_ 32 127#32
  let main_v1 : IVec S8192x28672 32 := broadcastInDim S8192x28672 ![] bcast_S_S8192x28672 main_c
  let main_v2 : IVec S8192x28672 32 := andi main_v0 main_v1
  let main_c_0 : IVec S_ 32 := constantI S_ 32 127#32
  let main_v3 : IVec S8192x28672 32 := broadcastInDim S8192x28672 ![] bcast_S_S8192x28672 main_c_0
  let main_v4 : IVec S8192x28672 1 := cmpi .ne main_v2 main_v3
  let main_v5 : IVec S8192x224 32 := (extui 32 · natLt_16_32) main_arg1
  let main_c_1 : IVec S_ 32 := constantI S_ 32 32640#32
  let main_v6 : IVec S8192x224 32 := broadcastInDim S8192x224 ![] bcast_S_S8192x224 main_c_1
  let main_v7 : IVec S8192x224 32 := andi main_v5 main_v6
  let main_c_2 : IVec S_ 32 := constantI S_ 32 32640#32
  let main_v8 : IVec S8192x224 32 := broadcastInDim S8192x224 ![] bcast_S_S8192x224 main_c_2
  let main_v9 : IVec S8192x224 1 := cmpi .ne main_v7 main_v8
  let main_v10 : IVec S8192x28672 32 := (extui 32 · natLt_8_32) main_arg2
  let main_c_3 : IVec S_ 32 := constantI S_ 32 127#32
  let main_v11 : IVec S8192x28672 32 := broadcastInDim S8192x28672 ![] bcast_S_S8192x28672 main_c_3
  let main_v12 : IVec S8192x28672 32 := andi main_v10 main_v11
  let main_c_4 : IVec S_ 32 := constantI S_ 32 127#32
  let main_v13 : IVec S8192x28672 32 := broadcastInDim S8192x28672 ![] bcast_S_S8192x28672 main_c_4
  let main_v14 : IVec S8192x28672 1 := cmpi .ne main_v12 main_v13
  let main_v15 : IVec S8192x224 32 := (extui 32 · natLt_16_32) main_arg3
  let main_c_5 : IVec S_ 32 := constantI S_ 32 32640#32
  let main_v16 : IVec S8192x224 32 := broadcastInDim S8192x224 ![] bcast_S_S8192x224 main_c_5
  fn_part1 (F := F) main_arg4 main_v4 main_v9 main_v14 main_v15 main_v16
-- ==== Pre_finite_qt.lean ====
abbrev S8192x28672 : Shape := ⟨2, ![8192, 28672]⟩
abbrev S8192x224 : Shape := ⟨2, ![8192, 224]⟩
abbrev S240x8192 : Shape := ⟨2, ![240, 8192]⟩
abbrev S_ : Shape := ⟨0, ![]⟩

class Facts : Prop where
  natLt_8_32 : 8 < 32
  bcast_S_S8192x28672 : S_.BroadcastsInDim S8192x28672 (![] : Fin 0 → Fin S8192x28672.rank)
  natLt_16_32 : 16 < 32
  bcast_S_S8192x224 : S_.BroadcastsInDim S8192x224 (![] : Fin 0 → Fin S8192x224.rank)
  bitsLt_bf16_f32 : FTy.bits .bf16 < FTy.bits .f32
  bcast_S_S240x8192 : S_.BroadcastsInDim S240x8192 (![] : Fin 0 → Fin S240x8192.rank)

variable [Facts]

def fn_part1 {F : FTy → Type} [FloatOps F] (main_arg4 : FVec F S240x8192 .bf16) (main_v4 : IVec S8192x28672 1) (main_v9 : IVec S8192x224 1) (main_v14 : IVec S8192x28672 1) (main_v15 : IVec S8192x224 32) (main_v16 : IVec S8192x224 32) : IVec S8192x28672 1 × IVec S8192x224 1 × IVec S8192x28672 1 × IVec S8192x224 1 × IVec S240x8192 1 :=
  let main_v17 : IVec S8192x224 32 := andi main_v15 main_v16
  let main_c_6 : IVec S_ 32 := constantI S_ 32 32640#32
  let main_v18 : IVec S8192x224 32 := broadcastInDim S8192x224 ![] bcast_S_S8192x224 main_c_6
  let main_v19 : IVec S8192x224 1 := cmpi .ne main_v17 main_v18
  let main_v20 : FVec F S240x8192 .f32 := (extf .f32 · bitsLt_bf16_f32) main_arg4
  let main_v21 : FVec F S240x8192 .f32 := Host.absf main_v20
  let main_cst : FVec F S_ .f32 := constant S_ .f32 0x7F800000#32
  let main_v22 : FVec F S240x8192 .f32 := broadcastInDim S240x8192 ![] bcast_S_S240x8192 main_cst
  let main_v23 : IVec S240x8192 1 := cmpf .olt main_v21 main_v22
  (main_v4, main_v9, main_v14, main_v19, main_v23)

def fn {F : FTy → Type} [FloatOps F] (main_arg0 : IVec S8192x28672 8) (main_arg1 : IVec S8192x224 16) (main_arg2 : IVec S8192x28672 8) (main_arg3 : IVec S8192x224 16) (main_arg4 : FVec F S240x8192 .bf16) : IVec S8192x28672 1 × IVec S8192x224 1 × IVec S8192x28672 1 × IVec S8192x224 1 × IVec S240x8192 1 :=
  let main_v0 : IVec S8192x28672 32 := (extui 32 · natLt_8_32) main_arg0
  let main_c : IVec S_ 32 := constantI S_ 32 127#32
  let main_v1 : IVec S8192x28672 32 := broadcastInDim S8192x28672 ![] bcast_S_S8192x28672 main_c
  let main_v2 : IVec S8192x28672 32 := andi main_v0 main_v1
  let main_c_0 : IVec S_ 32 := constantI S_ 32 127#32
  let main_v3 : IVec S8192x28672 32 := broadcastInDim S8192x28672 ![] bcast_S_S8192x28672 main_c_0
  let main_v4 : IVec S8192x28672 1 := cmpi .ne main_v2 main_v3
  let main_v5 : IVec S8192x224 32 := (extui 32 · natLt_16_32) main_arg1
  let main_c_1 : IVec S_ 32 := constantI S_ 32 32640#32
  let main_v6 : IVec S8192x224 32 := broadcastInDim S8192x224 ![] bcast_S_S8192x224 main_c_1
  let main_v7 : IVec S8192x224 32 := andi main_v5 main_v6
  let main_c_2 : IVec S_ 32 := constantI S_ 32 32640#32
  let main_v8 : IVec S8192x224 32 := broadcastInDim S8192x224 ![] bcast_S_S8192x224 main_c_2
  let main_v9 : IVec S8192x224 1 := cmpi .ne main_v7 main_v8
  let main_v10 : IVec S8192x28672 32 := (extui 32 · natLt_8_32) main_arg2
  let main_c_3 : IVec S_ 32 := constantI S_ 32 127#32
  let main_v11 : IVec S8192x28672 32 := broadcastInDim S8192x28672 ![] bcast_S_S8192x28672 main_c_3
  let main_v12 : IVec S8192x28672 32 := andi main_v10 main_v11
  let main_c_4 : IVec S_ 32 := constantI S_ 32 127#32
  let main_v13 : IVec S8192x28672 32 := broadcastInDim S8192x28672 ![] bcast_S_S8192x28672 main_c_4
  let main_v14 : IVec S8192x28672 1 := cmpi .ne main_v12 main_v13
  let main_v15 : IVec S8192x224 32 := (extui 32 · natLt_16_32) main_arg3
  let main_c_5 : IVec S_ 32 := constantI S_ 32 32640#32
  let main_v16 : IVec S8192x224 32 := broadcastInDim S8192x224 ![] bcast_S_S8192x224 main_c_5
  fn_part1 (F := F) main_arg4 main_v4 main_v9 main_v14 main_v15 main_v16
-- ==== Pre_full_rank.lean ====
abbrev S8192x240 : Shape := ⟨2, ![8192, 240]⟩
abbrev S240x240 : Shape := ⟨2, ![240, 240]⟩
abbrev S_ : Shape := ⟨0, ![]⟩
abbrev S240 : Shape := ⟨1, ![240]⟩
abbrev S1x240 : Shape := ⟨2, ![1, 240]⟩
abbrev S240x1 : Shape := ⟨2, ![240, 1]⟩

class Facts : Prop where
  bcast_S_S8192x240 : S_.BroadcastsInDim S8192x240 (![] : Fin 0 → Fin S8192x240.rank)
  bcast_S_S240 : S_.BroadcastsInDim S240 (![] : Fin 0 → Fin S240.rank)
  bcast_S240_S1x240_1 : S240.BroadcastsInDim S1x240 (![1] : Fin 1 → Fin S1x240.rank)
  bcast_S1x240_S240x240_0_1 : S1x240.BroadcastsInDim S240x240 (![0, 1] : Fin 2 → Fin S240x240.rank)
  bcast_S_S240x240 : S_.BroadcastsInDim S240x240 (![] : Fin 0 → Fin S240x240.rank)
  reducesTo_S240x240_S240_d1 : S240x240.ReducesTo [1] S240
  h_S_ : 0 < S_.numel
  reducesTo_S240_S_d0 : S240.ReducesTo [0] S_
  bcast_S240_S240x1_0 : S240.BroadcastsInDim S240x1 (![0] : Fin 1 → Fin S240x1.rank)
  bcast_S240x1_S240x240_0_1 : S240x1.BroadcastsInDim S240x240 (![0, 1] : Fin 2 → Fin S240x240.rank)
  dot_S8192x240_S8192x240_S240x240_0_0_1_1_n_n_wf : DotDims.WF S8192x240 S8192x240 S240x240 [0] [0] [1] [1] [] []

variable [Facts]

def dot_S8192x240_S8192x240_S240x240_0_0_1_1_n_n : DotDims S8192x240 S8192x240 S240x240 where
  lhsContracting := [0]
  rhsContracting := [0]
  lhsNonContracting := [1]
  rhsNonContracting := [1]
  lhsBatch := []
  rhsBatch := []
  wf := dot_S8192x240_S8192x240_S240x240_0_0_1_1_n_n_wf
def fn_where {F : FTy → Type} [FloatOps F] (arg0 : IVec S1x240 1) (arg1 : FVec F S240x240 .f32) (arg2 : FVec F S_ .f32) : FVec F S240x240 .f32 :=
  let v0 : FVec F S_ .f32 := id arg2
  let v1 : IVec S240x240 1 := broadcastInDim S240x240 ![0, 1] bcast_S1x240_S240x240_0_1 arg0
  let v2 : FVec F S240x240 .f32 := broadcastInDim S240x240 ![] bcast_S_S240x240 v0
  let v3 : FVec F S240x240 .f32 := select v1 arg1 v2
  v3

def fn_where_6 {F : FTy → Type} [FloatOps F] (arg0 : IVec S240 1) (arg1 : FVec F S240 .f32) (arg2 : FVec F S_ .f32) : FVec F S240 .f32 :=
  let v0 : FVec F S_ .f32 := id arg2
  let v1 : FVec F S240 .f32 := broadcastInDim S240 ![] bcast_S_S240 v0
  let v2 : FVec F S240 .f32 := select arg0 arg1 v1
  v2

def fn_pivot_part1 {F : FTy → Type} [FloatOps F] (arg0 : FVec F S240x240 .f32) (arg1 : IVec S_ 32) (arg2 : IVec S_ 1) (v7 : FVec F S_ .f32) (v18 : FVec F S240x240 .f32) : FVec F S240x240 .f32 × IVec S_ 32 × IVec S_ 1 :=
  let v19 : FVec F S240x240 .f32 := subf arg0 v18
  let c : IVec S_ 32 := constantI S_ 32 1#32
  let v20 : IVec S_ 32 := addi arg1 c
  let cst_4 : FVec F S_ .f32 := constant S_ .f32 0x00000000#32
  let v21 : IVec S_ 1 := cmpf .ogt v7 cst_4
  let v22 : IVec S_ 1 := andi arg2 v21
  (v19, v20, v22)

def fn_pivot {F : FTy → Type} [FloatOps F] (arg0 : FVec F S240x240 .f32) (arg1 : IVec S_ 32) (arg2 : IVec S_ 1) : FVec F S240x240 .f32 × IVec S_ 32 × IVec S_ 1 :=
  let v0 : IVec S240 32 := iotaInDim S240 32 0
  let v1 : IVec S240 32 := broadcastInDim S240 ![] bcast_S_S240 arg1
  let v2 : IVec S240 1 := cmpi .eq v0 v1
  let v3 : IVec S1x240 1 := broadcastInDim S1x240 ![1] bcast_S240_S1x240_1 v2
  let cst : FVec F S_ .f32 := constant S_ .f32 0x00000000#32
  let v4 : FVec F S240x240 .f32 := fn_where (F := F) v3 arg0 cst
  let cst_0 : FVec F S_ .f32 := constant S_ .f32 0x00000000#32
  let v5 : FVec F S240 .f32 := (fun x v => Host.reduceAdd x v reducesTo_S240x240_S240_d1 h_S_) v4 cst_0
  let cst_1 : FVec F S_ .f32 := constant S_ .f32 0x00000000#32
  let v6 : FVec F S240 .f32 := fn_where_6 (F := F) v2 v5 cst_1
  let cst_2 : FVec F S_ .f32 := constant S_ .f32 0x00000000#32
  let v7 : FVec F S_ .f32 := (fun x v => Host.reduceAdd x v reducesTo_S240_S_d0 h_S_) v6 cst_2
  let v8 : IVec S240 32 := broadcastInDim S240 ![] bcast_S_S240 arg1
  let v9 : IVec S240 1 := cmpi .sge v0 v8
  let v10 : FVec F S_ .f32 := Host.sqrt v7
  let v11 : FVec F S240 .f32 := broadcastInDim S240 ![] bcast_S_S240 v10
  let v12 : FVec F S240 .f32 := Host.divf v5 v11
  let cst_3 : FVec F S_ .f32 := constant S_ .f32 0x00000000#32
  let v13 : FVec F S240 .f32 := fn_where_6 (F := F) v9 v12 cst_3
  let v14 : FVec F S240x1 .f32 := broadcastInDim S240x1 ![0] bcast_S240_S240x1_0 v13
  let v15 : FVec F S1x240 .f32 := broadcastInDim S1x240 ![1] bcast_S240_S1x240_1 v13
  let v16 : FVec F S240x240 .f32 := broadcastInDim S240x240 ![0, 1] bcast_S240x1_S240x240_0_1 v14
  let v17 : FVec F S240x240 .f32 := broadcastInDim S240x240 ![0, 1] bcast_S1x240_S240x240_0_1 v15
  let v18 : FVec F S240x240 .f32 := mulf v16 v17
  fn_pivot_part1 (F := F) arg0 arg1 arg2 v7 v18

def fn_lambda_5 {F : FTy → Type} [FloatOps F] (arg0 : FVec F S240x240 .f32) (arg1 : IVec S_ 32) (arg2 : IVec S_ 1) : FVec F S240x240 .f32 × IVec S_ 32 × IVec S_ 1 :=
  let v0_0 : FVec F S240x240 .f32 := (fn_pivot (F := F) arg0 arg1 arg2).1
  let v0_1 : IVec S_ 32 := (fn_pivot (F := F) arg0 arg1 arg2).2.1
  let v0_2 : IVec S_ 1 := (fn_pivot (F := F) arg0 arg1 arg2).2.2
  let v1_0 : FVec F S240x240 .f32 := (fn_pivot (F := F) v0_0 v0_1 v0_2).1
  let v1_1 : IVec S_ 32 := (fn_pivot (F := F) v0_0 v0_1 v0_2).2.1
  let v1_2 : IVec S_ 1 := (fn_pivot (F := F) v0_0 v0_1 v0_2).2.2
  (v1_0, v1_1, v1_2)

def fn_lambda_4 {F : FTy → Type} [FloatOps F] (arg0 : FVec F S240x240 .f32) (arg1 : IVec S_ 32) (arg2 : IVec S_ 1) : FVec F S240x240 .f32 × IVec S_ 32 × IVec S_ 1 :=
  let v0_0 : FVec F S240x240 .f32 := (fn_lambda_5 (F := F) arg0 arg1 arg2).1
  let v0_1 : IVec S_ 32 := (fn_lambda_5 (F := F) arg0 arg1 arg2).2.1
  let v0_2 : IVec S_ 1 := (fn_lambda_5 (F := F) arg0 arg1 arg2).2.2
  let v1_0 : FVec F S240x240 .f32 := (fn_lambda_5 (F := F) v0_0 v0_1 v0_2).1
  let v1_1 : IVec S_ 32 := (fn_lambda_5 (F := F) v0_0 v0_1 v0_2).2.1
  let v1_2 : IVec S_ 1 := (fn_lambda_5 (F := F) v0_0 v0_1 v0_2).2.2
  (v1_0, v1_1, v1_2)

def fn_lambda_3 {F : FTy → Type} [FloatOps F] (arg0 : FVec F S240x240 .f32) (arg1 : IVec S_ 32) (arg2 : IVec S_ 1) : FVec F S240x240 .f32 × IVec S_ 32 × IVec S_ 1 :=
  let v0_0 : FVec F S240x240 .f32 := (fn_lambda_4 (F := F) arg0 arg1 arg2).1
  let v0_1 : IVec S_ 32 := (fn_lambda_4 (F := F) arg0 arg1 arg2).2.1
  let v0_2 : IVec S_ 1 := (fn_lambda_4 (F := F) arg0 arg1 arg2).2.2
  let v1_0 : FVec F S240x240 .f32 := (fn_lambda_4 (F := F) v0_0 v0_1 v0_2).1
  let v1_1 : IVec S_ 32 := (fn_lambda_4 (F := F) v0_0 v0_1 v0_2).2.1
  let v1_2 : IVec S_ 1 := (fn_lambda_4 (F := F) v0_0 v0_1 v0_2).2.2
  (v1_0, v1_1, v1_2)

def fn_lambda_2 {F : FTy → Type} [FloatOps F] (arg0 : FVec F S240x240 .f32) (arg1 : IVec S_ 32) (arg2 : IVec S_ 1) : FVec F S240x240 .f32 × IVec S_ 32 × IVec S_ 1 :=
  let v0_0 : FVec F S240x240 .f32 := (fn_lambda_3 (F := F) arg0 arg1 arg2).1
  let v0_1 : IVec S_ 32 := (fn_lambda_3 (F := F) arg0 arg1 arg2).2.1
  let v0_2 : IVec S_ 1 := (fn_lambda_3 (F := F) arg0 arg1 arg2).2.2
  let v1_0 : FVec F S240x240 .f32 := (fn_lambda_3 (F := F) v0_0 v0_1 v0_2).1
  let v1_1 : IVec S_ 32 := (fn_lambda_3 (F := F) v0_0 v0_1 v0_2).2.1
  let v1_2 : IVec S_ 1 := (fn_lambda_3 (F := F) v0_0 v0_1 v0_2).2.2
  (v1_0, v1_1, v1_2)

def fn_lambda_1 {F : FTy → Type} [FloatOps F] (arg0 : FVec F S240x240 .f32) (arg1 : IVec S_ 32) (arg2 : IVec S_ 1) : FVec F S240x240 .f32 × IVec S_ 32 × IVec S_ 1 :=
  let v0_0 : FVec F S240x240 .f32 := (fn_lambda_2 (F := F) arg0 arg1 arg2).1
  let v0_1 : IVec S_ 32 := (fn_lambda_2 (F := F) arg0 arg1 arg2).2.1
  let v0_2 : IVec S_ 1 := (fn_lambda_2 (F := F) arg0 arg1 arg2).2.2
  let v1_0 : FVec F S240x240 .f32 := (fn_lambda_2 (F := F) v0_0 v0_1 v0_2).1
  let v1_1 : IVec S_ 32 := (fn_lambda_2 (F := F) v0_0 v0_1 v0_2).2.1
  let v1_2 : IVec S_ 1 := (fn_lambda_2 (F := F) v0_0 v0_1 v0_2).2.2
  (v1_0, v1_1, v1_2)

def fn_lambda_0 {F : FTy → Type} [FloatOps F] (arg0 : FVec F S240x240 .f32) (arg1 : IVec S_ 32) (arg2 : IVec S_ 1) : FVec F S240x240 .f32 × IVec S_ 32 × IVec S_ 1 :=
  let v0_0 : FVec F S240x240 .f32 := (fn_lambda_1 (F := F) arg0 arg1 arg2).1
  let v0_1 : IVec S_ 32 := (fn_lambda_1 (F := F) arg0 arg1 arg2).2.1
  let v0_2 : IVec S_ 1 := (fn_lambda_1 (F := F) arg0 arg1 arg2).2.2
  let v1_0 : FVec F S240x240 .f32 := (fn_lambda_1 (F := F) v0_0 v0_1 v0_2).1
  let v1_1 : IVec S_ 32 := (fn_lambda_1 (F := F) v0_0 v0_1 v0_2).2.1
  let v1_2 : IVec S_ 1 := (fn_lambda_1 (F := F) v0_0 v0_1 v0_2).2.2
  (v1_0, v1_1, v1_2)

def fn_lambda {F : FTy → Type} [FloatOps F] (arg0 : FVec F S240x240 .f32) (arg1 : IVec S_ 32) (arg2 : IVec S_ 1) : FVec F S240x240 .f32 × IVec S_ 32 × IVec S_ 1 :=
  let v0_0 : FVec F S240x240 .f32 := (fn_lambda_0 (F := F) arg0 arg1 arg2).1
  let v0_1 : IVec S_ 32 := (fn_lambda_0 (F := F) arg0 arg1 arg2).2.1
  let v0_2 : IVec S_ 1 := (fn_lambda_0 (F := F) arg0 arg1 arg2).2.2
  let v1_0 : FVec F S240x240 .f32 := (fn_lambda_0 (F := F) v0_0 v0_1 v0_2).1
  let v1_1 : IVec S_ 32 := (fn_lambda_0 (F := F) v0_0 v0_1 v0_2).2.1
  let v1_2 : IVec S_ 1 := (fn_lambda_0 (F := F) v0_0 v0_1 v0_2).2.2
  (v1_0, v1_1, v1_2)

def fn {F : FTy → Type} [FloatOps F] (main_arg0 : FVec F S8192x240 .f32) : IVec S8192x240 1 × IVec S_ 1 :=
  let main_v0 : FVec F S240x240 .f32 := (fun l r => Host.dotGeneral dot_S8192x240_S8192x240_S240x240_0_0_1_1_n_n (some .fp32) l r) main_arg0 main_arg0
  let main_v1 : FVec F S8192x240 .f32 := Host.absf main_arg0
  let main_cst : FVec F S_ .f32 := constant S_ .f32 0x7F800000#32
  let main_v2 : FVec F S8192x240 .f32 := broadcastInDim S8192x240 ![] bcast_S_S8192x240 main_cst
  let main_v3 : IVec S8192x240 1 := cmpf .olt main_v1 main_v2
  let main_c : IVec S_ 32 := constantI S_ 32 0#32
  let main_c_0 : IVec S_ 1 := constantI S_ 1 1#1
  let main_v4_0 : FVec F S240x240 .f32 := (fn_lambda (F := F) main_v0 main_c main_c_0).1
  let main_v4_1 : IVec S_ 32 := (fn_lambda (F := F) main_v0 main_c main_c_0).2.1
  let main_v4_2 : IVec S_ 1 := (fn_lambda (F := F) main_v0 main_c main_c_0).2.2
  let main_v5_0 : FVec F S240x240 .f32 := (fn_lambda_0 (F := F) main_v4_0 main_v4_1 main_v4_2).1
  let main_v5_1 : IVec S_ 32 := (fn_lambda_0 (F := F) main_v4_0 main_v4_1 main_v4_2).2.1
  let main_v5_2 : IVec S_ 1 := (fn_lambda_0 (F := F) main_v4_0 main_v4_1 main_v4_2).2.2
  let main_v6_0 : FVec F S240x240 .f32 := (fn_lambda_1 (F := F) main_v5_0 main_v5_1 main_v5_2).1
  let main_v6_1 : IVec S_ 32 := (fn_lambda_1 (F := F) main_v5_0 main_v5_1 main_v5_2).2.1
  let main_v6_2 : IVec S_ 1 := (fn_lambda_1 (F := F) main_v5_0 main_v5_1 main_v5_2).2.2
  let main_v7_0 : FVec F S240x240 .f32 := (fn_lambda_2 (F := F) main_v6_0 main_v6_1 main_v6_2).1
  let main_v7_1 : IVec S_ 32 := (fn_lambda_2 (F := F) main_v6_0 main_v6_1 main_v6_2).2.1
  let main_v7_2 : IVec S_ 1 := (fn_lambda_2 (F := F) main_v6_0 main_v6_1 main_v6_2).2.2
  (main_v3, main_v7_2)
-- ==== Last.lean ====
abbrev S8192x28672 : Shape := ⟨2, ![8192, 28672]⟩
abbrev S8192x224 : Shape := ⟨2, ![8192, 224]⟩
abbrev S240x8192 : Shape := ⟨2, ![240, 8192]⟩
abbrev S4096x2x224 : Shape := ⟨3, ![4096, 2, 224]⟩
abbrev S4096x1x224 : Shape := ⟨3, ![4096, 1, 224]⟩
abbrev S4096x224 : Shape := ⟨2, ![4096, 224]⟩
abbrev S_ : Shape := ⟨0, ![]⟩
abbrev S4096x256 : Shape := ⟨2, ![4096, 256]⟩
abbrev S240x28672 : Shape := ⟨2, ![240, 28672]⟩
abbrev S8192x256 : Shape := ⟨2, ![8192, 256]⟩
abbrev S240x256 : Shape := ⟨2, ![240, 256]⟩
abbrev S256x128 : Shape := ⟨2, ![256, 128]⟩
abbrev S256x128x1 : Shape := ⟨3, ![256, 128, 1]⟩
abbrev S512x128 : Shape := ⟨2, ![512, 128]⟩
abbrev S512x256 : Shape := ⟨2, ![512, 256]⟩
abbrev S240x512 : Shape := ⟨2, ![240, 512]⟩

abbrev nBuf : Space → Nat
  | .hbm => 36
  | .vmem => 9
  | .smem => 0
  | _ => 0

abbrev bufTy : (tb : Table) → Fin (tcTables nBuf tb) → BufTy
  | .hbm, ⟨0, _⟩ => ⟨S8192x28672, .i8⟩
  | .hbm, ⟨1, _⟩ => ⟨S8192x224, .i16⟩
  | .hbm, ⟨2, _⟩ => ⟨S8192x28672, .i8⟩
  | .hbm, ⟨3, _⟩ => ⟨S8192x224, .i16⟩
  | .hbm, ⟨4, _⟩ => ⟨S240x8192, .bf16⟩
  | .hbm, ⟨5, _⟩ => ⟨S8192x28672, .fp8e4m3⟩
  | .hbm, ⟨6, _⟩ => ⟨S8192x28672, .fp8e4m3⟩
  | .hbm, ⟨7, _⟩ => ⟨S4096x2x224, .i16⟩
  | .hbm, ⟨8, _⟩ => ⟨S4096x2x224, .i32⟩
  | .hbm, ⟨9, _⟩ => ⟨S4096x1x224, .i32⟩
  | .hbm, ⟨10, _⟩ => ⟨S4096x224, .i32⟩
  | .hbm, ⟨11, _⟩ => ⟨S4096x1x224, .i32⟩
  | .hbm, ⟨12, _⟩ => ⟨S4096x224, .i32⟩
  | .hbm, ⟨13, _⟩ => ⟨S_, .i32⟩
  | .hbm, ⟨14, _⟩ => ⟨S4096x224, .i32⟩
  | .hbm, ⟨15, _⟩ => ⟨S4096x224, .i32⟩
  | .hbm, ⟨16, _⟩ => ⟨S4096x224, .i32⟩
  | .hbm, ⟨17, _⟩ => ⟨S4096x224, .i32⟩
  | .hbm, ⟨18, _⟩ => ⟨S_, .i32⟩
  | .hbm, ⟨19, _⟩ => ⟨S_, .i32⟩
  | .hbm, ⟨20, _⟩ => ⟨S4096x256, .i32⟩
  | .hbm, ⟨21, _⟩ => ⟨S4096x2x224, .i16⟩
  | .hbm, ⟨22, _⟩ => ⟨S4096x2x224, .i32⟩
  | .hbm, ⟨23, _⟩ => ⟨S4096x1x224, .i32⟩
  | .hbm, ⟨24, _⟩ => ⟨S4096x224, .i32⟩
  | .hbm, ⟨25, _⟩ => ⟨S4096x1x224, .i32⟩
  | .hbm, ⟨26, _⟩ => ⟨S4096x224, .i32⟩
  | .hbm, ⟨27, _⟩ => ⟨S_, .i32⟩
  | .hbm, ⟨28, _⟩ => ⟨S4096x224, .i32⟩
  | .hbm, ⟨29, _⟩ => ⟨S4096x224, .i32⟩
  | .hbm, ⟨30, _⟩ => ⟨S4096x224, .i32⟩
  | .hbm, ⟨31, _⟩ => ⟨S4096x224, .i32⟩
  | .hbm, ⟨32, _⟩ => ⟨S_, .i32⟩
  | .hbm, ⟨33, _⟩ => ⟨S_, .i32⟩
  | .hbm, ⟨34, _⟩ => ⟨S4096x256, .i32⟩
  | .hbm, ⟨35, _⟩ => ⟨S240x28672, .f32⟩
  | .local _ .vmem, ⟨0, _⟩ => ⟨S8192x256, .fp8e4m3⟩
  | .local _ .vmem, ⟨1, _⟩ => ⟨S8192x256, .fp8e4m3⟩
  | .local _ .vmem, ⟨2, _⟩ => ⟨S8192x256, .fp8e4m3⟩
  | .local _ .vmem, ⟨3, _⟩ => ⟨S8192x256, .fp8e4m3⟩
  | .local _ .vmem, ⟨4, _⟩ => ⟨S4096x256, .i32⟩
  | .local _ .vmem, ⟨5, _⟩ => ⟨S4096x256, .i32⟩
  | .local _ .vmem, ⟨6, _⟩ => ⟨S240x8192, .bf16⟩
  | .local _ .vmem, ⟨7, _⟩ => ⟨S240x256, .f32⟩
  | .local _ .vmem, ⟨8, _⟩ => ⟨S240x256, .f32⟩
  | _, _ => ⟨S8192x28672, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![112], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  v4
def k0_mult2 (i : grid0.Coords) : BitVec 32 :=
  let arg0 : BitVec 32 := BitVec.ofNat 32 (i 0).val
  let c2_i32 : BitVec 32 := 2#32
  let v6 : BitVec 32 := Scalar.muli arg0 c2_i32
  let c127_i32 : BitVec 32 := 127#32
  let v7 : BitVec 32 := Scalar.andi v6 c127_i32
  let v8 : BitVec 32 := Scalar.subi v6 v7
  v8
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let c1_i32_2 : BitVec 32 := 1#32
  let v10 : BitVec 32 := Scalar.shrui v5 c1_i32_2
  v10
def k0_off1 (i : grid0.Coords) (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let c1_i32_2 : BitVec 32 := 1#32
  let v10 : BitVec 32 := Scalar.shrui v5 c1_i32_2
  let v11 : BitVec 32 := v10
  let v12 : Index := Scalar.indexCast v11
  let arg0 : BitVec 32 := BitVec.ofNat 32 (i 0).val
  let c2_i32 : BitVec 32 := 2#32
  let v6 : BitVec 32 := Scalar.muli arg0 c2_i32
  let c127_i32 : BitVec 32 := 127#32
  let v7 : BitVec 32 := Scalar.andi v6 c127_i32
  let v8 : BitVec 32 := Scalar.subi v6 v7
  let v9 : BitVec 32 := v8
  let v13 : Index := Scalar.indexCast v9
  ![v12.toNat, v13.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let v27 : Index := Scalar.indexCast v5
  let c0_5 : Index := 0#32
  ![v27.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let v43 : Index := Scalar.indexCast v5
  let c128 : Index := 128#32
  ![v43.toNat, 128]
def k0_mult4 (i : grid0.Coords) : BitVec 32 :=
  let arg0 : BitVec 32 := BitVec.ofNat 32 (i 0).val
  let c2_i32_9 : BitVec 32 := 2#32
  let v49 : BitVec 32 := Scalar.muli arg0 c2_i32_9
  let c127_i32_10 : BitVec 32 := 127#32
  let v50 : BitVec 32 := Scalar.andi v49 c127_i32_10
  let v51 : BitVec 32 := Scalar.subi v49 v50
  v51
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let c1_i32_11 : BitVec 32 := 1#32
  let v53 : BitVec 32 := Scalar.shrui v5 c1_i32_11
  v53
def k0_off4 (k0_t1 : Fin k0_t1_loop.trips) : Fin 2 → Nat :=
  let c0_20 : Index := 0#32
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let v92 : Index := Scalar.indexCast v5
  ![0, v92.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S240x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S240x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S8192x28672 : Shape := ⟨2, ![8192, 28672]⟩
abbrev S8192x224 : Shape := ⟨2, ![8192, 224]⟩
abbrev S240x8192 : Shape := ⟨2, ![240, 8192]⟩
abbrev S240x28672 : Shape := ⟨2, ![240, 28672]⟩
abbrev S8192x224x128 : Shape := ⟨3, ![8192, 224, 128]⟩
abbrev S8192x224x1 : Shape := ⟨3, ![8192, 224, 1]⟩

abbrev nBuf : Space → Nat
  | .hbm => 10
  | .vmem => 6
  | .smem => 0
  | _ => 0

abbrev bufTy : (tb : Table) → Fin (tcTables nBuf tb) → BufTy
  | .hbm, ⟨0, _⟩ => ⟨S8192x28672, .i8⟩
  | .hbm, ⟨1, _⟩ => ⟨S8192x224, .i16⟩
  | .hbm, ⟨2, _⟩ => ⟨S8192x28672, .i8⟩
  | .hbm, ⟨3, _⟩ => ⟨S8192x224, .i16⟩
  | .hbm, ⟨4, _⟩ => ⟨S240x8192, .bf16⟩
  | .hbm, ⟨5, _⟩ => ⟨S8192x28672, .fp8e4m3⟩
  | .hbm, ⟨6, _⟩ => ⟨S8192x224, .bf16⟩
  | .hbm, ⟨7, _⟩ => ⟨S8192x28672, .fp8e4m3⟩
  | .hbm, ⟨8, _⟩ => ⟨S8192x224, .bf16⟩
  | .hbm, ⟨9, _⟩ => ⟨S240x28672, .f32⟩
  | .local _ .vmem, ⟨0, _⟩ => ⟨S8192x28672, .fp8e4m3⟩
  | .local _ .vmem, ⟨1, _⟩ => ⟨S8192x224, .bf16⟩
  | .local _ .vmem, ⟨2, _⟩ => ⟨S8192x28672, .fp8e4m3⟩
  | .local _ .vmem, ⟨3, _⟩ => ⟨S8192x224, .bf16⟩
  | .local _ .vmem, ⟨4, _⟩ => ⟨S240x8192, .bf16⟩
  | .local _ .vmem, ⟨5, _⟩ => ⟨S240x28672, .f32⟩
  | _, _ => ⟨S8192x28672, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x28672 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x28672 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S240x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x28672 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== First.lean ====
abbrev S8192x28672 : Shape := ⟨2, ![8192, 28672]⟩
abbrev S8192x224 : Shape := ⟨2, ![8192, 224]⟩
abbrev S28672x240 : Shape := ⟨2, ![28672, 240]⟩
abbrev S4096x2x224 : Shape := ⟨3, ![4096, 2, 224]⟩
abbrev S4096x1x224 : Shape := ⟨3, ![4096, 1, 224]⟩
abbrev S4096x224 : Shape := ⟨2, ![4096, 224]⟩
abbrev S_ : Shape := ⟨0, ![]⟩
abbrev S4096x256 : Shape := ⟨2, ![4096, 256]⟩
abbrev S8192x240 : Shape := ⟨2, ![8192, 240]⟩
abbrev S8192x256 : Shape := ⟨2, ![8192, 256]⟩
abbrev S256x240 : Shape := ⟨2, ![256, 240]⟩
abbrev S256x128 : Shape := ⟨2, ![256, 128]⟩
abbrev S256x128x1 : Shape := ⟨3, ![256, 128, 1]⟩
abbrev S512x128 : Shape := ⟨2, ![512, 128]⟩
abbrev S512x256 : Shape := ⟨2, ![512, 256]⟩
abbrev S512x240 : Shape := ⟨2, ![512, 240]⟩

abbrev nBuf : Space → Nat
  | .hbm => 36
  | .vmem => 9
  | .smem => 0
  | _ => 0

abbrev bufTy : (tb : Table) → Fin (tcTables nBuf tb) → BufTy
  | .hbm, ⟨0, _⟩ => ⟨S8192x28672, .i8⟩
  | .hbm, ⟨1, _⟩ => ⟨S8192x224, .i16⟩
  | .hbm, ⟨2, _⟩ => ⟨S8192x28672, .i8⟩
  | .hbm, ⟨3, _⟩ => ⟨S8192x224, .i16⟩
  | .hbm, ⟨4, _⟩ => ⟨S28672x240, .bf16⟩
  | .hbm, ⟨5, _⟩ => ⟨S8192x28672, .fp8e4m3⟩
  | .hbm, ⟨6, _⟩ => ⟨S8192x28672, .fp8e4m3⟩
  | .hbm, ⟨7, _⟩ => ⟨S4096x2x224, .i16⟩
  | .hbm, ⟨8, _⟩ => ⟨S4096x2x224, .i32⟩
  | .hbm, ⟨9, _⟩ => ⟨S4096x1x224, .i32⟩
  | .hbm, ⟨10, _⟩ => ⟨S4096x224, .i32⟩
  | .hbm, ⟨11, _⟩ => ⟨S4096x1x224, .i32⟩
  | .hbm, ⟨12, _⟩ => ⟨S4096x224, .i32⟩
  | .hbm, ⟨13, _⟩ => ⟨S_, .i32⟩
  | .hbm, ⟨14, _⟩ => ⟨S4096x224, .i32⟩
  | .hbm, ⟨15, _⟩ => ⟨S4096x224, .i32⟩
  | .hbm, ⟨16, _⟩ => ⟨S4096x224, .i32⟩
  | .hbm, ⟨17, _⟩ => ⟨S4096x224, .i32⟩
  | .hbm, ⟨18, _⟩ => ⟨S_, .i32⟩
  | .hbm, ⟨19, _⟩ => ⟨S_, .i32⟩
  | .hbm, ⟨20, _⟩ => ⟨S4096x256, .i32⟩
  | .hbm, ⟨21, _⟩ => ⟨S4096x2x224, .i16⟩
  | .hbm, ⟨22, _⟩ => ⟨S4096x2x224, .i32⟩
  | .hbm, ⟨23, _⟩ => ⟨S4096x1x224, .i32⟩
  | .hbm, ⟨24, _⟩ => ⟨S4096x224, .i32⟩
  | .hbm, ⟨25, _⟩ => ⟨S4096x1x224, .i32⟩
  | .hbm, ⟨26, _⟩ => ⟨S4096x224, .i32⟩
  | .hbm, ⟨27, _⟩ => ⟨S_, .i32⟩
  | .hbm, ⟨28, _⟩ => ⟨S4096x224, .i32⟩
  | .hbm, ⟨29, _⟩ => ⟨S4096x224, .i32⟩
  | .hbm, ⟨30, _⟩ => ⟨S4096x224, .i32⟩
  | .hbm, ⟨31, _⟩ => ⟨S4096x224, .i32⟩
  | .hbm, ⟨32, _⟩ => ⟨S_, .i32⟩
  | .hbm, ⟨33, _⟩ => ⟨S_, .i32⟩
  | .hbm, ⟨34, _⟩ => ⟨S4096x256, .i32⟩
  | .hbm, ⟨35, _⟩ => ⟨S8192x240, .f32⟩
  | .local _ .vmem, ⟨0, _⟩ => ⟨S8192x256, .fp8e4m3⟩
  | .local _ .vmem, ⟨1, _⟩ => ⟨S8192x256, .fp8e4m3⟩
  | .local _ .vmem, ⟨2, _⟩ => ⟨S8192x256, .fp8e4m3⟩
  | .local _ .vmem, ⟨3, _⟩ => ⟨S8192x256, .fp8e4m3⟩
  | .local _ .vmem, ⟨4, _⟩ => ⟨S4096x256, .i32⟩
  | .local _ .vmem, ⟨5, _⟩ => ⟨S4096x256, .i32⟩
  | .local _ .vmem, ⟨6, _⟩ => ⟨S256x240, .bf16⟩
  | .local _ .vmem, ⟨7, _⟩ => ⟨S256x240, .bf16⟩
  | .local _ .vmem, ⟨8, _⟩ => ⟨S8192x240, .f32⟩
  | _, _ => ⟨S8192x28672, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![112], ![false]⟩

@[reducible] def k0_t1_loop : Scf.Loop 32 :=
  let c0_i32_2 : BitVec 32 := 0#32
  let c16_i32 : BitVec 32 := 16#32
  let v4 : BitVec 32 := Scalar.addi c0_i32_2 c16_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c512_i32 : BitVec 32 := 512#32
  let v5 : BitVec 32 := Scalar.muli arg7 c512_i32
  v5
def k0_mult2 (i : grid0.Coords) : BitVec 32 :=
  let arg0 : BitVec 32 := BitVec.ofNat 32 (i 0).val
  let c2_i32 : BitVec 32 := 2#32
  let v7 : BitVec 32 := Scalar.muli arg0 c2_i32
  let c127_i32 : BitVec 32 := 127#32
  let v8 : BitVec 32 := Scalar.andi v7 c127_i32
  let v9 : BitVec 32 := Scalar.subi v7 v8
  v9
def k0_mult3 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c512_i32 : BitVec 32 := 512#32
  let v5 : BitVec 32 := Scalar.muli arg7 c512_i32
  let v6 : BitVec 32 := v5
  let c1_i32_4 : BitVec 32 := 1#32
  let v11 : BitVec 32 := Scalar.shrui v6 c1_i32_4
  v11
def k0_off1 (i : grid0.Coords) (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c512_i32 : BitVec 32 := 512#32
  let v5 : BitVec 32 := Scalar.muli arg7 c512_i32
  let v6 : BitVec 32 := v5
  let c1_i32_4 : BitVec 32 := 1#32
  let v11 : BitVec 32 := Scalar.shrui v6 c1_i32_4
  let v12 : BitVec 32 := v11
  let v13 : Index := Scalar.indexCast v12
  let arg0 : BitVec 32 := BitVec.ofNat 32 (i 0).val
  let c2_i32 : BitVec 32 := 2#32
  let v7 : BitVec 32 := Scalar.muli arg0 c2_i32
  let c127_i32 : BitVec 32 := 127#32
  let v8 : BitVec 32 := Scalar.andi v7 c127_i32
  let v9 : BitVec 32 := Scalar.subi v7 v8
  let v10 : BitVec 32 := v9
  let v14 : Index := Scalar.indexCast v10
  ![v13.toNat, v14.toNat]
def k0_off2 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c512_i32 : BitVec 32 := 512#32
  let v5 : BitVec 32 := Scalar.muli arg7 c512_i32
  let v6 : BitVec 32 := v5
  let v28 : Index := Scalar.indexCast v6
  let c0_7 : Index := 0#32
  ![v28.toNat, 0]
def k0_off3 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c512_i32 : BitVec 32 := 512#32
  let v5 : BitVec 32 := Scalar.muli arg7 c512_i32
  let v6 : BitVec 32 := v5
  let v44 : Index := Scalar.indexCast v6
  let c128 : Index := 128#32
  ![v44.toNat, 128]
def k0_mult4 (i : grid0.Coords) : BitVec 32 :=
  let arg0 : BitVec 32 := BitVec.ofNat 32 (i 0).val
  let c2_i32_11 : BitVec 32 := 2#32
  let v50 : BitVec 32 := Scalar.muli arg0 c2_i32_11
  let c127_i32_12 : BitVec 32 := 127#32
  let v51 : BitVec 32 := Scalar.andi v50 c127_i32_12
  let v52 : BitVec 32 := Scalar.subi v50 v51
  v52
def k0_mult5 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c512_i32 : BitVec 32 := 512#32
  let v5 : BitVec 32 := Scalar.muli arg7 c512_i32
  let v6 : BitVec 32 := v5
  let c1_i32_13 : BitVec 32 := 1#32
  let v54 : BitVec 32 := Scalar.shrui v6 c1_i32_13
  v54
def k0_off4 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c512_i32 : BitVec 32 := 512#32
  let v5 : BitVec 32 := Scalar.muli arg7 c512_i32
  let v6 : BitVec 32 := v5
  let v93 : Index := Scalar.indexCast v6
  let c0_22 : Index := 0#32
  ![v93.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x240 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8192x240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FirstRefIdeal.lean ====
abbrev S8192x28672 : Shape := ⟨2, ![8192, 28672]⟩
abbrev S8192x224 : Shape := ⟨2, ![8192, 224]⟩
abbrev S28672x240 : Shape := ⟨2, ![28672, 240]⟩
abbrev S8192x240 : Shape := ⟨2, ![8192, 240]⟩
abbrev S8192x224x128 : Shape := ⟨3, ![8192, 224, 128]⟩
abbrev S8192x224x1 : Shape := ⟨3, ![8192, 224, 1]⟩

abbrev nBuf : Space → Nat
  | .hbm => 10
  | .vmem => 6
  | .smem => 0
  | _ => 0

abbrev bufTy : (tb : Table) → Fin (tcTables nBuf tb) → BufTy
  | .hbm, ⟨0, _⟩ => ⟨S8192x28672, .i8⟩
  | .hbm, ⟨1, _⟩ => ⟨S8192x224, .i16⟩
  | .hbm, ⟨2, _⟩ => ⟨S8192x28672, .i8⟩
  | .hbm, ⟨3, _⟩ => ⟨S8192x224, .i16⟩
  | .hbm, ⟨4, _⟩ => ⟨S28672x240, .bf16⟩
  | .hbm, ⟨5, _⟩ => ⟨S8192x28672, .fp8e4m3⟩
  | .hbm, ⟨6, _⟩ => ⟨S8192x224, .bf16⟩
  | .hbm, ⟨7, _⟩ => ⟨S8192x28672, .fp8e4m3⟩
  | .hbm, ⟨8, _⟩ => ⟨S8192x224, .bf16⟩
  | .hbm, ⟨9, _⟩ => ⟨S8192x240, .f32⟩
  | .local _ .vmem, ⟨0, _⟩ => ⟨S8192x28672, .fp8e4m3⟩
  | .local _ .vmem, ⟨1, _⟩ => ⟨S8192x224, .bf16⟩
  | .local _ .vmem, ⟨2, _⟩ => ⟨S8192x28672, .fp8e4m3⟩
  | .local _ .vmem, ⟨3, _⟩ => ⟨S8192x224, .bf16⟩
  | .local _ .vmem, ⟨4, _⟩ => ⟨S28672x240, .bf16⟩
  | .local _ .vmem, ⟨5, _⟩ => ⟨S8192x240, .f32⟩
  | _, _ => ⟨S8192x28672, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x28672 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x28672 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28672x240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Power.lean ====
abbrev S8192x28672 : Shape := ⟨2, ![8192, 28672]⟩
abbrev S8192x224 : Shape := ⟨2, ![8192, 224]⟩
abbrev S240x8192 : Shape := ⟨2, ![240, 8192]⟩
abbrev S4096x2x224 : Shape := ⟨3, ![4096, 2, 224]⟩
abbrev S4096x1x224 : Shape := ⟨3, ![4096, 1, 224]⟩
abbrev S4096x224 : Shape := ⟨2, ![4096, 224]⟩
abbrev S_ : Shape := ⟨0, ![]⟩
abbrev S4096x256 : Shape := ⟨2, ![4096, 256]⟩
abbrev S8192x240 : Shape := ⟨2, ![8192, 240]⟩
abbrev S8192x256 : Shape := ⟨2, ![8192, 256]⟩
abbrev S240x256 : Shape := ⟨2, ![240, 256]⟩
abbrev S256x128 : Shape := ⟨2, ![256, 128]⟩
abbrev S256x128x1 : Shape := ⟨3, ![256, 128, 1]⟩
abbrev S512x128 : Shape := ⟨2, ![512, 128]⟩
abbrev S512x256 : Shape := ⟨2, ![512, 256]⟩
abbrev S240x512 : Shape := ⟨2, ![240, 512]⟩
abbrev S256x240 : Shape := ⟨2, ![256, 240]⟩
abbrev S512x240 : Shape := ⟨2, ![512, 240]⟩

abbrev nBuf : Space → Nat
  | .hbm => 36
  | .vmem => 10
  | .smem => 0
  | _ => 0

abbrev bufTy : (tb : Table) → Fin (tcTables nBuf tb) → BufTy
  | .hbm, ⟨0, _⟩ => ⟨S8192x28672, .i8⟩
  | .hbm, ⟨1, _⟩ => ⟨S8192x224, .i16⟩
  | .hbm, ⟨2, _⟩ => ⟨S8192x28672, .i8⟩
  | .hbm, ⟨3, _⟩ => ⟨S8192x224, .i16⟩
  | .hbm, ⟨4, _⟩ => ⟨S240x8192, .bf16⟩
  | .hbm, ⟨5, _⟩ => ⟨S8192x28672, .fp8e4m3⟩
  | .hbm, ⟨6, _⟩ => ⟨S8192x28672, .fp8e4m3⟩
  | .hbm, ⟨7, _⟩ => ⟨S4096x2x224, .i16⟩
  | .hbm, ⟨8, _⟩ => ⟨S4096x2x224, .i32⟩
  | .hbm, ⟨9, _⟩ => ⟨S4096x1x224, .i32⟩
  | .hbm, ⟨10, _⟩ => ⟨S4096x224, .i32⟩
  | .hbm, ⟨11, _⟩ => ⟨S4096x1x224, .i32⟩
  | .hbm, ⟨12, _⟩ => ⟨S4096x224, .i32⟩
  | .hbm, ⟨13, _⟩ => ⟨S_, .i32⟩
  | .hbm, ⟨14, _⟩ => ⟨S4096x224, .i32⟩
  | .hbm, ⟨15, _⟩ => ⟨S4096x224, .i32⟩
  | .hbm, ⟨16, _⟩ => ⟨S4096x224, .i32⟩
  | .hbm, ⟨17, _⟩ => ⟨S4096x224, .i32⟩
  | .hbm, ⟨18, _⟩ => ⟨S_, .i32⟩
  | .hbm, ⟨19, _⟩ => ⟨S_, .i32⟩
  | .hbm, ⟨20, _⟩ => ⟨S4096x256, .i32⟩
  | .hbm, ⟨21, _⟩ => ⟨S4096x2x224, .i16⟩
  | .hbm, ⟨22, _⟩ => ⟨S4096x2x224, .i32⟩
  | .hbm, ⟨23, _⟩ => ⟨S4096x1x224, .i32⟩
  | .hbm, ⟨24, _⟩ => ⟨S4096x224, .i32⟩
  | .hbm, ⟨25, _⟩ => ⟨S4096x1x224, .i32⟩
  | .hbm, ⟨26, _⟩ => ⟨S4096x224, .i32⟩
  | .hbm, ⟨27, _⟩ => ⟨S_, .i32⟩
  | .hbm, ⟨28, _⟩ => ⟨S4096x224, .i32⟩
  | .hbm, ⟨29, _⟩ => ⟨S4096x224, .i32⟩
  | .hbm, ⟨30, _⟩ => ⟨S4096x224, .i32⟩
  | .hbm, ⟨31, _⟩ => ⟨S4096x224, .i32⟩
  | .hbm, ⟨32, _⟩ => ⟨S_, .i32⟩
  | .hbm, ⟨33, _⟩ => ⟨S_, .i32⟩
  | .hbm, ⟨34, _⟩ => ⟨S4096x256, .i32⟩
  | .hbm, ⟨35, _⟩ => ⟨S8192x240, .f32⟩
  | .local _ .vmem, ⟨0, _⟩ => ⟨S8192x256, .fp8e4m3⟩
  | .local _ .vmem, ⟨1, _⟩ => ⟨S8192x256, .fp8e4m3⟩
  | .local _ .vmem, ⟨2, _⟩ => ⟨S8192x256, .fp8e4m3⟩
  | .local _ .vmem, ⟨3, _⟩ => ⟨S8192x256, .fp8e4m3⟩
  | .local _ .vmem, ⟨4, _⟩ => ⟨S4096x256, .i32⟩
  | .local _ .vmem, ⟨5, _⟩ => ⟨S4096x256, .i32⟩
  | .local _ .vmem, ⟨6, _⟩ => ⟨S240x8192, .bf16⟩
  | .local _ .vmem, ⟨7, _⟩ => ⟨S8192x240, .f32⟩
  | .local _ .vmem, ⟨8, _⟩ => ⟨S8192x256, .bf16⟩
  | .local _ .vmem, ⟨9, _⟩ => ⟨S8192x256, .bf16⟩
  | _, _ => ⟨S8192x28672, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![112], ![false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  v9
def k0_mult2 (i : grid0.Coords) : BitVec 32 :=
  let arg0 : BitVec 32 := BitVec.ofNat 32 (i 0).val
  let c2_i32 : BitVec 32 := 2#32
  let v11 : BitVec 32 := Scalar.muli arg0 c2_i32
  let c127_i32 : BitVec 32 := 127#32
  let v12 : BitVec 32 := Scalar.andi v11 c127_i32
  let v13 : BitVec 32 := Scalar.subi v11 v12
  v13
def k0_mult3 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  let v10 : BitVec 32 := v9
  let c1_i32_7 : BitVec 32 := 1#32
  let v15 : BitVec 32 := Scalar.shrui v10 c1_i32_7
  v15
def k0_off1 (i : grid0.Coords) (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  let v10 : BitVec 32 := v9
  let c1_i32_7 : BitVec 32 := 1#32
  let v15 : BitVec 32 := Scalar.shrui v10 c1_i32_7
  let v16 : BitVec 32 := v15
  let v17 : Index := Scalar.indexCast v16
  let arg0 : BitVec 32 := BitVec.ofNat 32 (i 0).val
  let c2_i32 : BitVec 32 := 2#32
  let v11 : BitVec 32 := Scalar.muli arg0 c2_i32
  let c127_i32 : BitVec 32 := 127#32
  let v12 : BitVec 32 := Scalar.andi v11 c127_i32
  let v13 : BitVec 32 := Scalar.subi v11 v12
  let v14 : BitVec 32 := v13
  let v18 : Index := Scalar.indexCast v14
  ![v17.toNat, v18.toNat]
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  let v10 : BitVec 32 := v9
  let v32 : Index := Scalar.indexCast v10
  let c0 : Index := 0#32
  ![v32.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  let v10 : BitVec 32 := v9
  let v48 : Index := Scalar.indexCast v10
  let c128 : Index := 128#32
  ![v48.toNat, 128]
def k0_mult4 (i : grid0.Coords) : BitVec 32 :=
  let arg0 : BitVec 32 := BitVec.ofNat 32 (i 0).val
  let c2_i32_13 : BitVec 32 := 2#32
  let v54 : BitVec 32 := Scalar.muli arg0 c2_i32_13
  let c127_i32_14 : BitVec 32 := 127#32
  let v55 : BitVec 32 := Scalar.andi v54 c127_i32_14
  let v56 : BitVec 32 := Scalar.subi v54 v55
  v56
def k0_mult5 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  let v10 : BitVec 32 := v9
  let c1_i32_15 : BitVec 32 := 1#32
  let v58 : BitVec 32 := Scalar.shrui v10 c1_i32_15
  v58
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  let v10 : BitVec 32 := v9
  let v97 : Index := Scalar.indexCast v10
  let c0_24 : Index := 0#32
  ![v97.toNat, 0]
def k0_off5 (k0_t1 : Fin k0_t1_loop.trips) : Fin 2 → Nat :=
  let c0_26 : Index := 0#32
  let c0_i32_1 : BitVec 32 := 0#32
  let c1_i32 : BitVec 32 := 1#32
  let arg9 : BitVec 32 := Scf.iv c0_i32_1 c1_i32 k0_t1
  let c512_i32 : BitVec 32 := 512#32
  let v9 : BitVec 32 := Scalar.muli arg9 c512_i32
  let v10 : BitVec 32 := v9
  let v105 : Index := Scalar.indexCast v10
  ![0, v105.toNat]
@[reducible] def k0_t2_loop : Scf.Loop 32 :=
  let c0_i32_3 : BitVec 32 := 0#32
  let c16_i32_4 : BitVec 32 := 16#32
  let v8 : BitVec 32 := Scalar.addi c0_i32_3 c16_i32_4
  let c1_i32_5 : BitVec 32 := 1#32
  ⟨c0_i32_3, v8, c1_i32_5⟩
def k0_mult6 (k0_t2 : Fin k0_t2_loop.trips) : BitVec 32 :=
  let c0_i32_3 : BitVec 32 := 0#32
  let c1_i32_5 : BitVec 32 := 1#32
  let arg9 : BitVec 32 := Scf.iv c0_i32_3 c1_i32_5 k0_t2
  let c512_i32 : BitVec 32 := 512#32
  let v9 : BitVec 32 := Scalar.muli arg9 c512_i32
  v9
def k0_off6 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c512_i32 : BitVec 32 := 512#32
  let v9 : BitVec 32 := Scalar.muli arg9 c512_i32
  let v10 : BitVec 32 := v9
  let v11 : Index := Scalar.indexCast v10
  let c0 : Index := 0#32
  ![v11.toNat, 0]
def k0_off7 (k0_t2 : Fin k0_t2_loop.trips) : Fin 2 → Nat :=
  let c0_i32_3 : BitVec 32 := 0#32
  let c1_i32_5 : BitVec 32 := 1#32
  let arg9 : BitVec 32 := Scf.iv c0_i32_3 c1_i32_5 k0_t2
  let c512_i32 : BitVec 32 := 512#32
  let v9 : BitVec 32 := Scalar.muli arg9 c512_i32
  let v10 : BitVec 32 := v9
  let v14 : Index := Scalar.indexCast v10
  let c0_7 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S240x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PowerRefIdeal.lean ====
abbrev S8192x28672 : Shape := ⟨2, ![8192, 28672]⟩
abbrev S8192x224 : Shape := ⟨2, ![8192, 224]⟩
abbrev S240x8192 : Shape := ⟨2, ![240, 8192]⟩
abbrev S8192x240 : Shape := ⟨2, ![8192, 240]⟩
abbrev S8192x224x128 : Shape := ⟨3, ![8192, 224, 128]⟩
abbrev S8192x224x1 : Shape := ⟨3, ![8192, 224, 1]⟩
abbrev S28672x240 : Shape := ⟨2, ![28672, 240]⟩

abbrev nBuf : Space → Nat
  | .hbm => 10
  | .vmem => 6
  | .smem => 0
  | _ => 0

abbrev bufTy : (tb : Table) → Fin (tcTables nBuf tb) → BufTy
  | .hbm, ⟨0, _⟩ => ⟨S8192x28672, .i8⟩
  | .hbm, ⟨1, _⟩ => ⟨S8192x224, .i16⟩
  | .hbm, ⟨2, _⟩ => ⟨S8192x28672, .i8⟩
  | .hbm, ⟨3, _⟩ => ⟨S8192x224, .i16⟩
  | .hbm, ⟨4, _⟩ => ⟨S240x8192, .bf16⟩
  | .hbm, ⟨5, _⟩ => ⟨S8192x28672, .fp8e4m3⟩
  | .hbm, ⟨6, _⟩ => ⟨S8192x224, .bf16⟩
  | .hbm, ⟨7, _⟩ => ⟨S8192x28672, .fp8e4m3⟩
  | .hbm, ⟨8, _⟩ => ⟨S8192x224, .bf16⟩
  | .hbm, ⟨9, _⟩ => ⟨S8192x240, .f32⟩
  | .local _ .vmem, ⟨0, _⟩ => ⟨S8192x28672, .fp8e4m3⟩
  | .local _ .vmem, ⟨1, _⟩ => ⟨S8192x224, .bf16⟩
  | .local _ .vmem, ⟨2, _⟩ => ⟨S8192x28672, .fp8e4m3⟩
  | .local _ .vmem, ⟨3, _⟩ => ⟨S8192x224, .bf16⟩
  | .local _ .vmem, ⟨4, _⟩ => ⟨S240x8192, .bf16⟩
  | .local _ .vmem, ⟨5, _⟩ => ⟨S8192x240, .f32⟩
  | _, _ => ⟨S8192x28672, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x28672 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x28672 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S240x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Cqr.lean ====
abbrev S8192x240 : Shape := ⟨2, ![8192, 240]⟩
abbrev S240x8192 : Shape := ⟨2, ![240, 8192]⟩
abbrev S240x512 : Shape := ⟨2, ![240, 512]⟩
abbrev S240x240 : Shape := ⟨2, ![240, 240]⟩
abbrev S512x240 : Shape := ⟨2, ![512, 240]⟩
abbrev S8x128 : Shape := ⟨2, ![8, 128]⟩
abbrev S8x512 : Shape := ⟨2, ![8, 512]⟩
abbrev S8x256 : Shape := ⟨2, ![8, 256]⟩
abbrev S8x128x1 : Shape := ⟨3, ![8, 128, 1]⟩
abbrev S1x128 : Shape := ⟨2, ![1, 128]⟩
abbrev S1x512 : Shape := ⟨2, ![1, 512]⟩
abbrev S256x512 : Shape := ⟨2, ![256, 512]⟩

abbrev nBuf : Space → Nat
  | .hbm => 3
  | .vmem => 4
  | .smem => 0
  | _ => 0

abbrev bufTy : (tb : Table) → Fin (tcTables nBuf tb) → BufTy
  | .hbm, ⟨0, _⟩ => ⟨S8192x240, .f32⟩
  | .hbm, ⟨1, _⟩ => ⟨S8192x240, .f32⟩
  | .hbm, ⟨2, _⟩ => ⟨S240x8192, .bf16⟩
  | .local _ .vmem, ⟨0, _⟩ => ⟨S8192x240, .f32⟩
  | .local _ .vmem, ⟨1, _⟩ => ⟨S8192x240, .f32⟩
  | .local _ .vmem, ⟨2, _⟩ => ⟨S240x8192, .bf16⟩
  | .local _ .vmem, ⟨3, _⟩ => ⟨S240x512, .f32⟩
  | _, _ => ⟨S8192x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v24 : BitVec 32 := Scalar.muli arg4 c512_i32
  v24
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c512_i32 : BitVec 32 := 512#32
  let v24 : BitVec 32 := Scalar.muli arg4 c512_i32
  let v25 : BitVec 32 := v24
  let v26 : Index := Scalar.indexCast v25
  let c0_15 : Index := 0#32
  ![v26.toNat, 0]
@[reducible] def k0_t2_loop : Scf.Loop 32 :=
  let c0_i32_6 : BitVec 32 := 0#32
  let c30_i32 : BitVec 32 := 30#32
  let v21 : BitVec 32 := Scalar.addi c0_i32_6 c30_i32
  let c1_i32_7 : BitVec 32 := 1#32
  ⟨c0_i32_6, v21, c1_i32_7⟩
def k0_mult2 (k0_t2 : Fin k0_t2_loop.trips) : BitVec 32 :=
  let c0_i32_6 : BitVec 32 := 0#32
  let c1_i32_7 : BitVec 32 := 1#32
  let arg4 : BitVec 32 := Scf.iv c0_i32_6 c1_i32_7 k0_t2
  let c8_i32 : BitVec 32 := 8#32
  let v24 : BitVec 32 := Scalar.muli arg4 c8_i32
  v24
def k0_mult3 (k0_t2 : Fin k0_t2_loop.trips) : BitVec 32 :=
  let c0_i32_6 : BitVec 32 := 0#32
  let c1_i32_7 : BitVec 32 := 1#32
  let arg4 : BitVec 32 := Scf.iv c0_i32_6 c1_i32_7 k0_t2
  let c8_i32 : BitVec 32 := 8#32
  let v24 : BitVec 32 := Scalar.muli arg4 c8_i32
  let v25 : BitVec 32 := v24
  let c0_i32_15 : BitVec 32 := 0#32
  let v27 : BitVec 1 := Scalar.cmpi .sgt v25 c0_i32_15
  let v28 : BitVec 32 := Scalar.extui v27
  let c0_i32_16 : BitVec 32 := 0#32
  let v29 : BitVec 1 := Scalar.cmpi .slt v25 c0_i32_16
  let v30 : BitVec 32 := Scalar.extui v29
  let v31 : BitVec 32 := Scalar.subi v28 v30
  let c128_i32 : BitVec 32 := 128#32
  let c0_i32_17 : BitVec 32 := 0#32
  let v32 : BitVec 1 := Scalar.cmpi .sgt c128_i32 c0_i32_17
  let v33 : BitVec 32 := Scalar.extui v32
  let c0_i32_18 : BitVec 32 := 0#32
  let v34 : BitVec 1 := Scalar.cmpi .slt c128_i32 c0_i32_18
  let v35 : BitVec 32 := Scalar.extui v34
  let v36 : BitVec 32 := Scalar.subi v33 v35
  let v37 : BitVec 1 := Scalar.cmpi .ne v31 v36
  let v38 : BitVec 32 := Scalar.remsi v25 c128_i32
  let c0_i32_19 : BitVec 32 := 0#32
  let v39 : BitVec 1 := Scalar.cmpi .ne v38 c0_i32_19
  let v40 : BitVec 1 := Scalar.andi v37 v39
  let v26 : BitVec 32 := Scalar.divsi v25 c128_i32
  let c1_i32_20 : BitVec 32 := 1#32
  let v41 : BitVec 32 := Scalar.subi v26 c1_i32_20
  let v42 : BitVec 32 := Scalar.select v40 v41 v26
  let c128_i32_21 : BitVec 32 := 128#32
  let v43 : BitVec 32 := Scalar.muli v42 c128_i32_21
  v43
def k0_off2 (k0_t2 : Fin k0_t2_loop.trips) : Fin 2 → Nat :=
  let c0_i32_6 : BitVec 32 := 0#32
  let c1_i32_7 : BitVec 32 := 1#32
  let arg4 : BitVec 32 := Scf.iv c0_i32_6 c1_i32_7 k0_t2
  let c8_i32 : BitVec 32 := 8#32
  let v24 : BitVec 32 := Scalar.muli arg4 c8_i32
  let v25 : BitVec 32 := v24
  let v45 : Index := Scalar.indexCast v25
  let c0_22 : Index := 0#32
  ![v45.toNat, 0]
def k0_off3 (k0_t2 : Fin k0_t2_loop.trips) : Fin 2 → Nat :=
  let c0_i32_6 : BitVec 32 := 0#32
  let c1_i32_7 : BitVec 32 := 1#32
  let arg4 : BitVec 32 := Scf.iv c0_i32_6 c1_i32_7 k0_t2
  let c8_i32 : BitVec 32 := 8#32
  let v24 : BitVec 32 := Scalar.muli arg4 c8_i32
  let v25 : BitVec 32 := v24
  let v47 : Index := Scalar.indexCast v25
  let c0_i32_15 : BitVec 32 := 0#32
  let v27 : BitVec 1 := Scalar.cmpi .sgt v25 c0_i32_15
  let v28 : BitVec 32 := Scalar.extui v27
  let c0_i32_16 : BitVec 32 := 0#32
  let v29 : BitVec 1 := Scalar.cmpi .slt v25 c0_i32_16
  let v30 : BitVec 32 := Scalar.extui v29
  let v31 : BitVec 32 := Scalar.subi v28 v30
  let c128_i32 : BitVec 32 := 128#32
  let c0_i32_17 : BitVec 32 := 0#32
  let v32 : BitVec 1 := Scalar.cmpi .sgt c128_i32 c0_i32_17
  let v33 : BitVec 32 := Scalar.extui v32
  let c0_i32_18 : BitVec 32 := 0#32
  let v34 : BitVec 1 := Scalar.cmpi .slt c128_i32 c0_i32_18
  let v35 : BitVec 32 := Scalar.extui v34
  let v36 : BitVec 32 := Scalar.subi v33 v35
  let v37 : BitVec 1 := Scalar.cmpi .ne v31 v36
  let v38 : BitVec 32 := Scalar.remsi v25 c128_i32
  let c0_i32_19 : BitVec 32 := 0#32
  let v39 : BitVec 1 := Scalar.cmpi .ne v38 c0_i32_19
  let v40 : BitVec 1 := Scalar.andi v37 v39
  let v26 : BitVec 32 := Scalar.divsi v25 c128_i32
  let c1_i32_20 : BitVec 32 := 1#32
  let v41 : BitVec 32 := Scalar.subi v26 c1_i32_20
  let v42 : BitVec 32 := Scalar.select v40 v41 v26
  let c128_i32_21 : BitVec 32 := 128#32
  let v43 : BitVec 32 := Scalar.muli v42 c128_i32_21
  let v44 : BitVec 32 := v43
  let v48 : Index := Scalar.indexCast v44
  ![v47.toNat, v48.toNat]
@[reducible] def k0_t3_loop : Scf.Loop 32 :=
  let c0_i32_11 : BitVec 32 := 0#32
  let c16_i32_12 : BitVec 32 := 16#32
  let v23 : BitVec 32 := Scalar.addi c0_i32_11 c16_i32_12
  let c1_i32_13 : BitVec 32 := 1#32
  ⟨c0_i32_11, v23, c1_i32_13⟩
def k0_mult4 (k0_t3 : Fin k0_t3_loop.trips) : BitVec 32 :=
  let c0_i32_11 : BitVec 32 := 0#32
  let c1_i32_13 : BitVec 32 := 1#32
  let arg4 : BitVec 32 := Scf.iv c0_i32_11 c1_i32_13 k0_t3
  let c512_i32 : BitVec 32 := 512#32
  let v24 : BitVec 32 := Scalar.muli arg4 c512_i32
  v24
def k0_off4 (k0_t3 : Fin k0_t3_loop.trips) : Fin 2 → Nat :=
  let c0_i32_11 : BitVec 32 := 0#32
  let c1_i32_13 : BitVec 32 := 1#32
  let arg4 : BitVec 32 := Scf.iv c0_i32_11 c1_i32_13 k0_t3
  let c512_i32 : BitVec 32 := 512#32
  let v24 : BitVec 32 := Scalar.muli arg4 c512_i32
  let v25 : BitVec 32 := v24
  let v26 : Index := Scalar.indexCast v25
  let c0_15 : Index := 0#32
  ![v26.toNat, 0]
def k0_off5 (k0_t3 : Fin k0_t3_loop.trips) : Fin 2 → Nat :=
  let c0_18 : Index := 0#32
  let c0_i32_11 : BitVec 32 := 0#32
  let c1_i32_13 : BitVec 32 := 1#32
  let arg4 : BitVec 32 := Scf.iv c0_i32_11 c1_i32_13 k0_t3
  let c512_i32 : BitVec 32 := 512#32
  let v24 : BitVec 32 := Scalar.muli arg4 c512_i32
  let v25 : BitVec 32 := v24
  let v33 : Index := Scalar.indexCast v25
  ![0, v33.toNat]
abbrev stage0_0 : Fin 1 → Memref sig .tc .vmem S8192x240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CqrRefIdeal.lean ====
abbrev S8192x240 : Shape := ⟨2, ![8192, 240]⟩
abbrev S240x8192 : Shape := ⟨2, ![240, 8192]⟩
abbrev S240x240 : Shape := ⟨2, ![240, 240]⟩
abbrev S240 : Shape := ⟨1, ![240]⟩
abbrev S240x1 : Shape := ⟨2, ![240, 1]⟩
abbrev S1x240 : Shape := ⟨2, ![1, 240]⟩
abbrev S8192 : Shape := ⟨1, ![8192]⟩
abbrev S8192x1 : Shape := ⟨2, ![8192, 1]⟩
abbrev S1 : Shape := ⟨1, ![1]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S8192x240, .f32⟩
  | .hbm, ⟨1, _⟩ => ⟨S8192x240, .f32⟩
  | .hbm, ⟨2, _⟩ => ⟨S240x8192, .bf16⟩
  | .local _ .vmem, ⟨0, _⟩ => ⟨S8192x240, .f32⟩
  | .local _ .vmem, ⟨1, _⟩ => ⟨S8192x240, .f32⟩
  | .local _ .vmem, ⟨2, _⟩ => ⟨S240x8192, .bf16⟩
  | _, _ => ⟨S8192x240, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c240_i32 : BitVec 32 := 240#32
  let v5 : BitVec 32 := Scalar.addi c0_i32 c240_i32
  let c1_i32 : BitVec 32 := 1#32
  ⟨c0_i32, v5, c1_i32⟩
@[reducible] def k0_t2_loop : Scf.Loop 32 :=
  let c0_i32_4 : BitVec 32 := 0#32
  let c240_i32_5 : BitVec 32 := 240#32
  let v10 : BitVec 32 := Scalar.addi c0_i32_4 c240_i32_5
  let c1_i32_6 : BitVec 32 := 1#32
  ⟨c0_i32_4, v10, c1_i32_6⟩
abbrev stage0_0 : Fin 1 → Memref sig .tc .vmem S8192x240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.PowerCover.lean ====
module

public import proofs.«01_k».proof.Proof.Gen.Power.Frame.Runs

@[expose] public section

noncomputable section

namespace Cert.Power.Hand

open Cert.Power Cert.Power.Gen Idealize.ShloMosaic Idealize.ShloMosaic.TcCoe Idealize.SL.Sem

variable {F : FTy → Type} [FloatOps F]

/-- The block of rows a trip stores. -/
theorem off4_eq : ∀ k : Fin k0_t1_loop.trips, k0_off4 k = ![512 * k.val, 0] := by decide +kernel

/-- A row of a trip's block is in the rectangle that the trip stores. -/
theorem mem_block (k : ℕ) (hk : k < k0_t1_loop.trips) (y : S8192x256.Idx) (h : 512 * k ≤ (y 0).val) (h' : (y 0).val < 512 * (k + 1)) :
    y ∈ (Rect.unit (s := S8192x256) (k0_off4 ⟨k, hk⟩) S512x256.size (k0_off4_inb ⟨k, hk⟩)).set :=
  (Rect.mem_set_unit (inb := k0_off4_inb ⟨k, hk⟩)).2 fun a => by
    have e := congrFun (off4_eq ⟨k, hk⟩) a
    have hy1 : (y 1).val < 256 := (y 1).isLt
    match a with
    | ⟨0, _⟩ =>
      have e : k0_off4 ⟨k, hk⟩ 0 = 512 * k := e
      show k0_off4 ⟨k, hk⟩ 0 ≤ (y 0).val ∧ (y 0).val < k0_off4 ⟨k, hk⟩ 0 + 512
      omega
    | ⟨1, _⟩ =>
      have e : k0_off4 ⟨k, hk⟩ 1 = 0 := e
      show k0_off4 ⟨k, hk⟩ 1 ≤ (y 1).val ∧ (y 1).val < k0_off4 ⟨k, hk⟩ 1 + 256
      omega

variable (𝒱 : Variants) (c : Dev nD) (bd : Option 𝒱.V) (i : grid0.Coords) (arg1 : Memref sig .tc .vmem S8192x256 .fp8e4m3) (harg1 : arg1.IsWhole)
  (arg2 : Memref sig .tc .vmem S8192x256 .fp8e4m3) (harg2 : arg2.IsWhole) (arg3 : Memref sig .tc .vmem S4096x256 .i32) (harg3 : arg3.IsWhole)
  (arg4 : Memref sig .tc .vmem S4096x256 .i32) (harg4 : arg4.IsWhole) (arg5 : Memref sig .tc .vmem S240x8192 .bf16) (harg5 : arg5.IsWhole)
  (arg6 : Memref sig .tc .vmem S8192x240 .f32) (harg6 : arg6.IsWhole) (arg7 : Memref sig .tc .vmem S8192x256 .bf16) (harg7 : arg7.IsWhole)
  (arg8 : Memref sig .tc .vmem S8192x256 .bf16) (harg8 : arg8.IsWhole) (arg0 : BitVec 32) (X_arg1 : BufTy.Contents (Elt F) arg1.view.ty)
  (X_arg2 : BufTy.Contents (Elt F) arg2.view.ty) (X_arg3 : BufTy.Contents (Elt F) arg3.view.ty) (X_arg4 : BufTy.Contents (Elt F) arg4.view.ty)
  (X_arg5 : BufTy.Contents (Elt F) arg5.view.ty) (init : FVec F S240x256 .f32)

/-- A trip of the first loop stores one block of rows of each weight. -/
theorem trip_pieces (k : Fin k0_t1_loop.trips) (acc : FVec F S240x256 .f32) :
    (∃ w, (tripL_k0_t1 (F := F) 𝒱 c bd i arg1 harg1 arg2 harg2 arg3 harg3 arg4 harg4 arg5 harg5 arg6 harg6 arg7 harg7 arg8 harg8 arg0 X_arg1 X_arg2 X_arg3 X_arg4 X_arg5 k acc).1 = [⟨Rect.unit (s := S8192x256) (k0_off4 k) S512x256.size (k0_off4_inb k), w⟩])
    ∧ ∃ w, (tripL_k0_t1 (F := F) 𝒱 c bd i arg1 harg1 arg2 harg2 arg3 harg3 arg4 harg4 arg5 harg5 arg6 harg6 arg7 harg7 arg8 harg8 arg0 X_arg1 X_arg2 X_arg3 X_arg4 X_arg5 k acc).2 = [⟨Rect.unit (s := S8192x256) (k0_off4 k) S512x256.size (k0_off4_inb k), w⟩] := by
  unfold tripL_k0_t1 trip_k0_t1
  dsimp only
  exact ⟨⟨_, rfl⟩, _, rfl⟩

/-- The blocks stored before trip `k` cover the rows below `512 k` of both scratch buffers. -/
theorem st_cover (k : ℕ) (hk : k ≤ 16) (y : S8192x256.Idx) (hy : (y 0).val < 512 * k) :
    (∃ p ∈ (st_k0_t1 (F := F) 𝒱 c bd i arg1 harg1 arg2 harg2 arg3 harg3 arg4 harg4 arg5 harg5 arg6 harg6 arg7 harg7 arg8 harg8 arg0 X_arg1 X_arg2 X_arg3 X_arg4 X_arg5 init k).2.1, y ∈ p.1.set) ∧ ∃ p ∈ (st_k0_t1 (F := F) 𝒱 c bd i arg1 harg1 arg2 harg2 arg3 harg3 arg4 harg4 arg5 harg5 arg6 harg6 arg7 harg7 arg8 harg8 arg0 X_arg1 X_arg2 X_arg3 X_arg4 X_arg5 init k).2.2, y ∈ p.1.set := by
  induction k with
  | zero => omega
  | succ k ih =>
    have hk' : k < k0_t1_loop.trips := lt_of_lt_of_eq hk (by decide +kernel)
    rw [st_k0_t1_succ (F := F) 𝒱 c bd i arg1 harg1 arg2 harg2 arg3 harg3 arg4 harg4 arg5 harg5 arg6 harg6 arg7 harg7 arg8 harg8 arg0 X_arg1 X_arg2 X_arg3 X_arg4 X_arg5 init ⟨k, hk'⟩]
    dsimp only
    obtain ⟨⟨w, hw⟩, w', hw'⟩ := trip_pieces 𝒱 c bd i arg1 harg1 arg2 harg2 arg3 harg3 arg4 harg4 arg5 harg5 arg6 harg6 arg7 harg7 arg8 harg8 arg0 X_arg1 X_arg2 X_arg3 X_arg4 X_arg5 ⟨k, hk'⟩ (st_k0_t1 (F := F) 𝒱 c bd i arg1 harg1 arg2 harg2 arg3 harg3 arg4 harg4 arg5 harg5 arg6 harg6 arg7 harg7 arg8 harg8 arg0 X_arg1 X_arg2 X_arg3 X_arg4 X_arg5 init k).1
    by_cases h : (y 0).val < 512 * k
    · obtain ⟨⟨p, hp, hm⟩, q, hq, hn⟩ := ih (by omega) h
      exact ⟨⟨p, List.mem_append_right _ hp, hm⟩, q, List.mem_append_right _ hq, hn⟩
    · have hm := mem_block k hk' y (by omega) hy
      dsimp only at hw hw'
      rw [hw, hw']
      exact ⟨⟨_, List.mem_append_left _ (List.mem_singleton_self _), hm⟩, _, List.mem_append_left _ (List.mem_singleton_self _), hm⟩

/-- What the first loop leaves in a scratch buffer does not depend on what it held. -/
theorem writes_junk {arg : Memref sig .tc .vmem S8192x256 .bf16} (harg : arg.IsWhole) (f : BufTy.Contents (Elt F) arg.view.ty) (L : List (View.Piece (Elt F) S8192x256 .bf16))
    (h : ∀ y, ∃ p ∈ L, y ∈ p.1.set) : arg.view.writes (Elt F) f L = arg.view.writes (Elt F) arg.view.junk L :=
  (harg.eq_unread (funext fun y => (View.read_writes_apply_eq_canon arg.view f y L (h y)).trans (View.read_writes_apply_eq_canon arg.view arg.view.junk y L (h y)).symm)).trans
    (harg.eq_unread rfl).symm

/-- The first scratch buffer after the first loop. -/
theorem scratch7 (n : ℕ) (hn : n = 16) (f : BufTy.Contents (Elt F) arg7.view.ty) :
    arg7.view.writes (Elt F) f (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.1 = arg7.view.writes (Elt F) arg7.view.junk (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.1 :=
  writes_junk harg7 f _ fun y => (st_cover 𝒱 c bd i arg1 harg1 arg2 harg2 arg3 harg3 arg4 harg4 arg5 harg5 arg6 harg6 arg7 harg7 arg8 harg8 arg0 X_arg1 X_arg2 X_arg3 X_arg4 X_arg5 init n hn.le y (hn ▸ (y 0).isLt)).1

/-- The second scratch buffer after the first loop. -/
theorem scratch8 (n : ℕ) (hn : n = 16) (f : BufTy.Contents (Elt F) arg8.view.ty) :
    arg8.view.writes (Elt F) f (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.2 = arg8.view.writes (Elt F) arg8.view.junk (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.2 :=
  writes_junk harg8 f _ fun y => (st_cover 𝒱 c bd i arg1 harg1 arg2 harg2 arg3 harg3 arg4 harg4 arg5 harg5 arg6 harg6 arg7 harg7 arg8 harg8 arg0 X_arg1 X_arg2 X_arg3 X_arg4 X_arg5 init n hn.le y (hn ▸ (y 0).isLt)).2

end Cert.Power.Hand
-- ==== Proof.PowerRunA.lean ====
module

public import proofs.«01_k».proof.Proof.PowerCover

@[expose] public section

-- membership in a rectangle of production extents (`View.cover_of_tiled`): the elaborator's structural look
-- recurses once per coordinate of the long axes
set_option maxRecDepth 16384

noncomputable section

namespace Cert.Power.Gen

open Idealize.ShloMosaic Idealize.ShloMosaic.TcCoe Idealize.ShloMosaic.Tactic
open Cert.Power.Hand
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : cond0_0 i)
    (x0 : Vec F S8192x256 .fp8e4m3) (x1 : Vec F S8192x256 .fp8e4m3) (x2 : Vec F S4096x256 .i32) (x3 : Vec F S4096x256 .i32) (x4 : Vec F S240x8192 .bf16) :
    { L5 : List (View.Piece (Elt F) S8192x240 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0_power i arg1 harg1 arg2 harg2 arg3 harg3 arg4 harg4 arg5 harg5 arg6 harg6 arg7 harg7 arg8 harg8) K } := by
  refine ⟨?_, fun E K => ?run⟩
  case run =>
    simp only [cc0_power_eq_skeleton]; unfold cc0_power_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    rw [scratch7 (hn := by decide +kernel) (f := fs0), scratch8 (hn := by decide +kernel) (f := fs1)]
    isplitl [H5]; · iexists _; iexact H5
    isplitl [HS0]
    · iexists _, _; isplitr; swap; · iexact HS0
      ipureintro; rfl
    iexists _, _; isplitr; swap; · iexact HS1
    ipureintro; rfl

end Cert.Power.Gen

end
-- ==== Proof.PowerRunB.lean ====
module

public import proofs.«01_k».proof.Proof.PowerRunA

@[expose] public section

-- membership in a rectangle of production extents (`View.cover_of_tiled`): the elaborator's structural look
-- recurses once per coordinate of the long axes
set_option maxRecDepth 16384

noncomputable section

namespace Cert.Power.Gen

open Idealize.ShloMosaic Idealize.ShloMosaic.TcCoe Idealize.ShloMosaic.Tactic
open Cert.Power.Hand
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 111: 111 of 112), WITH the
    proof that on whole staging memrefs — the inputs' at their contents, the outputs it reads before covering (5) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : ¬cond0_0 i)
    (x0 : Vec F S8192x256 .fp8e4m3) (x1 : Vec F S8192x256 .fp8e4m3) (x2 : Vec F S4096x256 .i32) (x3 : Vec F S4096x256 .i32) (x4 : Vec F S240x8192 .bf16) (xo5 : Vec F S8192x240 .f32) :
    { L5 : List (View.Piece (Elt F) S8192x240 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0_power i arg1 harg1 arg2 harg2 arg3 harg3 arg4 harg4 arg5 harg5 arg6 harg6 arg7 harg7 arg8 harg8) K } := by
  refine ⟨?_, fun E K => ?run⟩
  case run =>
    simp only [cc0_power_eq_skeleton]; unfold cc0_power_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    rw [scratch7 (hn := by decide +kernel) (f := fs0), scratch8 (hn := by decide +kernel) (f := fs1)]
    isplitl [H5]; · iexists _; iexact H5
    isplitl [HS0]
    · iexists _, _; isplitr; swap; · iexact HS0
      ipureintro; rfl
    iexists _, _; isplitr; swap; · iexact HS1
    ipureintro; rfl

end Cert.Power.Gen

end
-- ==== Proof.PowerFrame.lean ====
module

public import proofs.«01_k».proof.Proof.PowerRunB
public import Idealize.ShloMosaic.Lib.Claim

@[expose] public section

-- membership in a rectangle of production extents (`View.cover_of_tiled`): the elaborator's structural look
-- recurses once per coordinate of the long axes
set_option maxRecDepth 16384

noncomputable section

namespace Cert.Power.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 are of SEVERAL sizes (17 stores of `S512x240`, `S8192x240`): cut into blocks of `![512, 240]` they tile its block (checked by the kernel's evaluation: Lib/Ring.lean `Piece.tiledBy`), so they cover it. -/
theorem cover0_A_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : cond0_0 i)
    (x0 : Vec F S8192x256 .fp8e4m3) (x1 : Vec F S8192x256 .fp8e4m3) (x2 : Vec F S4096x256 .i32) (x3 : Vec F S4096x256 .i32) (x4 : Vec F S240x8192 .bf16) (y : S8192x240.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledBy (kernelRun0_A c i arg1 harg1 arg2 harg2 arg3 harg3 arg4 harg4 arg5 harg5 arg6 harg6 arg7 harg7 arg8 harg8 hc0 x0 x1 x2 x3 x4).1 ![512, 240] (by sl_kernel_rfl) y

/-- What case A leaves in output 5's staging buffer: its pieces read back over junk. -/
def out0_A_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : cond0_0 i)
    (x0 : Vec F S8192x256 .fp8e4m3) (x1 : Vec F S8192x256 .fp8e4m3) (x2 : Vec F S4096x256 .i32) (x3 : Vec F S4096x256 .i32) (x4 : Vec F S240x8192 .bf16) : Vec F S8192x240 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3 x4).1)

/-- Case B's pieces for output 5 tile its block (16 stores of `S512x240`, checked by the kernel's evaluation: Lib/Ring.lean `Piece.tiledL`, linear in the pieces, through a loop's `@[irreducible]` trip theorem too), so they cover it. -/
theorem cover0_B_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : ¬cond0_0 i)
    (x0 : Vec F S8192x256 .fp8e4m3) (x1 : Vec F S8192x256 .fp8e4m3) (x2 : Vec F S4096x256 .i32) (x3 : Vec F S4096x256 .i32) (x4 : Vec F S240x8192 .bf16) (xo5 : Vec F S8192x240 .f32) (y : S8192x240.Idx) :
    ∃ pc ∈ (kernelRun0_B c i arg1 harg1 arg2 harg2 arg3 harg3 arg4 harg4 arg5 harg5 arg6 harg6 arg7 harg7 arg8 harg8 hc0 x0 x1 x2 x3 x4 xo5).1, y ∈ pc.1.set :=
  View.cover_of_tiledL (kernelRun0_B c i arg1 harg1 arg2 harg2 arg3 harg3 arg4 harg4 arg5 harg5 arg6 harg6 arg7 harg7 arg8 harg8 hc0 x0 x1 x2 x3 x4 xo5).1 S512x240.size (by sl_kernel_rfl) y

/-- What case B leaves in output 5's staging buffer: its pieces read back over junk. -/
def out0_B_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : ¬cond0_0 i)
    (x0 : Vec F S8192x256 .fp8e4m3) (x1 : Vec F S8192x256 .fp8e4m3) (x2 : Vec F S4096x256 .i32) (x3 : Vec F S4096x256 .i32) (x4 : Vec F S240x8192 .bf16) (xo5 : Vec F S8192x240 .f32) : Vec F S8192x240 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 x4 xo5).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8192x240 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 112 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 112 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 112 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 112 = 0) (d) :
    (dats m 0 c).before 5 t d = (outsAt0 m c (t.val - 1) (Nat.lt_of_le_of_lt (Nat.sub_le _ _) t.isLt)) := by
  have hN : t.val < 112 := lt_of_lt_of_eq t.isLt (show cfg0.N = 112 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 112 := lt_of_lt_of_eq t.isLt (show cfg0.N = 112 from N_0)
  by_cases h0 : t.val % 112 = 0
  · rw [outsAt0_A m c t h0]
    unfold out0_A_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _ _)
  · rw [outsAt0_B m c t h0]
    simp only [before0_5_B m c t h0]
    unfold out0_B_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Power`'s statement (Defs.lean) at any `F` — Proof.lean cites it at `Bits`:
    `theorem Cert.Proof.claim : Cert.Claim := ⟨Cert.Power.Gen.facts, fun m ρ _ => Cert.Power.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Power.Gen

end
-- ==== Proof.Deq.lean ====
module

public import proofs.«01_k».proof.Proof.Gen.LastIdeal.Skeleton
public import proofs.«01_k».proof.Proof.Gen.LastRefIdeal.Skeleton
public import proofs.«01_k».proof.Proof.Gen.LastIdeal.Value
public import Idealize.ShloMosaic.Lib.Pipeline.Value
public import Idealize.ShloMosaic.Lib.Pointwise
public import Idealize.ShloMosaic.Lib.ValueIdxCore
public import Idealize.ShloMosaic.Lib.BitcastPair
public import Idealize.ShloMosaic.PureOps.Ideal

@[expose] public section

noncomputable section

namespace Cert.Deq

open Idealize.ShloMosaic
open Cert.LastIdeal Cert.LastIdeal.Gen

/-- The dequantised matrix: entry `(m, n)` is code `(m, n)` times the scale of its row and group of 128 columns. -/
def deq (c : FVec Ideal S8192x28672 .fp8e4m3) (s : FVec Ideal Cert.LastRefIdeal.S8192x224 .bf16) : FVec Ideal S8192x28672 .bf16 :=
  fun j => (c j * s (ix2 (j 0) ⟨(j 1).val / 128, by have := ValueIdx.idx2_lt1 j; omega⟩) : EReal)

/-- The real number a bf16 or fp8 or f32 entry denotes, with the indices as naturals (zero outside the array). -/
def re {a b : ℕ} (x : (⟨2, ![a, b]⟩ : Shape).Idx → EReal) (i j : ℕ) : ℝ :=
  if h : i < a ∧ j < b then (x (ix2 ⟨i, h.1⟩ ⟨j, h.2⟩)).toReal else 0

/-- An array all of whose entries are real numbers. -/
def Real {s : Shape} (x : s.Idx → EReal) : Prop := ∀ j, ∃ r : ℝ, x j = (r : EReal)

/-- An entry of a real array is the number `re` reads there. -/
theorem eq_re {a b : ℕ} {x : (⟨2, ![a, b]⟩ : Shape).Idx → EReal} (h : Real x) (i : Fin a) (j : Fin b) :
    x (ix2 i j) = (re x i.val j.val : EReal) := by
  unfold re
  rw [dif_pos ⟨i.isLt, j.isLt⟩]
  obtain ⟨r, hr⟩ := h (ix2 i j)
  rw [hr]; rfl

/-- Equal entries denote equal numbers. -/
theorem re_congr {a b a' b' : ℕ} {x : (⟨2, ![a, b]⟩ : Shape).Idx → EReal} {y : (⟨2, ![a', b']⟩ : Shape).Idx → EReal}
    {i : Fin a} {j : Fin b} {i' : Fin a'} {j' : Fin b'} (h : x (ix2 i j) = y (ix2 i' j')) : re x i.val j.val = re y i'.val j'.val := by
  unfold re
  rw [dif_pos ⟨i.isLt, j.isLt⟩, dif_pos ⟨i'.isLt, j'.isLt⟩]
  exact congrArg EReal.toReal h

/-- A sum of real numbers is a real number. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A bf16 pattern whose exponent is not all ones denotes a real number. -/
theorem bf16_real (w : BitVec 16) (h : w.setWidth 32 &&& 32640#32 ≠ 32640#32) : ∃ r : ℝ, Ideal.ofBits .bf16 w = (r : EReal) := by
  have hx : ¬ (w.extractLsb' 7 8).toNat = 255 := by
    intro e
    apply h
    have : w.extractLsb' 7 8 = 255#8 := BitVec.eq_of_toNat_eq e
    revert this
    clear e h
    revert w
    simp only [BitVec.extractLsb', BitVec.ofNat_eq_ofNat]
    intro w hw
    apply BitVec.eq_of_getLsbD_eq
    intro i hi
    have hb : ∀ k < 8, w.getLsbD (7 + k) = true := by
      intro k hk
      have := congrArg (fun v : BitVec 8 => v.getLsbD k) hw
      simp only [BitVec.getLsbD_ofNat, Nat.testBit_shiftRight, BitVec.testBit_toNat] at this
      rw [show (decide (k < 8) && w.getLsbD (7 + k)) = w.getLsbD (7 + k) by simp [hk]] at this
      rw [this]; interval_cases k <;> rfl
    simp only [BitVec.getLsbD_and, BitVec.getLsbD_setWidth]
    by_cases h7 : 7 ≤ i ∧ i < 15
    · obtain ⟨k, rfl⟩ : ∃ k, i = 7 + k := ⟨i - 7, by omega⟩
      rw [hb k (by omega)]; simp; intro; omega
    · have : (32640#32).getLsbD i = false := by interval_cases i <;> first | rfl | omega
      rw [this]; simp
  unfold Ideal.ofBits Ideal.ieee
  simp only [show (2 : ℕ) ^ 8 - 1 = 255 from rfl, if_neg hx]
  split <;> exact ⟨_, rfl⟩

/-- An fp8 (e4m3) code other than the two NaN patterns denotes a real number. -/
theorem fp8_real (w : BitVec 8) (h : w.setWidth 32 &&& 127#32 ≠ 127#32) : ∃ r : ℝ, Ideal.ofBits .fp8e4m3 w = (r : EReal) := by
  have hx : ¬ ((w.extractLsb' 3 4).toNat = 15 ∧ (w.extractLsb' 0 3).toNat = 7) := by
    revert h; revert w; decide +kernel
  unfold Ideal.ofBits Ideal.e4m3fn
  simp only [if_neg hx]
  split <;> exact ⟨_, rfl⟩

/-- The dequantised matrix of real codes and scales is real. -/
theorem deq_real {c s} (hc : Real (s := S8192x28672) c) (hs : Real (s := Cert.LastRefIdeal.S8192x224) s) :
    Real (s := S8192x28672) (deq c s) := fun j => by
  obtain ⟨x, hx⟩ := hc j
  obtain ⟨y, hy⟩ := hs (ix2 (j 0) ⟨(j 1).val / 128, by have := ValueIdx.idx2_lt1 j; omega⟩)
  exact ⟨x * y, by unfold deq; rw [hx, hy, EReal.coe_mul]⟩

/-- The lane the kernel gathers scale `p` of grid point `t` from, within its tile of 128. -/
theorem lane (t : Fin 112) (p : Fin 2) :
    ((if (Scalar.cmpi .slt (Scalar.addi (Scalar.andi (Scalar.muli (BitVec.ofNat 32 t.val) 2#32) 127#32) (BitVec.ofNat 32 p.val)) 0#32) = 1#1
      then (Scalar.addi (Scalar.addi (Scalar.andi (Scalar.muli (BitVec.ofNat 32 t.val) 2#32) 127#32) (BitVec.ofNat 32 p.val)) 128#32)
      else (Scalar.addi (Scalar.andi (Scalar.muli (BitVec.ofNat 32 t.val) 2#32) 127#32) (BitVec.ofNat 32 p.val)) : BitVec 32).toNat) % 128
      = 2 * t.val % 128 + p.val := by
  revert t p; decide +kernel

/-- The index vector's one value: the lane word, wrapped if negative. -/
def wrap (b : BitVec 32) : BitVec 32 := if Scalar.cmpi .slt b 0#32 = 1#1 then Scalar.addi b 128#32 else b

/-- One group of 128 columns of a chunk: the codes times the scales gathered from lane `wrap b` of the words, each word
    holding the bf16 scales of two rows. -/
def piece (b : BitVec 32) (w : Vec Ideal S256x128 .i32) (c : Vec Ideal S512x128 .fp8e4m3) : FVec Ideal S512x128 .bf16 :=
  mulf (extf .bf16 c bitsLt_fp8e4m3_bf16)
    (bitcastToFloat .bf16 (bitcast S512x128 16 (dynamicGather 1 w (fun _ => wrap b)) bitcasts_S256x128_w32_S512x128_w16))

/-- A group as the kernel writes it. -/
theorem piece_eq (b : BitVec 32) (w : Vec Ideal S256x128 .i32) (c : Vec Ideal S512x128 .fp8e4m3) :
    mulf (extf .bf16 (shapeCast S512x128 c shapeCasts_S512x128_S512x128) bitsLt_fp8e4m3_bf16)
      (bitcastToFloat (F := Ideal) .bf16 (bitcast S512x128 16 (dynamicGather 1 (shapeCast S256x128 w shapeCasts_S256x128_S256x128)
        (shapeCast S256x128 (shapeCast S256x128x1 (select (cmpi .slt (broadcast S256x128 b) (broadcast S256x128 0#32))
          (addi (broadcast S256x128 b) (broadcast S256x128 128#32)) (broadcast S256x128 b)) shapeCasts_S256x128_S256x128x1)
          shapeCasts_S256x128x1_S256x128)) bitcasts_S256x128_w32_S512x128_w16)) = piece b w c := by
  rw [shapeCast_self, shapeCast_self]
  have : (shapeCast S256x128 (shapeCast S256x128x1 (select (cmpi .slt (broadcast S256x128 b) (broadcast S256x128 0#32))
          (addi (broadcast S256x128 b) (broadcast S256x128 128#32)) (broadcast S256x128 b)) shapeCasts_S256x128_S256x128x1)
          shapeCasts_S256x128x1_S256x128) = fun _ => wrap b := by
    funext j
    show (if _ then _ else _ : BitVec 32) = _
    rfl
  rw [this]; rfl

/-- The kernel's dequantised chunk is its two groups side by side. -/
theorem pay3_eq (a : BitVec 32) (w : Vec Ideal S256x128 .i32) (lo hi : Vec Ideal S512x128 .fp8e4m3) :
    k0_pay3 (F := Ideal) a w lo hi
      = concatenate S512x256 1
          [⟨S512x128, piece (Scalar.addi (Scalar.andi (Scalar.muli a 2#32) 127#32) 0#32) w lo⟩,
           ⟨S512x128, piece (Scalar.addi (Scalar.andi (Scalar.muli a 2#32) 127#32) 1#32) w hi⟩]
          concatenates_S512x128_S512x128_S512x256_d1 := by
  unfold k0_pay3
  exact congrArg₂ (fun x y => concatenate S512x256 1 [⟨S512x128, x⟩, ⟨S512x128, y⟩] concatenates_S512x128_S512x128_S512x256_d1)
    (piece_eq _ w lo) (piece_eq _ w hi)

/-- An entry of a group: the code times the bf16 half of the gathered word that belongs to the row. -/
theorem piece_apply (b : BitVec 32) (w : Vec Ideal S256x128 .i32) (c : Vec Ideal S512x128 .fp8e4m3) (r : Fin 512) (j : Fin 128)
    (l : Fin 128) (hl : (wrap b).toNat % 128 = l.val) :
    piece b w c (ix2 r j)
      = (c (ix2 r j) * Ideal.ofBits .bf16 ((w (ix2 ⟨r.val / 2, by omega⟩ l)).extractLsb' (16 * (r.val % 2)) 16) : EReal) := by
  show (c (ix2 r j) * Ideal.ofBits .bf16 (bitcast S512x128 16 (dynamicGather 1 w (fun _ => wrap b)) bitcasts_S256x128_w32_S512x128_w16 (ix2 r j)) : EReal) = _
  rw [bitcast_32_16]
  congr 3
  show w _ = w _
  congr 1
  funext a
  match a with
  | ⟨0, _⟩ => rfl
  | ⟨1, _⟩ => exact Fin.ext hl

/-- The kernel's dequantised chunk `k` at grid point `t` is rows `512 k …` and columns `256 t …` of the dequantised
    matrix, when its loads are those of the codes and of the packed scale words. -/
theorem chunk_eq (c : FVec Ideal S8192x28672 .fp8e4m3) (s : FVec Ideal Cert.LastRefIdeal.S8192x224 .bf16) (W : IVec S4096x256 32)
    (hW : ∀ (r : Fin 4096) (g : Fin 224) (p : Fin 2),
      Ideal.ofBits .bf16 ((W (ix2 r ⟨g.val, by omega⟩)).extractLsb' (16 * p.val) 16) = s (ix2 ⟨2 * r.val + p.val, by omega⟩ g))
    (t : Fin 112) (k : Fin 16) (w : Vec Ideal S256x128 .i32) (lo hi : Vec Ideal S512x128 .fp8e4m3)
    (hw : ∀ (r : Fin 256) (l : Fin 128), w (ix2 r l) = W (ix2 ⟨256 * k.val + r.val, by omega⟩ ⟨2 * t.val - 2 * t.val % 128 + l.val, by omega⟩))
    (hlo : ∀ (r : Fin 512) (l : Fin 128), lo (ix2 r l) = c (ix2 ⟨512 * k.val + r.val, by omega⟩ ⟨256 * t.val + l.val, by omega⟩))
    (hhi : ∀ (r : Fin 512) (l : Fin 128), hi (ix2 r l) = c (ix2 ⟨512 * k.val + r.val, by omega⟩ ⟨256 * t.val + 128 + l.val, by omega⟩))
    (r : Fin 512) (j : Fin 256) :
    k0_pay3 (F := Ideal) (BitVec.ofNat 32 t.val) w lo hi (ix2 r j)
      = deq c s (ix2 ⟨512 * k.val + r.val, by omega⟩ ⟨256 * t.val + j.val, by omega⟩) := by
  have key : ∀ (q : Fin 2) (l : Fin 128) (x : Vec Ideal S512x128 .fp8e4m3),
      x (ix2 r l) = c (ix2 ⟨512 * k.val + r.val, by omega⟩ ⟨256 * t.val + 128 * q.val + l.val, by omega⟩) →
      piece (Scalar.addi (Scalar.andi (Scalar.muli (BitVec.ofNat 32 t.val) 2#32) 127#32) (BitVec.ofNat 32 q.val)) w x (ix2 r l)
        = deq c s (ix2 ⟨512 * k.val + r.val, by omega⟩ ⟨256 * t.val + 128 * q.val + l.val, by omega⟩) := by
    intro q l x hx
    have hlane := lane t q
    rw [piece_apply _ w x r l ⟨2 * t.val % 128 + q.val, by omega⟩ hlane, hx, hw]
    unfold deq
    show (c _ * Ideal.ofBits .bf16 _ : EReal) = c _ * s _
    congr 1
    have := hW ⟨256 * k.val + r.val / 2, by omega⟩ ⟨2 * t.val + q.val, by omega⟩ ⟨r.val % 2, by omega⟩
    rw [show (ix2 (n0 := 4096) (n1 := 256) ⟨256 * k.val + r.val / 2, by omega⟩ ⟨2 * t.val - 2 * t.val % 128 + (2 * t.val % 128 + q.val), by omega⟩)
      = ix2 ⟨256 * k.val + r.val / 2, by omega⟩ ⟨2 * t.val + q.val, by omega⟩ from by congr 2; omega]
    refine this.trans ?_
    congr 2
    · apply Fin.ext; show 2 * (256 * k.val + r.val / 2) + r.val % 2 = 512 * k.val + r.val; omega
    · apply Fin.ext; show 2 * t.val + q.val = (256 * t.val + 128 * q.val + l.val) / 128; omega
  rw [pay3_eq]
  by_cases hj : j.val < 128
  · refine (concatenate_pair_apply_left (t := S512x256) (s₁ := S512x128) (s₂ := S512x128) 1 _ _ _ _ rfl (ix2 r ⟨j.val, hj⟩)
      (fun b => by match b with | ⟨0, _⟩ => rfl | ⟨1, _⟩ => rfl)).trans ?_
    refine (key 0 ⟨j.val, hj⟩ lo ?_).trans ?_
    · rw [hlo]; rfl
    · rfl
  · refine (concatenate_pair_apply_right (t := S512x256) (s₁ := S512x128) (s₂ := S512x128) 1 _ _ _ _ rfl rfl (ix2 r ⟨j.val - 128, by omega⟩)
      (fun b hb => by match b with | ⟨0, _⟩ => rfl | ⟨1, _⟩ => exact absurd rfl hb)
      (by show j.val - 128 + 128 = j.val; omega)).trans ?_
    refine (key 1 ⟨j.val - 128, by omega⟩ hi ?_).trans ?_
    · rw [hhi]; rfl
    · congr 2; apply Fin.ext; show 256 * t.val + 128 * 1 + (j.val - 128) = 256 * t.val + j.val; omega

end Cert.Deq

end
-- ==== Proof.LastHost.lean ====
module

public import proofs.«01_k».proof.Proof.Deq
public import Idealize.ShloMosaic.Lib.KernelVsHost

@[expose] public section

noncomputable section

namespace Cert.LastIdeal.Hand

open Cert.LastIdeal Cert.LastIdeal.Gen Idealize.ShloMosaic Idealize.ShloMosaic.TcCoe Idealize.SL.Sem

/-- The host's packing of the scales: rows `2 r` and `2 r + 1` in the low and the high half of word row `r`, with zero columns to 256. -/
def words (s : IVec S8192x224 16) : IVec S4096x256 32 :=
  pad S4096x256 ![0, 0] ![0, 32] ![0, 0]
    (ori (shapeCast S4096x224 (extractStridedSlice S4096x1x224 ![0, 0, 0] (extui 32 (shapeCast S4096x2x224 s shapeCasts_S8192x224_S4096x2x224) natLt_16_32) slices_S4096x2x224_S4096x1x224_0_0_0) shapeCasts_S4096x1x224_S4096x224)
      (Host.shli (shapeCast S4096x224 (extractStridedSlice S4096x1x224 ![0, 1, 0] (extui 32 (shapeCast S4096x2x224 s shapeCasts_S8192x224_S4096x2x224) natLt_16_32) slices_S4096x2x224_S4096x1x224_0_1_0) shapeCasts_S4096x1x224_S4096x224)
        (broadcastInDim S4096x224 ![] bcast_S_S4096x224 (constantI S_ 32 16#32))))
    (constantI S_ 32 0#32) pads_S4096x224_S4096x256_000_0320 h_S_

/-- One of the two rows of a pair, widened and with the row axis dropped, at an index. -/
theorem half_apply (s : IVec S8192x224 16) (p : ℕ) (hp : p < 2) (h : S4096x2x224.Slices ![0, p, 0] S4096x1x224) (r : Fin 4096) (g : Fin 224) :
    shapeCast S4096x224 (extractStridedSlice S4096x1x224 ![0, p, 0] (extui 32 (shapeCast S4096x2x224 s shapeCasts_S8192x224_S4096x2x224) natLt_16_32) h) shapeCasts_S4096x1x224_S4096x224 (ix2 r g)
      = (s (ix2 ⟨2 * r.val + p, by omega⟩ g)).setWidth 32 := by
  rw [shapeCast_apply _ _ (ix2 r g) (ix3 r 0 g) (by rw [Shape.rowMajor_val_three, Shape.rowMajor_val_two]; simp [ix3, ix2]),
    extractStridedSlice_apply _ _ h (ix3 r 0 g) (ix3 r ⟨p, hp⟩ g) (fun a => by match a with | ⟨0, _⟩ => simp [ix3] | ⟨1, _⟩ => simp [ix3] | ⟨2, _⟩ => simp [ix3])]
  show (shapeCast S4096x2x224 s shapeCasts_S8192x224_S4096x2x224 (ix3 r ⟨p, hp⟩ g)).setWidth 32 = _
  rw [shapeCast_apply _ _ (ix3 r ⟨p, hp⟩ g) (ix2 ⟨2 * r.val + p, by omega⟩ g) (by
    rw [Shape.rowMajor_val_three, Shape.rowMajor_val_two]; simp [ix3, ix2]; omega)]

/-- Each packed word holds the scales of its two rows. -/
theorem words_apply (s : IVec S8192x224 16) (r : Fin 4096) (g : Fin 224) (p : Fin 2) :
    (words s (ix2 r ⟨g.val, by omega⟩)).extractLsb' (16 * p.val) 16 = s (ix2 ⟨2 * r.val + p.val, by omega⟩ g) := by
  have hw : words s (ix2 r ⟨g.val, by omega⟩)
      = (s (ix2 ⟨2 * r.val + 0, by omega⟩ g)).setWidth 32 ||| ((s (ix2 ⟨2 * r.val + 1, by omega⟩ g)).setWidth 32 <<< 16) := by
    unfold words
    rw [pad_apply_of_inside _ _ _ _ _ _ _ _ (ix2 r g) (fun a => by match a with | ⟨0, _⟩ => simp [ix2] | ⟨1, _⟩ => simp [ix2])]
    have h0 := half_apply s 0 (by omega) slices_S4096x2x224_S4096x1x224_0_0_0 r g
    have h1 := half_apply s 1 (by omega) slices_S4096x2x224_S4096x1x224_0_1_0 r g
    simp only [ori, Host.shli, h0, h1]
    rfl
  rw [hw]
  match p with
  | ⟨0, _⟩ =>
    ext i hi
    have h32 : i < 32 := by omega
    simp [h32, hi, BitVec.getLsbD_eq_getElem hi]
  | ⟨1, _⟩ =>
    ext i hi
    have h32 : i < 32 := by omega
    have h48 : 16 + i < 32 := by omega
    simp [h32, h48, BitVec.getLsbD_eq_getElem hi]

variable (m : (ℓ : Loc nD τ sig) → Buf (Elt Ideal) ℓ) (c : Dev nD)

/-- The kernel's first operand is the codes of the first weight. -/
theorem V_v0 : V m c main_v0 = bitcastToFloat (F := Ideal) .fp8e4m3 (m ((c : Thread nD τ).loc main_arg0)) := by
  unfold V
  simp only [hostOps0, hostOps0_1, hostOps0_2, hostOps0_3, List.flatten_cons, List.flatten_nil, List.append_nil, List.cons_append, List.nil_append]
  after_results

/-- The kernel's second operand is the codes of the second weight. -/
theorem V_v1 : V m c main_v1 = bitcastToFloat (F := Ideal) .fp8e4m3 (m ((c : Thread nD τ).loc main_arg2)) := by
  unfold V
  simp only [hostOps0, hostOps0_1, hostOps0_2, hostOps0_3, List.flatten_cons, List.flatten_nil, List.append_nil, List.cons_append, List.nil_append]
  after_results

/-- The kernel's third operand is the packed scales of the first weight. -/
theorem V_v12 : V m c main_v12 = words (m ((c : Thread nD τ).loc main_arg1)) := by
  unfold V
  simp only [hostOps0, hostOps0_1, hostOps0_2, hostOps0_3, List.flatten_cons, List.flatten_nil, List.append_nil, List.cons_append, List.nil_append]
  after_results
  rfl

/-- The kernel's fourth operand is the packed scales of the second weight. -/
theorem V_v23 : V m c main_v23 = words (m ((c : Thread nD τ).loc main_arg3)) := by
  unfold V
  simp only [hostOps0, hostOps0_1, hostOps0_2, hostOps0_3, List.flatten_cons, List.flatten_nil, List.append_nil, List.cons_append, List.nil_append]
  after_results
  rfl

end Cert.LastIdeal.Hand
-- ==== Proof.Mm.lean ====
module

public import proofs.«01_k».proof.Proof.Deq
public import Idealize.ShloMosaic.Lib.MatmulPlain

@[expose] public section

noncomputable section

namespace Cert.Deq

open Idealize.ShloMosaic

/-- A plain product of real matrices over a zero accumulator is the real sum of products. -/
theorem mm {M K N : ℕ} {φ₁ φ₂ : FTy} (D : DotDims ⟨2, ![M, K]⟩ ⟨2, ![K, N]⟩ ⟨2, ![M, N]⟩) (hD : D = DotDims.plain M K N) (prec : Option ContractPrecision)
    (l : FVec Ideal ⟨2, ![M, K]⟩ φ₁) (r : FVec Ideal ⟨2, ![K, N]⟩ φ₂) (hl : Deq.Real l) (hr : Deq.Real r) (a : Fin M) (b : Fin N) :
    FloatOps.matmul D prec l r (constant _ .f32 0x00000000#32) (ix2 a b) = ((∑ k ∈ Finset.range K, re l a k * re r k b : ℝ) : EReal) := by
  subst hD
  refine (Idealize.ShloMosaic.Ideal.matmul_plain_apply prec l r _ a b).trans ?_
  have h0 : (constant (F := Ideal) ⟨2, ![M, N]⟩ .f32 0x00000000#32 (ix2 a b) : EReal) = 0 := Idealize.ShloMosaic.Ideal.ofBits_zero_f32
  rw [Finset.sum_range, ← coe_sum]
  refine (congrArg₂ (· + ·) h0 rfl).trans ((zero_add _).trans (Finset.sum_congr rfl fun k _ => ?_))
  rw [EReal.coe_mul]
  exact congrArg₂ (· * ·) (eq_re hl a k) (eq_re hr k b)

end Cert.Deq
-- ==== Proof.LastStep.lean ====
module

public import proofs.«01_k».proof.Proof.LastHost
public import proofs.«01_k».proof.Proof.Mm
public import Idealize.ShloMosaic.Lib.Pipeline.ValueKit.Tiles

@[expose] public section

noncomputable section

namespace Cert.LastIdeal.Hand

open Cert.LastIdeal Cert.LastIdeal.Gen Idealize.ShloMosaic Idealize.ShloMosaic.TcCoe Idealize.SL.Sem
open Cert.Deq

/-- Where the scale words are loaded. -/
theorem off1_eq : ∀ (i : grid0.Coords) (k : Fin k0_t1_loop.trips), ∀ a, k0_off1 i k a = ![256 * k.val, 2 * (i 0).val - 2 * (i 0).val % 128] a := by decide +kernel
/-- Where the left codes are loaded. -/
theorem off2_eq : ∀ k : Fin k0_t1_loop.trips, ∀ a, k0_off2 k a = ![512 * k.val, 0] a := by decide +kernel
/-- Where the right codes are loaded. -/
theorem off3_eq : ∀ k : Fin k0_t1_loop.trips, ∀ a, k0_off3 k a = ![512 * k.val, 128] a := by decide +kernel
/-- Where the columns of the sketch are loaded. -/
theorem off4_eq : ∀ k : Fin k0_t1_loop.trips, ∀ a, k0_off4 k a = ![0, 512 * k.val] a := by decide +kernel

/-- A trip's contribution: the sketch columns times the first chunk less the sketch columns times the second. -/
theorem pay4_eq (v48 : FVec Ideal S512x256 .bf16) (a : BitVec 32) (v57 : Vec Ideal S256x128 .i32) (v71 v87 : Vec Ideal S512x128 .fp8e4m3) (v93 : Vec Ideal S240x512 .bf16) :
    k0_pay4 v48 (Scalar.muli a 2#32) v57 v71 v87 v93
      = subf (matmul dot_S240x512_S512x256_S240x256_1_0_0_1_n_n none (φ₁ := .bf16) v93 v48 (constant S240x256 .f32 0x00000000#32))
          (matmul dot_S240x512_S512x256_S240x256_1_0_0_1_n_n none (φ₁ := .bf16) v93 (k0_pay3 (F := Ideal) a v57 v71 v87) (constant S240x256 .f32 0x00000000#32)) := rfl

variable (𝒱 : Variants) (c : Dev nD) (bd : Option 𝒱.V) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S240x256 .f32) (harg6 : arg6.IsWhole) (arg0 : BitVec 32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)

/-- What one trip yields, of the arrays the staging buffers hold. -/
theorem trip_eq (k : Fin k0_t1_loop.trips) (acc : FVec Ideal S240x256 .f32) :
    tripR_k0_t1 (F := Ideal) 𝒱 c bd i arg1 harg1 arg2 harg2 arg3 harg3 arg4 harg4 arg5 harg5 arg6 harg6 arg0 X_arg1 X_arg2 X_arg3 X_arg4 X_arg5 k acc
      = k0_pay2 (F := Ideal) acc (k0_pay4
          (k0_pay3 arg0 (View.ld (arg3.view.read (Elt Ideal) X_arg3) (Rect.unit (s := S4096x256) (k0_off1 i k) S256x128.size (k0_off1_inb i k)))
            (View.ld (arg1.view.read (Elt Ideal) X_arg1) (Rect.unit (s := S8192x256) (k0_off2 k) S512x128.size (k0_off2_inb k)))
            (View.ld (arg1.view.read (Elt Ideal) X_arg1) (Rect.unit (s := S8192x256) (k0_off3 k) S512x128.size (k0_off3_inb k))))
          (Scalar.muli arg0 2#32)
          (View.ld (arg4.view.read (Elt Ideal) X_arg4) (Rect.unit (s := S4096x256) (k0_off1 i k) S256x128.size (k0_off1_inb i k)))
          (View.ld (arg2.view.read (Elt Ideal) X_arg2) (Rect.unit (s := S8192x256) (k0_off2 k) S512x128.size (k0_off2_inb k)))
          (View.ld (arg2.view.read (Elt Ideal) X_arg2) (Rect.unit (s := S8192x256) (k0_off3 k) S512x128.size (k0_off3_inb k)))
          (View.ld (arg5.view.read (Elt Ideal) X_arg5) (Rect.unit (s := S240x8192) (k0_off4 k) S240x512.size (k0_off4_inb k)))) := by
  unfold tripR_k0_t1 trip_k0_t1
  dsimp only
  rfl

/-- `X` is column block `t`, of 256 columns, of the codes `C`. -/
def Block (t : Fin 112) (X : Vec Ideal S8192x256 .fp8e4m3) (C : FVec Ideal S8192x28672 .fp8e4m3) : Prop :=
  ∀ (r : Fin 8192) (l : Fin 256), X (ix2 r l) = C (ix2 r ⟨256 * t.val + l.val, by omega⟩)

/-- The words `W` hold the scales `S`, two rows to a word row. -/
def Packed (W : IVec S4096x256 32) (S : FVec Ideal Cert.LastRefIdeal.S8192x224 .bf16) : Prop :=
  ∀ (r : Fin 4096) (g : Fin 224) (p : Fin 2),
    Ideal.ofBits .bf16 ((W (ix2 r ⟨g.val, by omega⟩)).extractLsb' (16 * p.val) 16) = S (ix2 ⟨2 * r.val + p.val, by omega⟩ g)

section Value

variable (t : Fin 112) (hi : (i 0).val = t.val) (h0 : arg0 = BitVec.ofNat 32 t.val)
  (C1 C2 : FVec Ideal S8192x28672 .fp8e4m3) (S1 S2 : FVec Ideal Cert.LastRefIdeal.S8192x224 .bf16) (Q : FVec Ideal S240x8192 .bf16)
  (h1 : Block t (arg1.view.read (Elt Ideal) X_arg1) C1)
  (h2 : Block t (arg2.view.read (Elt Ideal) X_arg2) C2)
  (h3 : Packed (arg3.view.read (Elt Ideal) X_arg3) S1)
  (h4 : Packed (arg4.view.read (Elt Ideal) X_arg4) S2)
  (h5 : arg5.view.read (Elt Ideal) X_arg5 = Q)
  (hD1 : Deq.Real (deq C1 S1)) (hD2 : Deq.Real (deq C2 S2)) (hQ : Deq.Real Q)

include hi

/-- A chunk dequantised in trip `k` at grid point `t`, from the block of codes and the packed scales. -/
theorem chunk (X : Vec Ideal S8192x256 .fp8e4m3) (W : IVec S4096x256 32) (C : FVec Ideal S8192x28672 .fp8e4m3) (S : FVec Ideal Cert.LastRefIdeal.S8192x224 .bf16)
    (hX : Block t X C) (hW : Packed W S)
    (k : Fin 16) (r : Fin 512) (j : Fin 256) :
    k0_pay3 (F := Ideal) (BitVec.ofNat 32 t.val) (View.ld W (Rect.unit (s := S4096x256) (k0_off1 i k) S256x128.size (k0_off1_inb i k)))
        (View.ld X (Rect.unit (s := S8192x256) (k0_off2 k) S512x128.size (k0_off2_inb k)))
        (View.ld X (Rect.unit (s := S8192x256) (k0_off3 k) S512x128.size (k0_off3_inb k))) (ix2 r j)
      = deq C S (ix2 ⟨512 * k.val + r.val, by omega⟩ ⟨256 * t.val + j.val, by omega⟩) := by
  refine chunk_eq C S W hW t k _ _ _ ?_ ?_ ?_ r j
  · intro r' l
    refine View.ld_unit_apply_of _ _ _ _ _ _ fun a => ?_
    rw [off1_eq i k a, hi]
    match a with | ⟨0, _⟩ => rfl | ⟨1, _⟩ => rfl
  · intro r' l
    refine (View.ld_unit_apply_of _ _ _ _ _ (ix2 ⟨512 * k.val + r'.val, by omega⟩ ⟨l.val, by omega⟩) fun a => ?_).trans (hX _ _)
    rw [off2_eq k a]
    match a with | ⟨0, _⟩ => rfl | ⟨1, _⟩ => exact (Nat.zero_add _).symm
  · intro r' l
    refine (View.ld_unit_apply_of _ _ _ _ _ (ix2 ⟨512 * k.val + r'.val, by omega⟩ ⟨128 + l.val, by omega⟩) fun a => ?_).trans ((hX _ _).trans ?_)
    · rw [off3_eq k a]
      match a with | ⟨0, _⟩ => rfl | ⟨1, _⟩ => rfl
    · congr 2; apply Fin.ext; show 256 * t.val + (128 + l.val) = 256 * t.val + 128 + l.val; omega

omit hi in
/-- One block of 512 terms more. -/
theorem sum_block (f : ℕ → ℝ) (k : ℕ) :
    ∑ n ∈ Finset.range (512 * (k + 1)), f n = ∑ n ∈ Finset.range (512 * k), f n + ∑ n ∈ Finset.range 512, f (512 * k + n) := by
  rw [show 512 * (k + 1) = 512 * k + 512 by ring, Finset.sum_range_add]

/-- The product of the sketch's columns of chunk `k` with a chunk of a weight, as a real sum. -/
theorem mm_chunk (X : Vec Ideal S8192x256 .fp8e4m3) (W : IVec S4096x256 32) (C : FVec Ideal S8192x28672 .fp8e4m3) (S : FVec Ideal Cert.LastRefIdeal.S8192x224 .bf16)
    (hX : Block t X C) (hW : Packed W S)
    (hD : Deq.Real (deq C S)) (Q : FVec Ideal S240x8192 .bf16) (hQ : Deq.Real Q) (k : Fin 16) (r : Fin 240) (j : Fin 256) :
    matmul (φ₁ := .bf16) dot_S240x512_S512x256_S240x256_1_0_0_1_n_n none
        (View.ld (Val := Elt Ideal) (e' := .bf16) Q (Rect.unit (s := S240x8192) (k0_off4 k) S240x512.size (k0_off4_inb k)))
        (k0_pay3 (F := Ideal) (BitVec.ofNat 32 t.val) (View.ld W (Rect.unit (s := S4096x256) (k0_off1 i k) S256x128.size (k0_off1_inb i k)))
          (View.ld X (Rect.unit (s := S8192x256) (k0_off2 k) S512x128.size (k0_off2_inb k)))
          (View.ld X (Rect.unit (s := S8192x256) (k0_off3 k) S512x128.size (k0_off3_inb k)))) (constant S240x256 .f32 0x00000000#32) (ix2 r j)
      = ((∑ n ∈ Finset.range 512, re Q r (512 * k.val + n) * re (deq C S) (512 * k.val + n) (256 * t.val + j.val) : ℝ) : EReal) := by
  have hc := chunk i t hi X W C S hX hW k
  have hq : ∀ (r : Fin 240) (n : Fin 512), View.ld (Val := Elt Ideal) (e' := .bf16) Q (Rect.unit (s := S240x8192) (k0_off4 k) S240x512.size (k0_off4_inb k)) (ix2 r n)
      = Q (ix2 r ⟨512 * k.val + n.val, by omega⟩) := by
    intro r n
    refine View.ld_unit_apply_of _ _ _ _ _ _ fun a => ?_
    rw [off4_eq k a]
    match a with | ⟨0, _⟩ => exact (Nat.zero_add _).symm | ⟨1, _⟩ => rfl
  refine (mm _ rfl none _ _ ?_ ?_ r j).trans ?_
  · intro x
    have e := hq (x 0) (x 1)
    rw [← eq_ix2 x] at e
    rw [e]; exact hQ _
  · intro x
    have e := hc (x 0) (x 1)
    rw [← eq_ix2 x] at e
    rw [e]; exact hD _
  · congr 1
    refine Finset.sum_congr rfl fun n hn => ?_
    have hn := Finset.mem_range.1 hn
    congr 1
    · exact re_congr (hq r ⟨n, hn⟩)
    · exact re_congr (hc ⟨n, hn⟩ j)

include h0 h1 h2 h3 h4 h5 hD1 hD2 hQ

/-- The carried value before trip `k`: the products over the rows below `512 k`. -/
theorem st_eq (k : ℕ) (hk : k ≤ 16) (r : Fin 240) (j : Fin 256) :
    st_k0_t1 (F := Ideal) 𝒱 c bd i arg1 harg1 arg2 harg2 arg3 harg3 arg4 harg4 arg5 harg5 arg6 harg6 arg0 X_arg1 X_arg2 X_arg3 X_arg4 X_arg5 (k0_pay1 (F := Ideal)) k (ix2 r j)
      = ((∑ n ∈ Finset.range (512 * k), re Q r n * re (deq C1 S1) n (256 * t.val + j.val)
          - ∑ n ∈ Finset.range (512 * k), re Q r n * re (deq C2 S2) n (256 * t.val + j.val) : ℝ) : EReal) := by
  induction k with
  | zero =>
    rw [st_k0_t1_zero]
    refine (show k0_pay1 (F := Ideal) (ix2 r j) = (0 : EReal) from Idealize.ShloMosaic.Ideal.ofBits_zero_f32).trans ?_
    simp
  | succ k ih =>
    have e := st_k0_t1_succ (F := Ideal) 𝒱 c bd i arg1 harg1 arg2 harg2 arg3 harg3 arg4 harg4 arg5 harg5 arg6 harg6 arg0 X_arg1 X_arg2 X_arg3 X_arg4 X_arg5 (k0_pay1 (F := Ideal)) ⟨k, hk⟩
    rw [trip_eq] at e
    refine (congrFun e (ix2 r j)).trans ?_
    subst h0
    rw [pay4_eq]
    have e1 := mm_chunk i t hi _ _ C1 S1 h1 h3 hD1 Q hQ ⟨k, hk⟩ r j
    have e2 := mm_chunk i t hi _ _ C2 S2 h2 h4 hD2 Q hQ ⟨k, hk⟩ r j
    rw [h5]
    refine (congrArg₂ (fun a b : EReal => a + b) (ih (by omega)) (congrArg₂ (fun a b : EReal => a - b) e1 e2)).trans ?_
    rw [sum_block, sum_block]
    beta_reduce
    rw [← EReal.coe_sub, ← EReal.coe_add]
    exact congrArg Real.toEReal (by ring)

end Value

end Cert.LastIdeal.Hand
-- ==== Proof.LastKernel.lean ====
module

public import proofs.«01_k».proof.Proof.LastStep
public import Idealize.ShloMosaic.Lib.Pipeline.ValueKit

@[expose] public section

noncomputable section

namespace Cert.LastIdeal.Hand

open Cert.LastIdeal Cert.LastIdeal.Gen Idealize.ShloMosaic Idealize.ShloMosaic.TcCoe Idealize.SL.Sem
open Cert.Deq

/-- The dequantised weight of the bytes of the codes and the bits of the scales. -/
def wt (a : IVec S8192x28672 8) (b : IVec Cert.LastRefIdeal.S8192x224 16) : FVec Ideal S8192x28672 .bf16 :=
  deq (bitcastToFloat (F := Ideal) .fp8e4m3 a) (bitcastToFloat (F := Ideal) .bf16 b)

/-- The sketch of the difference of two weights: the product with the first less the product with the second. -/
def sketch (d1 d2 : FVec Ideal S8192x28672 .bf16) (q : FVec Ideal S240x8192 .bf16) : FVec Ideal S240x28672 .f32 := fun j =>
  ((∑ n ∈ Finset.range 8192, re q (j 0).val n * re d1 n (j 1).val - ∑ n ∈ Finset.range 8192, re q (j 0).val n * re d2 n (j 1).val : ℝ) : EReal)

variable (m : (ℓ : Loc nD τ sig) → Buf (Elt Ideal) ℓ) (c : Dev nD)

/-- The first window's block at a grid point. -/
theorem index0 : ∀ t : Fin grid0.N, win0_0.index t 0 = 0 ∧ win0_0.index t 1 = (grid0.coords t 0).val := by decide +kernel
/-- The second window's block at a grid point. -/
theorem index1 : ∀ t : Fin grid0.N, win0_1.index t 0 = 0 ∧ win0_1.index t 1 = (grid0.coords t 0).val := by decide +kernel
/-- The third window's block at a grid point. -/
theorem index2 : ∀ t : Fin grid0.N, win0_2.index t 0 = 0 ∧ win0_2.index t 1 = 0 := by decide +kernel
/-- The fourth window's block at a grid point. -/
theorem index3 : ∀ t : Fin grid0.N, win0_3.index t 0 = 0 ∧ win0_3.index t 1 = 0 := by decide +kernel
/-- The fifth window's block at a grid point. -/
theorem index4 : ∀ t : Fin grid0.N, win0_4.index t 0 = 0 ∧ win0_4.index t 1 = 0 := by decide +kernel
/-- The result window's block at a grid point. -/
theorem index5 : ∀ t : Fin grid0.N, win0_5.index t 0 = 0 ∧ win0_5.index t 1 = (grid0.coords t 0).val := by decide +kernel

/-- The kernel's result array. -/
theorem result_eq (hD1 : Deq.Real (wt (m ((c : Thread nD τ).loc main_arg0)) (m ((c : Thread nD τ).loc main_arg1))))
    (hD2 : Deq.Real (wt (m ((c : Thread nD τ).loc main_arg2)) (m ((c : Thread nD τ).loc main_arg3))))
    (hQ : Deq.Real (s := S240x8192) (m ((c : Thread nD τ).loc main_arg4))) :
    (dats m 0 c).arrAt 5 cfg0.N = sketch (wt (m ((c : Thread nD τ).loc main_arg0)) (m ((c : Thread nD τ).loc main_arg1)))
      (wt (m ((c : Thread nD τ).loc main_arg2)) (m ((c : Thread nD τ).loc main_arg3))) (m ((c : Thread nD τ).loc main_arg4)) := by
  refine (dats m 0 c).arrAt_eq_of_covers 5 _ (by decide +kernel) fun t hf y => ?_
  blk_simp
  rw [after0_5]
  unfold outsAt0
  frame_out
  obtain ⟨r, j, rfl⟩ : ∃ (r : Fin 240) (j : Fin 256), y = ix2 r j := ⟨y 0, y 1, eq_ix2 (n0 := 240) (n1 := 256) y⟩
  refine (st_eq Variants.none c none (grid0.coords t) _ _ _ _ _ _ _ _ _ _ _ _ _ _ _ _ _ _ (grid0.coords t 0) rfl rfl
    (bitcastToFloat (F := Ideal) .fp8e4m3 (m ((c : Thread nD τ).loc main_arg0))) (bitcastToFloat (F := Ideal) .fp8e4m3 (m ((c : Thread nD τ).loc main_arg2)))
    (bitcastToFloat (F := Ideal) .bf16 (m ((c : Thread nD τ).loc main_arg1))) (bitcastToFloat (F := Ideal) .bf16 (m ((c : Thread nD τ).loc main_arg3)))
    (m ((c : Thread nD τ).loc main_arg4)) ?_ ?_ ?_ ?_ ?_ hD1 hD2 hQ 16 le_rfl r j).trans ?_
  · rw [Memref.IsWhole.read_unread]
    intro r l
    unfold iblk
    blk_simp
    rw [V_v0]
    refine congrArg _ (funext fun a => Fin.ext ?_)
    match a with
    | ⟨0, _⟩ => blk_simp; rw [(index0 t).1]; simp
    | ⟨1, _⟩ => blk_simp; rw [(index0 t).2]; simp [Nat.mul_comm]
  · rw [Memref.IsWhole.read_unread]
    intro r l
    unfold iblk
    blk_simp
    rw [V_v1]
    refine congrArg _ (funext fun a => Fin.ext ?_)
    match a with
    | ⟨0, _⟩ => blk_simp; rw [(index1 t).1]; simp
    | ⟨1, _⟩ => blk_simp; rw [(index1 t).2]; simp [Nat.mul_comm]
  · rw [Memref.IsWhole.read_unread]
    intro r g p
    unfold iblk
    blk_simp
    rw [V_v12]
    refine (congrArg (fun w : BitVec 32 => Ideal.ofBits .bf16 (w.extractLsb' (16 * p.val) 16)) (congrArg _ (funext fun a => Fin.ext ?_))).trans (congrArg (Ideal.ofBits .bf16) (words_apply _ r g p))
    match a with
    | ⟨0, _⟩ => blk_simp; rw [(index2 t).1]; simp
    | ⟨1, _⟩ => blk_simp; rw [(index2 t).2]; simp
  · rw [Memref.IsWhole.read_unread]
    intro r g p
    unfold iblk
    blk_simp
    rw [V_v23]
    refine (congrArg (fun w : BitVec 32 => Ideal.ofBits .bf16 (w.extractLsb' (16 * p.val) 16)) (congrArg _ (funext fun a => Fin.ext ?_))).trans (congrArg (Ideal.ofBits .bf16) (words_apply _ r g p))
    match a with
    | ⟨0, _⟩ => blk_simp; rw [(index3 t).1]; simp
    | ⟨1, _⟩ => blk_simp; rw [(index3 t).2]; simp
  · rw [Memref.IsWhole.read_unread]
    funext y
    unfold iblk
    blk_simp
    rw [V_main_arg4]
    refine congrArg _ (funext fun a => Fin.ext ?_)
    match a with
    | ⟨0, _⟩ => blk_simp; rw [(index4 t).1]; simp
    | ⟨1, _⟩ => blk_simp; rw [(index4 t).2]; simp
  · unfold sketch
    blk_simp
    rw [(index5 t).1, (index5 t).2, Nat.zero_mul, Nat.zero_add, Nat.mul_comm _ 256]
    rfl

end Cert.LastIdeal.Hand
-- ==== Proof.RefDeq.lean ====
module

public import proofs.«01_k».proof.Proof.Mm
public import Idealize.ShloMosaic.Lib.KernelVsHost

@[expose] public section

noncomputable section

namespace Cert.Deq

open Idealize.ShloMosaic Cert.LastRefIdeal Cert.LastRefIdeal.Gen

/-- The reference's dequantisation, through its groups of 128 columns, is code times scale. -/
theorem ref_deq (c : FVec Ideal S8192x28672 .fp8e4m3) (s : FVec Ideal S8192x224 .bf16) :
    shapeCast S8192x28672 (mulf (F := Ideal) (φ := .bf16) (shapeCast S8192x224x128 (extf (F := Ideal) .bf16 c bitsLt_fp8e4m3_bf16) shapeCasts_S8192x28672_S8192x224x128)
      (broadcastTo S8192x224x128 (shapeCast S8192x224x1 s shapeCasts_S8192x224_S8192x224x1) broadcasts_S8192x224x1_S8192x224x128)) shapeCasts_S8192x224x128_S8192x28672
      = deq c s := by
  funext j
  obtain ⟨r, n, rfl⟩ : ∃ (r : Fin 8192) (n : Fin 28672), j = ix2 r n := ⟨j 0, j 1, eq_ix2 (n0 := 8192) (n1 := 28672) j⟩
  rw [shapeCast_apply _ _ (ix2 r n) (ix3 r ⟨n.val / 128, by omega⟩ ⟨n.val % 128, by omega⟩) (by
    rw [Shape.rowMajor_val_three, Shape.rowMajor_val_two]; simp [ix3, ix2]; omega)]
  refine congrArg₂ (fun a b : EReal => a * b) ?_ ?_
  · refine (shapeCast_apply _ _ _ (ix2 r n) (by rw [Shape.rowMajor_val_three, Shape.rowMajor_val_two]; simp [ix3, ix2]; omega)).trans rfl
  · refine (congrArg (shapeCast S8192x224x1 s shapeCasts_S8192x224_S8192x224x1) (show _ = ix3 r ⟨n.val / 128, by omega⟩ 0 from ?_)).trans ?_
    · funext a; match a with | ⟨0, _⟩ => rfl | ⟨1, _⟩ => rfl | ⟨2, _⟩ => rfl
    · exact shapeCast_apply _ _ _ (ix2 r ⟨n.val / 128, by omega⟩) (by rw [Shape.rowMajor_val_three, Shape.rowMajor_val_two]; simp [ix3, ix2])

end Cert.Deq
-- ==== Proof.LastRef.lean ====
module

public import proofs.«01_k».proof.Proof.LastKernel
public import proofs.«01_k».proof.Proof.RefDeq
public import proofs.«01_k».proof.Proof.Gen.LastRefIdeal.Value

@[expose] public section

noncomputable section

namespace Cert.LastRefIdeal.Hand

open Cert.LastRefIdeal Cert.LastRefIdeal.Gen Idealize.ShloMosaic Idealize.ShloMosaic.TcCoe Idealize.SL.Sem
open Cert.Deq
open Cert.LastIdeal.Hand (wt sketch)

variable (m : (ℓ : Loc nD τ sig) → Buf (Elt Ideal) ℓ) (c : Dev nD)

/-- The offset of a window that is the whole array is nothing. -/
theorem whole_at (a b : ℕ) : 0 * a + b = b := by simp

/-- The reference's first operand is the codes of the first weight. -/
theorem V_v0 : V m c main_v0 = bitcastToFloat (F := Ideal) .fp8e4m3 (m ((c : Thread nD τ).loc main_arg0)) := by
  unfold V
  after_results

/-- The reference's second operand is the scales of the first weight. -/
theorem V_v1 : V m c main_v1 = bitcastToFloat (F := Ideal) .bf16 (m ((c : Thread nD τ).loc main_arg1)) := by
  unfold V
  after_results

/-- The reference's third operand is the codes of the second weight. -/
theorem V_v2 : V m c main_v2 = bitcastToFloat (F := Ideal) .fp8e4m3 (m ((c : Thread nD τ).loc main_arg2)) := by
  unfold V
  after_results

/-- The reference's fourth operand is the scales of the second weight. -/
theorem V_v3 : V m c main_v3 = bitcastToFloat (F := Ideal) .bf16 (m ((c : Thread nD τ).loc main_arg3)) := by
  unfold V
  after_results

/-- The first window's one block is its array. -/
theorem iblk0 (t : Fin cfg0.N) : iblk m c 0 t = V m c main_v0 := by
  funext y
  unfold iblk
  blk_simp
  refine congrArg _ (funext fun a => Fin.ext ?_)
  match a with
  | ⟨0, _⟩ => blk_simp; exact whole_at _ _
  | ⟨1, _⟩ => blk_simp; exact whole_at _ _

/-- The second window's one block is its array. -/
theorem iblk1 (t : Fin cfg0.N) : iblk m c 1 t = V m c main_v1 := by
  funext y
  unfold iblk
  blk_simp
  refine congrArg _ (funext fun a => Fin.ext ?_)
  match a with
  | ⟨0, _⟩ => blk_simp; exact whole_at _ _
  | ⟨1, _⟩ => blk_simp; exact whole_at _ _

/-- The third window's one block is its array. -/
theorem iblk2 (t : Fin cfg0.N) : iblk m c 2 t = V m c main_v2 := by
  funext y
  unfold iblk
  blk_simp
  refine congrArg _ (funext fun a => Fin.ext ?_)
  match a with
  | ⟨0, _⟩ => blk_simp; exact whole_at _ _
  | ⟨1, _⟩ => blk_simp; exact whole_at _ _

/-- The fourth window's one block is its array. -/
theorem iblk3 (t : Fin cfg0.N) : iblk m c 3 t = V m c main_v3 := by
  funext y
  unfold iblk
  blk_simp
  refine congrArg _ (funext fun a => Fin.ext ?_)
  match a with
  | ⟨0, _⟩ => blk_simp; exact whole_at _ _
  | ⟨1, _⟩ => blk_simp; exact whole_at _ _

/-- The fifth window's one block is its array. -/
theorem iblk4 (t : Fin cfg0.N) : iblk m c 4 t = V m c main_arg4 := by
  funext y
  unfold iblk
  blk_simp
  refine congrArg _ (funext fun a => Fin.ext ?_)
  match a with
  | ⟨0, _⟩ => blk_simp; exact whole_at _ _
  | ⟨1, _⟩ => blk_simp; exact whole_at _ _

/-- The reference's payload is the difference of the two products. -/
theorem pay_eq (c1 c2 : FVec Ideal S8192x28672 .fp8e4m3) (s1 s2 : FVec Ideal S8192x224 .bf16) (q : FVec Ideal S240x8192 .bf16)
    (h1 : Deq.Real (deq c1 s1)) (h2 : Deq.Real (deq c2 s2)) (hq : Deq.Real q) : k0_pay1 (F := Ideal) c1 s1 c2 s2 q q = sketch (deq c1 s1) (deq c2 s2) q := by
  unfold k0_pay1
  simp only [shapeCast_self, ref_deq]
  funext j
  obtain ⟨r, n, rfl⟩ : ∃ (r : Fin 240) (n : Fin 28672), j = ix2 r n := ⟨j 0, j 1, eq_ix2 (n0 := 240) (n1 := 28672) j⟩
  exact (congrArg₂ (fun a b : EReal => a - b) (mm dot_S240x8192_S8192x28672_S240x28672_1_0_0_1_n_n rfl none q (deq c1 s1) hq h1 r n)
    (mm dot_S240x8192_S8192x28672_S240x28672_1_0_0_1_n_n rfl none q (deq c2 s2) hq h2 r n)).trans (EReal.coe_sub _ _).symm

/-- The reference's result array. -/
theorem result_eq (hD1 : Deq.Real (wt (m ((c : Thread nD τ).loc main_arg0)) (m ((c : Thread nD τ).loc main_arg1))))
    (hD2 : Deq.Real (wt (m ((c : Thread nD τ).loc main_arg2)) (m ((c : Thread nD τ).loc main_arg3))))
    (hQ : Deq.Real (s := S240x8192) (m ((c : Thread nD τ).loc main_arg4))) :
    (dats m 0 c).arrAt 5 cfg0.N = sketch (wt (m ((c : Thread nD τ).loc main_arg0)) (m ((c : Thread nD τ).loc main_arg1)))
      (wt (m ((c : Thread nD τ).loc main_arg2)) (m ((c : Thread nD τ).loc main_arg3))) (m ((c : Thread nD τ).loc main_arg4)) := by
  refine (dats m 0 c).arrAt_eq_of_covers 5 _ (by decide +kernel) fun t hf y => ?_
  blk_simp
  rw [after0_5]
  frame_out
  rw [iblk0, iblk1, iblk2, iblk3, iblk4, V_v0, V_v1, V_v2, V_v3, V_main_arg4]
  refine (congrFun (pay_eq _ _ _ _ _ hD1 hD2 hQ) y).trans (congrArg _ (funext fun a => Fin.ext ?_))
  match a with
  | ⟨0, _⟩ => blk_simp; exact (whole_at _ _).symm
  | ⟨1, _⟩ => blk_simp; exact (whole_at _ _).symm

end Cert.LastRefIdeal.Hand
-- ==== Proof.Finite.lean ====
module

public import proofs.«01_k».proof.Proof.Deq
public import Idealize.ShloMosaic.PureOps.Ideal.Laws

@[expose] public section

noncomputable section

namespace Cert.Deq

open Idealize.ShloMosaic

/-- Code bytes the predicate accepts denote real numbers. -/
theorem codes_real {s : Shape} (a : IVec s 8) (b : IVec s 32) (p : 8 < 32) (hb : ∀ j, b j = 127#32)
    (h : cmpi .ne (andi (extui 32 a p) b) b = fun _ => 1#1) : Deq.Real (bitcastToFloat (F := Idealize.ShloMosaic.Ideal) .fp8e4m3 a) := fun j => by
  have := congrFun h j
  refine fp8_real (a j) fun e => ?_
  have e' : (extui 32 a p) j &&& b j = b j := by rw [hb]; exact e
  have : BitVec.ofBool (((extui 32 a p) j &&& b j) != b j) = 1#1 := this
  rw [e'] at this
  simp at this

/-- Scale words the predicate accepts denote real numbers. -/
theorem scales_real {s : Shape} (a : IVec s 16) (b : IVec s 32) (p : 16 < 32) (hb : ∀ j, b j = 32640#32)
    (h : cmpi .ne (andi (extui 32 a p) b) b = fun _ => 1#1) : Deq.Real (bitcastToFloat (F := Idealize.ShloMosaic.Ideal) .bf16 a) := fun j => by
  have := congrFun h j
  refine bf16_real (a j) fun e => ?_
  have e' : (extui 32 a p) j &&& b j = b j := by rw [hb]; exact e
  have : BitVec.ofBool (((extui 32 a p) j &&& b j) != b j) = 1#1 := this
  rw [e'] at this
  simp at this

/-- Floats whose magnitude is below infinity are real numbers. -/
theorem floats_real {s : Shape} (x b : s.Idx → EReal) (hb : ∀ j, b j = ⊤)
    (h : (fun j => Idealize.ShloMosaic.Ideal.cmp .olt (max (x j) (-x j)) (b j)) = fun _ => 1#1) : Deq.Real x := fun j => by
  have := congrFun h j
  simp only [Idealize.ShloMosaic.Ideal.cmp, hb] at this
  revert this
  induction x j using EReal.rec with
  | bot => simp
  | top => simp
  | coe r => intro _; exact ⟨r, rfl⟩

/-- The bit pattern of positive infinity. -/
theorem inf_eq : Idealize.ShloMosaic.Ideal.ofBits .f32 0x7F800000#32 = ⊤ := by
  simp [Idealize.ShloMosaic.Ideal.ofBits, Idealize.ShloMosaic.Ideal.ieee]

end Cert.Deq

end
-- ==== Proof.LastValue.lean ====
module

public import proofs.«01_k».proof.Defs
public import proofs.«01_k».proof.Proof.LastRef
public import proofs.«01_k».proof.Proof.Finite
public import proofs.«01_k».proof.Proof.Gen.LastIdeal.Value
public import proofs.«01_k».proof.Proof.Gen.LastRefIdeal.Value

@[expose] public section

noncomputable section

namespace Cert.LastRefIdeal.Hand

open Idealize.ShloMosaic Idealize.ShloMosaic.TcCoe Idealize.SL.Sem
open Cert.Deq
open Cert.LastIdeal.Hand (wt sketch)

/-- The side conditions of the predicate on the arguments. -/
theorem preFacts : Cert.Pre_finite_qt.Facts where
  natLt_8_32 := by decide
  bcast_S_S8192x28672 := by decide
  natLt_16_32 := by decide
  bcast_S_S8192x224 := by decide
  bitsLt_bf16_f32 := by decide
  bcast_S_S240x8192 := by decide

/-- Under the precondition the two weights and the basis are real. -/
theorem real_of_pre (m : (ℓ : Loc Cert.LastIdeal.nD Cert.LastIdeal.τ Cert.LastIdeal.sig) → Buf (Elt Ideal) ℓ)
    (h : Pre_LastIdeal_finite_qt (hPre_finite_qt := preFacts) m) (c : Dev Cert.LastIdeal.nD) :
    Deq.Real (wt (m ((c.tc : Thread Cert.LastIdeal.nD Cert.LastIdeal.τ).loc Cert.LastIdeal.main_arg0)) (m ((c.tc : Thread Cert.LastIdeal.nD Cert.LastIdeal.τ).loc Cert.LastIdeal.main_arg1)))
    ∧ Deq.Real (wt (m ((c.tc : Thread Cert.LastIdeal.nD Cert.LastIdeal.τ).loc Cert.LastIdeal.main_arg2)) (m ((c.tc : Thread Cert.LastIdeal.nD Cert.LastIdeal.τ).loc Cert.LastIdeal.main_arg3)))
    ∧ Deq.Real (s := Cert.LastIdeal.S240x8192) (m ((c.tc : Thread Cert.LastIdeal.nD Cert.LastIdeal.τ).loc Cert.LastIdeal.main_arg4)) := by
  obtain ⟨h0, h1, h2, h3, h4⟩ := h c
  exact ⟨deq_real (codes_real _ _ _ (fun _ => rfl) h0) (scales_real _ _ _ (fun _ => rfl) h1),
    deq_real (codes_real _ _ _ (fun _ => rfl) h2) (scales_real _ _ _ (fun _ => rfl) h3),
    floats_real _ _ (fun _ => inf_eq) h4⟩

/-- The last call and its reference leave the same array: the sketch of the difference of the two weights. -/
theorem algebraic : algebraic_LastIdeal_LastRefIdeal_pre_finite_qt (hLastIdeal := Cert.LastIdeal.Gen.facts)
    (hLastRefIdeal := Cert.LastRefIdeal.Gen.facts) (hPre_finite_qt := preFacts) := fun m g m' g' hp ha => by
  refine ⟨fun c => sketch (wt (m ((c.tc : Thread Cert.LastIdeal.nD Cert.LastIdeal.τ).loc Cert.LastIdeal.main_arg0)) (m ((c.tc : Thread Cert.LastIdeal.nD Cert.LastIdeal.τ).loc Cert.LastIdeal.main_arg1)))
    (wt (m ((c.tc : Thread Cert.LastIdeal.nD Cert.LastIdeal.τ).loc Cert.LastIdeal.main_arg2)) (m ((c.tc : Thread Cert.LastIdeal.nD Cert.LastIdeal.τ).loc Cert.LastIdeal.main_arg3)))
    (m ((c.tc : Thread Cert.LastIdeal.nD Cert.LastIdeal.τ).loc Cert.LastIdeal.main_arg4)), ?_, ?_⟩
  · refine (θ_run _ _ _).mono (fun r h c => ?_) (Cert.LastIdeal.Value.run_blocks m g)
    obtain ⟨hD1, hD2, hQ⟩ := real_of_pre m hp c
    obtain ⟨e, k⟩ := h c
    exact ⟨e.trans (Cert.LastIdeal.Hand.result_eq m c hD1 hD2 hQ), k⟩
  · refine (θ_run _ _ _).mono (fun r h c => ?_) (Cert.LastRefIdeal.Value.run_blocks m' g')
    obtain ⟨hD1, hD2, hQ⟩ := real_of_pre m hp c
    obtain ⟨a0, a1, a2, a3, a4⟩ := ha c
    obtain ⟨e, k⟩ := h c
    refine ⟨e.trans ?_, k⟩
    have := result_eq m' c
    rw [a0, a1, a2, a3, a4] at this
    exact this hD1 hD2 hQ

end Cert.LastRefIdeal.Hand

end
-- ==== Proof.FirstStep.lean ====
module

public import proofs.«01_k».proof.Proof.LastStep
public import proofs.«01_k».proof.Proof.Gen.FirstIdeal.Value
public import Idealize.ShloMosaic.Lib.Pipeline.ValueKit.Tiles
public import Idealize.ShloMosaic.Lib.WritesUnit

@[expose] public section

noncomputable section

namespace Cert.FirstIdeal.Hand

open Cert.FirstIdeal Cert.FirstIdeal.Gen Idealize.ShloMosaic Idealize.ShloMosaic.TcCoe Idealize.SL.Sem
open Cert.Deq
open Cert.LastIdeal.Hand (Block Packed)

/-- Where the scale words are loaded. -/
theorem off1_eq : ∀ (i : grid0.Coords) (k : Fin k0_t1_loop.trips), ∀ a, k0_off1 i k a = ![256 * k.val, 2 * (i 0).val - 2 * (i 0).val % 128] a := by decide +kernel
/-- Where the left codes are loaded. -/
theorem off2_eq : ∀ k : Fin k0_t1_loop.trips, ∀ a, k0_off2 k a = ![512 * k.val, 0] a := by decide +kernel
/-- Where the right codes are loaded. -/
theorem off3_eq : ∀ k : Fin k0_t1_loop.trips, ∀ a, k0_off3 k a = ![512 * k.val, 128] a := by decide +kernel
/-- Which rows of the result a trip reads and writes. -/
theorem off4_eq : ∀ k : Fin k0_t1_loop.trips, k0_off4 k = ![512 * k.val, 0] := by decide +kernel

variable (𝒱 : Variants) (c : Dev nD) (bd : Option 𝒱.V) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S256x240 .bf16) (harg5 : arg5.IsWhole) (arg6 : Memref sig .tc .vmem S8192x240 .f32) (harg6 : arg6.IsWhole) (arg0 : BitVec 32) (v3 : Vec Ideal S256x240 .bf16) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty)

/-- The chunk of a weight that a trip dequantises. -/
def part (a : BitVec 32) (X : Vec Ideal S8192x256 .fp8e4m3) (W : IVec S4096x256 32) (k : Fin k0_t1_loop.trips) : FVec Ideal S512x256 .bf16 :=
  k0_pay3 a (View.ld (Val := Elt Ideal) (e' := .i32) W (Rect.unit (s := S4096x256) (k0_off1 i k) S256x128.size (k0_off1_inb i k)))
    (View.ld (Val := Elt Ideal) (e' := .fp8e4m3) X (Rect.unit (s := S8192x256) (k0_off2 k) S512x128.size (k0_off2_inb k)))
    (View.ld (Val := Elt Ideal) (e' := .fp8e4m3) X (Rect.unit (s := S8192x256) (k0_off3 k) S512x128.size (k0_off3_inb k)))

/-- The rows a trip adds to: the first chunk times the columns less the second chunk times the columns, over a zero accumulator. -/
def gain (a : BitVec 32) (X1 X2 : Vec Ideal S8192x256 .fp8e4m3) (W1 W2 : IVec S4096x256 32) (x : Vec Ideal S256x240 .bf16) (k : Fin k0_t1_loop.trips) : FVec Ideal S512x240 .f32 :=
  subf (matmul (φ₂ := .bf16) dot_S512x256_S256x240_S512x240_1_0_0_1_n_n none (part i a X1 W1 k) x (constant S512x240 .f32 0x00000000#32))
    (matmul (φ₂ := .bf16) dot_S512x256_S256x240_S512x240_1_0_0_1_n_n none (part i a X2 W2 k) x (constant S512x240 .f32 0x00000000#32))

/-- What one trip stores, of what it finds in the result's buffer. -/
theorem trip_eq (k : Fin k0_t1_loop.trips) (f : BufTy.Contents (Elt Ideal) arg6.view.ty) :
    tripL_k0_t1 (F := Ideal) 𝒱 c bd i arg1 harg1 arg2 harg2 arg3 harg3 arg4 harg4 arg5 harg5 arg6 harg6 arg0 v3 X_arg1 X_arg2 X_arg3 X_arg4 k f
      = [⟨Rect.unit (s := S8192x240) (k0_off4 k) S512x240.size (k0_off4_inb k),
          addf (k0_pay4 (F := Ideal) (View.ld (arg6.view.read (Elt Ideal) f) (Rect.unit (s := S8192x240) (k0_off4 k) S512x240.size (k0_off4_inb k))))
            (gain i arg0 (arg1.view.read (Elt Ideal) X_arg1) (arg2.view.read (Elt Ideal) X_arg2) (arg3.view.read (Elt Ideal) X_arg3) (arg4.view.read (Elt Ideal) X_arg4) v3 k)⟩] := by
  unfold tripL_k0_t1 trip_k0_t1
  dsimp only
  rfl

/-- The pieces stored before trip `k` cover the rows below `512 k`. -/
theorem pb_cover (G : BufTy.Contents (Elt Ideal) arg6.view.ty) (k : ℕ) (hk : k ≤ 16) (y : S8192x240.Idx) (hy : (y 0).val < 512 * k) :
    ∃ p ∈ pb_k0_t1 (F := Ideal) 𝒱 c bd i arg1 harg1 arg2 harg2 arg3 harg3 arg4 harg4 arg5 harg5 arg6 harg6 arg0 v3 X_arg1 X_arg2 X_arg3 X_arg4 G k, y ∈ p.1.set := by
  induction k with
  | zero => omega
  | succ k ih =>
    have hk' : k < k0_t1_loop.trips := lt_of_lt_of_eq hk (by decide +kernel)
    rw [pb_k0_t1_succ (F := Ideal) 𝒱 c bd i arg1 harg1 arg2 harg2 arg3 harg3 arg4 harg4 arg5 harg5 arg6 harg6 arg0 v3 X_arg1 X_arg2 X_arg3 X_arg4 G ⟨k, hk'⟩, trip_eq]
    by_cases h : (y 0).val < 512 * k
    · obtain ⟨p, hp, hm⟩ := ih (by omega) h
      exact ⟨p, List.mem_append_right _ hp, hm⟩
    · refine ⟨_, List.mem_append_left _ (List.mem_singleton_self _), (Rect.mem_set_unit (inb := k0_off4_inb ⟨k, hk'⟩)).2 fun a => ?_⟩
      have e := congrFun (off4_eq ⟨k, hk'⟩) a
      have hy1 : (y 1).val < 240 := (y 1).isLt
      match a with
      | ⟨0, _⟩ =>
        have e : k0_off4 ⟨k, hk'⟩ 0 = 512 * k := e
        show k0_off4 ⟨k, hk'⟩ 0 ≤ (y 0).val ∧ (y 0).val < k0_off4 ⟨k, hk'⟩ 0 + 512
        omega
      | ⟨1, _⟩ =>
        have e : k0_off4 ⟨k, hk'⟩ 1 = 0 := e
        show k0_off4 ⟨k, hk'⟩ 1 ≤ (y 1).val ∧ (y 1).val < k0_off4 ⟨k, hk'⟩ 1 + 240
        omega

/-- `x` is row block `t`, of 256 rows, of the columns `O`. -/
def Rows (t : Fin 112) (x : Vec Ideal S256x240 .bf16) (O : FVec Ideal S28672x240 .bf16) : Prop :=
  ∀ (l : Fin 256) (j : Fin 240), x (ix2 l j) = O (ix2 ⟨256 * t.val + l.val, by omega⟩ j)

/-- A grid point's contribution to the result at row `r`, column `j`. -/
def term (D1 D2 : FVec Ideal S8192x28672 .bf16) (O : FVec Ideal S28672x240 .bf16) (t : ℕ) (y : S8192x240.Idx) : EReal :=
  ((∑ n ∈ Finset.range 256, re D1 (y 0).val (256 * t + n) * re O (256 * t + n) (y 1).val
    - ∑ n ∈ Finset.range 256, re D2 (y 0).val (256 * t + n) * re O (256 * t + n) (y 1).val : ℝ) : EReal)

section Value

variable (t : Fin 112) (hi : (i 0).val = t.val)

include hi

/-- A chunk dequantised in trip `k` at grid point `t`, from the block of codes and the packed scales. -/
theorem chunk (X : Vec Ideal S8192x256 .fp8e4m3) (W : IVec S4096x256 32) (C : FVec Ideal S8192x28672 .fp8e4m3) (S : FVec Ideal Cert.LastRefIdeal.S8192x224 .bf16)
    (hX : Block t X C) (hW : Packed W S) (k : Fin 16) (r : Fin 512) (j : Fin 256) :
    part i (BitVec.ofNat 32 t.val) X W k (ix2 r j)
      = deq C S (ix2 ⟨512 * k.val + r.val, by omega⟩ ⟨256 * t.val + j.val, by omega⟩) := by
  refine chunk_eq C S W hW t k _ _ _ ?_ ?_ ?_ r j
  · intro r' l
    refine View.ld_unit_apply_of _ _ _ _ _ _ fun a => ?_
    rw [off1_eq i k a, hi]
    match a with | ⟨0, _⟩ => rfl | ⟨1, _⟩ => rfl
  · intro r' l
    refine (View.ld_unit_apply_of _ _ _ _ _ (ix2 ⟨512 * k.val + r'.val, by omega⟩ ⟨l.val, by omega⟩) fun a => ?_).trans (hX _ _)
    rw [off2_eq k a]
    match a with | ⟨0, _⟩ => rfl | ⟨1, _⟩ => exact (Nat.zero_add _).symm
  · intro r' l
    refine (View.ld_unit_apply_of _ _ _ _ _ (ix2 ⟨512 * k.val + r'.val, by omega⟩ ⟨128 + l.val, by omega⟩) fun a => ?_).trans ((hX _ _).trans ?_)
    · rw [off3_eq k a]
      match a with | ⟨0, _⟩ => rfl | ⟨1, _⟩ => rfl
    · congr 2; apply Fin.ext; show 256 * t.val + (128 + l.val) = 256 * t.val + 128 + l.val; omega

/-- The product of a chunk of a weight with a block of the columns, as a real sum. -/
theorem mm_chunk (X : Vec Ideal S8192x256 .fp8e4m3) (W : IVec S4096x256 32) (C : FVec Ideal S8192x28672 .fp8e4m3) (S : FVec Ideal Cert.LastRefIdeal.S8192x224 .bf16)
    (hX : Block t X C) (hW : Packed W S) (hD : Deq.Real (deq C S)) (x : Vec Ideal S256x240 .bf16) (O : FVec Ideal S28672x240 .bf16)
    (hx : Rows t x O) (hO : Deq.Real O) (k : Fin 16) (r : Fin 512) (j : Fin 240) :
    matmul (φ₂ := .bf16) dot_S512x256_S256x240_S512x240_1_0_0_1_n_n none (part i (BitVec.ofNat 32 t.val) X W k) x (constant S512x240 .f32 0x00000000#32) (ix2 r j)
      = ((∑ n ∈ Finset.range 256, re (deq C S) (512 * k.val + r.val) (256 * t.val + n) * re O (256 * t.val + n) j : ℝ) : EReal) := by
  have hc := chunk i t hi X W C S hX hW k
  refine (mm _ rfl none _ _ ?_ ?_ r j).trans ?_
  · intro z
    have e := hc (z 0) (z 1)
    rw [← eq_ix2 z] at e
    rw [e]; exact hD _
  · intro z
    have e := hx (z 0) (z 1)
    rw [← eq_ix2 z] at e
    rw [e]; exact hO _
  · congr 1
    refine Finset.sum_congr rfl fun n hn => ?_
    have hn := Finset.mem_range.1 hn
    congr 1
    · exact re_congr (hc r ⟨n, hn⟩)
    · exact re_congr (hx ⟨n, hn⟩ j)

variable (h0 : arg0 = BitVec.ofNat 32 t.val)
  (C1 C2 : FVec Ideal S8192x28672 .fp8e4m3) (S1 S2 : FVec Ideal Cert.LastRefIdeal.S8192x224 .bf16) (O : FVec Ideal S28672x240 .bf16)
  (h1 : Block t (arg1.view.read (Elt Ideal) X_arg1) C1)
  (h2 : Block t (arg2.view.read (Elt Ideal) X_arg2) C2)
  (h3 : Packed (arg3.view.read (Elt Ideal) X_arg3) S1)
  (h4 : Packed (arg4.view.read (Elt Ideal) X_arg4) S2)
  (h5 : Rows t v3 O)
  (hD1 : Deq.Real (deq C1 S1)) (hD2 : Deq.Real (deq C2 S2)) (hO : Deq.Real O)

include h0 h1 h2 h3 h4 h5 hD1 hD2 hO

/-- What the result's buffer reads before trip `k`: the rows below `512 k` have the point's contribution added, the others are as found. -/
theorem pb_eq (G : BufTy.Contents (Elt Ideal) arg6.view.ty) (k : ℕ) (hk : k ≤ 16) (y : S8192x240.Idx) :
    arg6.view.read (Elt Ideal) (arg6.view.writes (Elt Ideal) G (pb_k0_t1 (F := Ideal) 𝒱 c bd i arg1 harg1 arg2 harg2 arg3 harg3 arg4 harg4 arg5 harg5 arg6 harg6 arg0 v3 X_arg1 X_arg2 X_arg3 X_arg4 G k)) y
      = if (y 0).val < 512 * k then (arg6.view.read (Elt Ideal) G y + term (deq C1 S1) (deq C2 S2) O t.val y : EReal) else arg6.view.read (Elt Ideal) G y := by
  induction k with
  | zero => rw [if_neg (by omega)]; rfl
  | succ k ih =>
    have ih := ih (by omega)
    have hk : k < k0_t1_loop.trips := lt_of_lt_of_eq hk (by decide +kernel)
    have h16 : k < 16 := lt_of_lt_of_eq hk (by decide +kernel)
    rw [pb_k0_t1_succ (F := Ideal) 𝒱 c bd i arg1 harg1 arg2 harg2 arg3 harg3 arg4 harg4 arg5 harg5 arg6 harg6 arg0 v3 X_arg1 X_arg2 X_arg3 X_arg4 G ⟨k, hk⟩, trip_eq]
    by_cases hy : 512 * k ≤ (y 0).val ∧ (y 0).val < 512 * k + 512
    · rw [if_pos (by omega)]
      refine (View.read_writes_cons_rows_of_mem _ _ _ _ _ y (ix2 (⟨(y 0).val - 512 * k, by omega⟩ : Fin 512) (y 1)) (off4_eq ⟨k, hk⟩) (by show _ = 512 * k + ((y 0).val - 512 * k); omega) rfl).trans ?_
      have hr : 512 * k + ((y 0).val - 512 * k) = (y 0).val := by omega
      have hy0 : ix2 (⟨512 * k + ((y 0).val - 512 * k), by omega⟩ : Fin 8192) (y 1) = y := by
        refine Eq.trans ?_ (eq_ix2 (n0 := 8192) (n1 := 240) y).symm
        congr 1; exact Fin.ext hr
      refine congrArg₂ (fun a b : EReal => a + b) ?_ ?_
      · unfold k0_pay4
        rw [shapeCast_self]
        refine (View.ld_unit_apply_of _ _ _ _ _ (y : S8192x240.Idx) fun a => ?_).trans (ih.trans (if_neg (by omega)))
        refine Eq.trans ?_ (congrFun (congrArg (fun o : Fin 2 → ℕ => fun a => o a + _) (off4_eq ⟨k, hk⟩).symm) a)
        match a with | ⟨0, _⟩ => exact hr.symm | ⟨1, _⟩ => exact (Nat.zero_add _).symm
      · subst h0
        refine (congrArg₂ (fun a b : EReal => a - b) (mm_chunk i t hi _ _ C1 S1 h1 h3 hD1 _ O h5 hO ⟨k, h16⟩ _ _)
          (mm_chunk i t hi _ _ C2 S2 h2 h4 hD2 _ O h5 hO ⟨k, h16⟩ _ _)).trans ?_
        unfold term
        rw [EReal.coe_sub]
        simp only [hr]
    · refine (View.read_writes_cons_rows_of_not_mem _ _ _ _ _ y (off4_eq ⟨k, hk⟩) (W := 512) rfl (not_and_or.1 hy |>.imp (by intro h; exact not_le.1 h) (by intro h; exact not_lt.1 h))).trans (ih.trans ?_)
      refine if_congr ?_ rfl rfl
      constructor <;> intro h <;> omega

end Value

end Cert.FirstIdeal.Hand
-- ==== Proof.FirstHost.lean ====
module

public import proofs.«01_k».proof.Proof.LastHost
public import proofs.«01_k».proof.Proof.Gen.FirstIdeal.Value

@[expose] public section

noncomputable section

namespace Cert.FirstIdeal.Hand

open Cert.FirstIdeal Cert.FirstIdeal.Gen Idealize.ShloMosaic Idealize.ShloMosaic.TcCoe Idealize.SL.Sem
open Cert.LastIdeal.Hand (words)

variable (m : (ℓ : Loc nD τ sig) → Buf (Elt Ideal) ℓ) (c : Dev nD)

/-- The kernel's first operand is the codes of the first weight. -/
theorem V_v0 : V m c main_v0 = bitcastToFloat (F := Ideal) .fp8e4m3 (m ((c : Thread nD τ).loc main_arg0)) := by
  unfold V
  simp only [hostOps0, hostOps0_1, hostOps0_2, hostOps0_3, List.flatten_cons, List.flatten_nil, List.append_nil, List.cons_append, List.nil_append]
  after_results

/-- The kernel's second operand is the codes of the second weight. -/
theorem V_v1 : V m c main_v1 = bitcastToFloat (F := Ideal) .fp8e4m3 (m ((c : Thread nD τ).loc main_arg2)) := by
  unfold V
  simp only [hostOps0, hostOps0_1, hostOps0_2, hostOps0_3, List.flatten_cons, List.flatten_nil, List.append_nil, List.cons_append, List.nil_append]
  after_results

/-- The kernel's third operand is the packed scales of the first weight. -/
theorem V_v12 : V m c main_v12 = words (m ((c : Thread nD τ).loc main_arg1)) := by
  unfold V
  simp only [hostOps0, hostOps0_1, hostOps0_2, hostOps0_3, List.flatten_cons, List.flatten_nil, List.append_nil, List.cons_append, List.nil_append]
  after_results
  rfl

/-- The kernel's fourth operand is the packed scales of the second weight. -/
theorem V_v23 : V m c main_v23 = words (m ((c : Thread nD τ).loc main_arg3)) := by
  unfold V
  simp only [hostOps0, hostOps0_1, hostOps0_2, hostOps0_3, List.flatten_cons, List.flatten_nil, List.append_nil, List.cons_append, List.nil_append]
  after_results
  rfl

end Cert.FirstIdeal.Hand
-- ==== Proof.FirstKernel.lean ====
module

public import proofs.«01_k».proof.Proof.FirstStep
public import proofs.«01_k».proof.Proof.FirstHost
public import proofs.«01_k».proof.Proof.LastKernel
public import Idealize.ShloMosaic.Lib.Pipeline.ValueKit

@[expose] public section

noncomputable section

namespace Cert.FirstIdeal.Hand

open Cert.FirstIdeal Cert.FirstIdeal.Gen Idealize.ShloMosaic Idealize.ShloMosaic.TcCoe Idealize.SL.Sem
open Cert.Deq
open Cert.LastIdeal.Hand (Block Packed words words_apply wt)

/-- The difference of two weights applied to columns, over the first `n` of the contracted indices: the product with the first less the product with the second. -/
def upTo (d1 d2 : FVec Ideal S8192x28672 .bf16) (o : FVec Ideal S28672x240 .bf16) (n : ℕ) : FVec Ideal S8192x240 .f32 := fun j =>
  ((∑ l ∈ Finset.range n, re d1 (j 0).val l * re o l (j 1).val - ∑ l ∈ Finset.range n, re d2 (j 0).val l * re o l (j 1).val : ℝ) : EReal)

/-- The difference of two weights applied to columns. -/
def image (d1 d2 : FVec Ideal S8192x28672 .bf16) (o : FVec Ideal S28672x240 .bf16) : FVec Ideal S8192x240 .f32 := upTo d1 d2 o 28672

/-- Another grid point's contribution carries the sum 256 indices further. -/
theorem upTo_succ (d1 d2 : FVec Ideal S8192x28672 .bf16) (o : FVec Ideal S28672x240 .bf16) (t : ℕ) (y : S8192x240.Idx) :
    (upTo d1 d2 o (256 * t) y + term d1 d2 o t y : EReal) = upTo d1 d2 o (256 * (t + 1)) y := by
  unfold upTo term
  rw [← EReal.coe_add, Nat.mul_succ, Finset.sum_range_add, Finset.sum_range_add]
  congr 1
  ring

variable (m : (ℓ : Loc nD τ sig) → Buf (Elt Ideal) ℓ) (c : Dev nD)

/-- The first window's block at a grid point. -/
theorem index0 : ∀ t : Fin grid0.N, win0_0.index t 0 = 0 ∧ win0_0.index t 1 = (grid0.coords t 0).val := by decide +kernel
/-- The second window's block at a grid point. -/
theorem index1 : ∀ t : Fin grid0.N, win0_1.index t 0 = 0 ∧ win0_1.index t 1 = (grid0.coords t 0).val := by decide +kernel
/-- The third window's block at a grid point. -/
theorem index2 : ∀ t : Fin grid0.N, win0_2.index t 0 = 0 ∧ win0_2.index t 1 = 0 := by decide +kernel
/-- The fourth window's block at a grid point. -/
theorem index3 : ∀ t : Fin grid0.N, win0_3.index t 0 = 0 ∧ win0_3.index t 1 = 0 := by decide +kernel
/-- The fifth window's block at a grid point. -/
theorem index4 : ∀ t : Fin grid0.N, win0_4.index t 0 = (grid0.coords t 0).val ∧ win0_4.index t 1 = 0 := by decide +kernel
/-- The result window's block at a grid point. -/
theorem index5 : ∀ t : Fin grid0.N, win0_5.index t 0 = 0 ∧ win0_5.index t 1 = 0 := by decide +kernel
/-- The grid has one axis. -/
theorem coords_eq : ∀ t : Fin grid0.N, (grid0.coords t 0).val = t.val := by decide +kernel

/-- The first window holds a column block of the first weight's codes. -/
theorem blk0 (t : Fin grid0.N) : Block (grid0.coords t 0) (iblk m c 0 t) (bitcastToFloat (F := Ideal) .fp8e4m3 (m ((c : Thread nD τ).loc main_arg0))) := by
  intro r l
  unfold iblk
  blk_simp
  rw [V_v0]
  refine congrArg _ (funext fun a => Fin.ext ?_)
  match a with
  | ⟨0, _⟩ => blk_simp; rw [(index0 t).1]; simp
  | ⟨1, _⟩ => blk_simp; rw [(index0 t).2]; simp [Nat.mul_comm]

/-- The second window holds a column block of the second weight's codes. -/
theorem blk1 (t : Fin grid0.N) : Block (grid0.coords t 0) (iblk m c 1 t) (bitcastToFloat (F := Ideal) .fp8e4m3 (m ((c : Thread nD τ).loc main_arg2))) := by
  intro r l
  unfold iblk
  blk_simp
  rw [V_v1]
  refine congrArg _ (funext fun a => Fin.ext ?_)
  match a with
  | ⟨0, _⟩ => blk_simp; rw [(index1 t).1]; simp
  | ⟨1, _⟩ => blk_simp; rw [(index1 t).2]; simp [Nat.mul_comm]

/-- The third window holds the first weight's packed scales. -/
theorem blk2 (t : Fin grid0.N) : Packed (iblk m c 2 t) (bitcastToFloat (F := Ideal) .bf16 (m ((c : Thread nD τ).loc main_arg1))) := by
  intro r g p
  unfold iblk
  blk_simp
  rw [V_v12]
  refine (congrArg (fun w : BitVec 32 => Ideal.ofBits .bf16 (w.extractLsb' (16 * p.val) 16)) (congrArg _ (funext fun a => Fin.ext ?_))).trans (congrArg (Ideal.ofBits .bf16) (words_apply _ r g p))
  match a with
  | ⟨0, _⟩ => blk_simp; rw [(index2 t).1]; simp
  | ⟨1, _⟩ => blk_simp; rw [(index2 t).2]; simp

/-- The fourth window holds the second weight's packed scales. -/
theorem blk3 (t : Fin grid0.N) : Packed (iblk m c 3 t) (bitcastToFloat (F := Ideal) .bf16 (m ((c : Thread nD τ).loc main_arg3))) := by
  intro r g p
  unfold iblk
  blk_simp
  rw [V_v23]
  refine (congrArg (fun w : BitVec 32 => Ideal.ofBits .bf16 (w.extractLsb' (16 * p.val) 16)) (congrArg _ (funext fun a => Fin.ext ?_))).trans (congrArg (Ideal.ofBits .bf16) (words_apply _ r g p))
  match a with
  | ⟨0, _⟩ => blk_simp; rw [(index3 t).1]; simp
  | ⟨1, _⟩ => blk_simp; rw [(index3 t).2]; simp

/-- The fifth window holds a row block of the columns. -/
theorem blk4 (t : Fin grid0.N) : Rows (grid0.coords t 0) (iblk m c 4 t) (m ((c : Thread nD τ).loc main_arg4)) := by
  intro l j
  unfold iblk
  blk_simp
  rw [V_main_arg4]
  refine congrArg _ (funext fun a => Fin.ext ?_)
  match a with
  | ⟨0, _⟩ => blk_simp; rw [(index4 t).1]; simp [Nat.mul_comm]
  | ⟨1, _⟩ => blk_simp; rw [(index4 t).2]; simp

/-- The first grid point clears the result's buffer. -/
theorem zero_eq (v : View sig .tc .vmem S8192x240 .f32) (f : BufTy.Contents (Elt Ideal) v.ty) (inb) (y : S8192x240.Idx) :
    v.read (Elt Ideal) (v.writes (Elt Ideal) f [⟨Rect.unit (s := S8192x240) ![0, 0] ![8192, 240] inb, k0_pay1 (F := Ideal)⟩]) y = (0 : EReal) := by
  refine (View.read_writes_cons_rows_of_mem v f inb (k0_pay1 (F := Ideal)) [] y y (o := 0) rfl (Nat.zero_add _).symm rfl).trans ?_
  unfold k0_pay1
  exact Idealize.ShloMosaic.Ideal.ofBits_zero_f32

variable (hD1 : Deq.Real (wt (m ((c : Thread nD τ).loc main_arg0)) (m ((c : Thread nD τ).loc main_arg1))))
  (hD2 : Deq.Real (wt (m ((c : Thread nD τ).loc main_arg2)) (m ((c : Thread nD τ).loc main_arg3))))
  (hO : Deq.Real (s := S28672x240) (m ((c : Thread nD τ).loc main_arg4)))

include hD1 hD2 hO

/-- A grid point's trips, over whatever contents `G` of the result's buffer, add the point's contribution. -/
theorem step_eq (t : Fin cfg0.N) (G : BufTy.Contents (Elt Ideal) (ms0_5 t).view.ty) (y : S8192x240.Idx) :
    (ms0_5 t).view.read (Elt Ideal) ((ms0_5 t).view.writes (Elt Ideal) G (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
      (BitVec.ofNat 32 (grid0.coords t 0).val) (iblk m c 4 t) ((hs0_0 t).unread (iblk m c 0 t)) ((hs0_1 t).unread (iblk m c 1 t)) ((hs0_2 t).unread (iblk m c 2 t)) ((hs0_3 t).unread (iblk m c 3 t)) G 16)) y
      = ((ms0_5 t).view.read (Elt Ideal) G y + term (wt (m ((c : Thread nD τ).loc main_arg0)) (m ((c : Thread nD τ).loc main_arg1)))
          (wt (m ((c : Thread nD τ).loc main_arg2)) (m ((c : Thread nD τ).loc main_arg3))) (m ((c : Thread nD τ).loc main_arg4)) t.val y : EReal) := by
  have h := pb_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
    (BitVec.ofNat 32 (grid0.coords t 0).val) (iblk m c 4 t)
    ((hs0_0 t).unread (iblk m c 0 t)) ((hs0_1 t).unread (iblk m c 1 t)) ((hs0_2 t).unread (iblk m c 2 t)) ((hs0_3 t).unread (iblk m c 3 t))
    (grid0.coords t 0) rfl rfl
    (bitcastToFloat (F := Ideal) .fp8e4m3 (m ((c : Thread nD τ).loc main_arg0))) (bitcastToFloat (F := Ideal) .fp8e4m3 (m ((c : Thread nD τ).loc main_arg2)))
    (bitcastToFloat (F := Ideal) .bf16 (m ((c : Thread nD τ).loc main_arg1))) (bitcastToFloat (F := Ideal) .bf16 (m ((c : Thread nD τ).loc main_arg3)))
    (m ((c : Thread nD τ).loc main_arg4)) (by rw [Memref.IsWhole.read_unread]; exact blk0 m c _) (by rw [Memref.IsWhole.read_unread]; exact blk1 m c _)
    (by rw [Memref.IsWhole.read_unread]; exact blk2 m c _) (by rw [Memref.IsWhole.read_unread]; exact blk3 m c _) (blk4 m c _) hD1 hD2 hO G 16 le_rfl y
  rw [if_pos (show (y 0).val < 512 * 16 from (y 0).isLt)] at h
  refine h.trans ?_
  rw [coords_eq t]
  rfl

/-- After grid point `n` the result's buffer holds the sum over the first `256 (n + 1)` contracted indices. -/
theorem outs_eq (n : ℕ) (hn : n < cfg0.N) (y : S8192x240.Idx) :
    outsAt0 m c n hn y = upTo (wt (m ((c : Thread nD τ).loc main_arg0)) (m ((c : Thread nD τ).loc main_arg1)))
      (wt (m ((c : Thread nD τ).loc main_arg2)) (m ((c : Thread nD τ).loc main_arg3))) (m ((c : Thread nD τ).loc main_arg4)) (256 * (n + 1)) y := by
  induction n with
  | zero =>
    refine (congrFun (outsAt0_A m c ⟨0, hn⟩ rfl) y).trans ?_
    frame_out
    refine (congrFun (View.read_writes_junk_eq_canon (ms0_5 ⟨0, hn⟩).view _).symm y).trans ?_
    rw [View.writes_append]
    refine (step_eq m c hD1 hD2 hO ⟨0, hn⟩ _ y).trans ?_
    rw [zero_eq]
    refine Eq.trans ?_ (upTo_succ _ _ _ 0 y)
    congr 1
    unfold upTo
    simp
  | succ n ih =>
    have hn' : n < cfg0.N := Nat.lt_of_succ_lt hn
    have h112 : n + 1 < 112 := lt_of_lt_of_eq hn N_0
    refine (congrFun (outsAt0_B m c ⟨n + 1, hn⟩ (by show ¬ (n + 1) % 112 = 0; omega)) y).trans ?_
    frame_out
    refine (View.read_writes_apply_eq_canon (ms0_5 ⟨n + 1, hn⟩).view ((hs0_5 ⟨n + 1, hn⟩).unread (outsAt0 m c n hn')) y _ (pb_cover _ _ _ _ _ _ _ _ _ _ _ _ _ _ _ _ _ _ _ _ _ _ _ 16 le_rfl y (y 0).isLt)).symm.trans ?_
    refine (step_eq m c hD1 hD2 hO ⟨n + 1, hn⟩ _ y).trans (Eq.trans ?_ (upTo_succ _ _ _ (n + 1) y))
    rw [Memref.IsWhole.read_unread, ih hn']

/-- The kernel's result array. -/
theorem result_eq :
    (dats m 0 c).arrAt 5 cfg0.N = image (wt (m ((c : Thread nD τ).loc main_arg0)) (m ((c : Thread nD τ).loc main_arg1)))
      (wt (m ((c : Thread nD τ).loc main_arg2)) (m ((c : Thread nD τ).loc main_arg3))) (m ((c : Thread nD τ).loc main_arg4)) := by
  refine (dats m 0 c).arrAt_eq_of_covers 5 _ (by decide +kernel) fun t hf y => ?_
  have ht : t.val % 112 = 111 := (flush0_5 t).mp hf
  have hN : t.val < 112 := lt_of_lt_of_eq t.isLt (show cfg0.N = 112 from N_0)
  blk_simp
  rw [after0_5]
  refine (outs_eq m c hD1 hD2 hO t.val t.isLt y).trans ?_
  unfold image
  rw [show 256 * (t.val + 1) = 28672 by omega]
  refine congrArg _ (funext fun a => Fin.ext ?_)
  match a with
  | ⟨0, _⟩ => blk_simp; rw [(index5 t).1]; simp
  | ⟨1, _⟩ => blk_simp; rw [(index5 t).2]; simp

end Cert.FirstIdeal.Hand
-- ==== Proof.FirstRef.lean ====
module

public import proofs.«01_k».proof.Proof.FirstKernel
public import proofs.«01_k».proof.Proof.LastRef
public import proofs.«01_k».proof.Proof.Gen.FirstRefIdeal.Value

@[expose] public section

noncomputable section

namespace Cert.FirstRefIdeal.Hand

open Cert.FirstRefIdeal Cert.FirstRefIdeal.Gen Idealize.ShloMosaic Idealize.ShloMosaic.TcCoe Idealize.SL.Sem
open Cert.Deq
open Cert.LastIdeal.Hand (wt)
open Cert.LastRefIdeal.Hand (whole_at)
open Cert.FirstIdeal.Hand (image)

variable (m : (ℓ : Loc nD τ sig) → Buf (Elt Ideal) ℓ) (c : Dev nD)

/-- The reference's first operand is the codes of the first weight. -/
theorem V_v0 : V m c main_v0 = bitcastToFloat (F := Ideal) .fp8e4m3 (m ((c : Thread nD τ).loc main_arg0)) := by
  unfold V
  after_results

/-- The reference's second operand is the scales of the first weight. -/
theorem V_v1 : V m c main_v1 = bitcastToFloat (F := Ideal) .bf16 (m ((c : Thread nD τ).loc main_arg1)) := by
  unfold V
  after_results

/-- The reference's third operand is the codes of the second weight. -/
theorem V_v2 : V m c main_v2 = bitcastToFloat (F := Ideal) .fp8e4m3 (m ((c : Thread nD τ).loc main_arg2)) := by
  unfold V
  after_results

/-- The reference's fourth operand is the scales of the second weight. -/
theorem V_v3 : V m c main_v3 = bitcastToFloat (F := Ideal) .bf16 (m ((c : Thread nD τ).loc main_arg3)) := by
  unfold V
  after_results

/-- The first window's one block is its array. -/
theorem iblk0 (t : Fin cfg0.N) : iblk m c 0 t = V m c main_v0 := by
  funext y
  unfold iblk
  blk_simp
  refine congrArg _ (funext fun a => Fin.ext ?_)
  match a with
  | ⟨0, _⟩ => blk_simp; exact whole_at _ _
  | ⟨1, _⟩ => blk_simp; exact whole_at _ _

/-- The second window's one block is its array. -/
theorem iblk1 (t : Fin cfg0.N) : iblk m c 1 t = V m c main_v1 := by
  funext y
  unfold iblk
  blk_simp
  refine congrArg _ (funext fun a => Fin.ext ?_)
  match a with
  | ⟨0, _⟩ => blk_simp; exact whole_at _ _
  | ⟨1, _⟩ => blk_simp; exact whole_at _ _

/-- The third window's one block is its array. -/
theorem iblk2 (t : Fin cfg0.N) : iblk m c 2 t = V m c main_v2 := by
  funext y
  unfold iblk
  blk_simp
  refine congrArg _ (funext fun a => Fin.ext ?_)
  match a with
  | ⟨0, _⟩ => blk_simp; exact whole_at _ _
  | ⟨1, _⟩ => blk_simp; exact whole_at _ _

/-- The fourth window's one block is its array. -/
theorem iblk3 (t : Fin cfg0.N) : iblk m c 3 t = V m c main_v3 := by
  funext y
  unfold iblk
  blk_simp
  refine congrArg _ (funext fun a => Fin.ext ?_)
  match a with
  | ⟨0, _⟩ => blk_simp; exact whole_at _ _
  | ⟨1, _⟩ => blk_simp; exact whole_at _ _

/-- The fifth window's one block is its array. -/
theorem iblk4 (t : Fin cfg0.N) : iblk m c 4 t = V m c main_arg4 := by
  funext y
  unfold iblk
  blk_simp
  refine congrArg _ (funext fun a => Fin.ext ?_)
  match a with
  | ⟨0, _⟩ => blk_simp; exact whole_at _ _
  | ⟨1, _⟩ => blk_simp; exact whole_at _ _

/-- The reference's payload is the difference of the two products. -/
theorem pay_eq (c1 c2 : FVec Ideal S8192x28672 .fp8e4m3) (s1 s2 : FVec Ideal S8192x224 .bf16) (o : FVec Ideal S28672x240 .bf16)
    (h1 : Deq.Real (deq c1 s1)) (h2 : Deq.Real (deq c2 s2)) (ho : Deq.Real o) : k0_pay1 (F := Ideal) c1 s1 c2 s2 o = image (deq c1 s1) (deq c2 s2) o := by
  unfold k0_pay1
  simp only [shapeCast_self, ref_deq]
  funext j
  obtain ⟨r, n, rfl⟩ : ∃ (r : Fin 8192) (n : Fin 240), j = ix2 r n := ⟨j 0, j 1, eq_ix2 (n0 := 8192) (n1 := 240) j⟩
  exact (congrArg₂ (fun a b : EReal => a - b) (mm dot_S8192x28672_S28672x240_S8192x240_1_0_0_1_n_n rfl none (deq c1 s1) o h1 ho r n)
    (mm dot_S8192x28672_S28672x240_S8192x240_1_0_0_1_n_n rfl none (deq c2 s2) o h2 ho r n)).trans (EReal.coe_sub _ _).symm

/-- The reference's result array. -/
theorem result_eq (hD1 : Deq.Real (wt (m ((c : Thread nD τ).loc main_arg0)) (m ((c : Thread nD τ).loc main_arg1))))
    (hD2 : Deq.Real (wt (m ((c : Thread nD τ).loc main_arg2)) (m ((c : Thread nD τ).loc main_arg3))))
    (hO : Deq.Real (s := S28672x240) (m ((c : Thread nD τ).loc main_arg4))) :
    (dats m 0 c).arrAt 5 cfg0.N = image (wt (m ((c : Thread nD τ).loc main_arg0)) (m ((c : Thread nD τ).loc main_arg1)))
      (wt (m ((c : Thread nD τ).loc main_arg2)) (m ((c : Thread nD τ).loc main_arg3))) (m ((c : Thread nD τ).loc main_arg4)) := by
  refine (dats m 0 c).arrAt_eq_of_covers 5 _ (by decide +kernel) fun t hf y => ?_
  blk_simp
  rw [after0_5]
  frame_out
  rw [iblk0, iblk1, iblk2, iblk3, iblk4, V_v0, V_v1, V_v2, V_v3, V_main_arg4]
  refine (congrFun (pay_eq _ _ _ _ _ hD1 hD2 hO) y).trans (congrArg _ (funext fun a => Fin.ext ?_))
  match a with
  | ⟨0, _⟩ => blk_simp; exact (whole_at _ _).symm
  | ⟨1, _⟩ => blk_simp; exact (whole_at _ _).symm

end Cert.FirstRefIdeal.Hand
-- ==== Proof.FirstValue.lean ====
module

public import proofs.«01_k».proof.Defs
public import proofs.«01_k».proof.Proof.FirstRef
public import proofs.«01_k».proof.Proof.Finite
public import proofs.«01_k».proof.Proof.Gen.FirstIdeal.Value
public import proofs.«01_k».proof.Proof.Gen.FirstRefIdeal.Value

@[expose] public section

noncomputable section

namespace Cert.FirstRefIdeal.Hand

open Idealize.ShloMosaic Idealize.ShloMosaic.TcCoe Idealize.SL.Sem
open Cert.Deq
open Cert.LastIdeal.Hand (wt)
open Cert.FirstIdeal.Hand (image)

/-- The side conditions of the predicate on the arguments. -/
theorem preFacts : Cert.Pre_finite_first.Facts where
  natLt_8_32 := by decide
  bcast_S_S8192x28672 := by decide
  natLt_16_32 := by decide
  bcast_S_S8192x224 := by decide
  bitsLt_bf16_f32 := by decide
  bcast_S_S28672x240 := by decide

/-- Under the precondition the two weights and the columns are real. -/
theorem real_of_pre (m : (ℓ : Loc Cert.FirstIdeal.nD Cert.FirstIdeal.τ Cert.FirstIdeal.sig) → Buf (Elt Ideal) ℓ)
    (h : Pre_FirstIdeal_finite_first (hPre_finite_first := preFacts) m) (c : Dev Cert.FirstIdeal.nD) :
    Deq.Real (wt (m ((c.tc : Thread Cert.FirstIdeal.nD Cert.FirstIdeal.τ).loc Cert.FirstIdeal.main_arg0)) (m ((c.tc : Thread Cert.FirstIdeal.nD Cert.FirstIdeal.τ).loc Cert.FirstIdeal.main_arg1)))
    ∧ Deq.Real (wt (m ((c.tc : Thread Cert.FirstIdeal.nD Cert.FirstIdeal.τ).loc Cert.FirstIdeal.main_arg2)) (m ((c.tc : Thread Cert.FirstIdeal.nD Cert.FirstIdeal.τ).loc Cert.FirstIdeal.main_arg3)))
    ∧ Deq.Real (s := Cert.FirstIdeal.S28672x240) (m ((c.tc : Thread Cert.FirstIdeal.nD Cert.FirstIdeal.τ).loc Cert.FirstIdeal.main_arg4)) := by
  obtain ⟨h0, h1, h2, h3, h4⟩ := h c
  exact ⟨deq_real (codes_real _ _ _ (fun _ => rfl) h0) (scales_real _ _ _ (fun _ => rfl) h1),
    deq_real (codes_real _ _ _ (fun _ => rfl) h2) (scales_real _ _ _ (fun _ => rfl) h3),
    floats_real _ _ (fun _ => inf_eq) h4⟩

/-- The first call and its reference leave the same array: the difference of the two weights applied to the columns. -/
theorem algebraic : algebraic_FirstIdeal_FirstRefIdeal_pre_finite_first (hFirstIdeal := Cert.FirstIdeal.Gen.facts)
    (hFirstRefIdeal := Cert.FirstRefIdeal.Gen.facts) (hPre_finite_first := preFacts) := fun m g m' g' hp ha => by
  refine ⟨fun c => image (wt (m ((c.tc : Thread Cert.FirstIdeal.nD Cert.FirstIdeal.τ).loc Cert.FirstIdeal.main_arg0)) (m ((c.tc : Thread Cert.FirstIdeal.nD Cert.FirstIdeal.τ).loc Cert.FirstIdeal.main_arg1)))
    (wt (m ((c.tc : Thread Cert.FirstIdeal.nD Cert.FirstIdeal.τ).loc Cert.FirstIdeal.main_arg2)) (m ((c.tc : Thread Cert.FirstIdeal.nD Cert.FirstIdeal.τ).loc Cert.FirstIdeal.main_arg3)))
    (m ((c.tc : Thread Cert.FirstIdeal.nD Cert.FirstIdeal.τ).loc Cert.FirstIdeal.main_arg4)), ?_, ?_⟩
  · refine (θ_run _ _ _).mono (fun r h c => ?_) (Cert.FirstIdeal.Value.run_blocks m g)
    obtain ⟨hD1, hD2, hO⟩ := real_of_pre m hp c
    obtain ⟨e, k⟩ := h c
    exact ⟨e.trans (Cert.FirstIdeal.Hand.result_eq m c hD1 hD2 hO), k⟩
  · refine (θ_run _ _ _).mono (fun r h c => ?_) (Cert.FirstRefIdeal.Value.run_blocks m' g')
    obtain ⟨hD1, hD2, hO⟩ := real_of_pre m hp c
    obtain ⟨a0, a1, a2, a3, a4⟩ := ha c
    obtain ⟨e, k⟩ := h c
    refine ⟨e.trans ?_, k⟩
    have := result_eq m' c
    rw [a0, a1, a2, a3, a4] at this
    exact this hD1 hD2 hO

end Cert.FirstRefIdeal.Hand

end
-- ==== Proof.PowerIdealCover.lean ====
module

public import proofs.«01_k».proof.Proof.Gen.PowerIdeal.Frame.Runs

@[expose] public section

noncomputable section

namespace Cert.PowerIdeal.Hand

open Cert.PowerIdeal Cert.PowerIdeal.Gen Idealize.ShloMosaic Idealize.ShloMosaic.TcCoe Idealize.SL.Sem

variable {F : FTy → Type} [FloatOps F]

/-- The block of rows a trip stores. -/
theorem off4_eq : ∀ k : Fin k0_t1_loop.trips, k0_off4 k = ![512 * k.val, 0] := by decide +kernel

/-- A row of a trip's block is in the rectangle that the trip stores. -/
theorem mem_block (k : ℕ) (hk : k < k0_t1_loop.trips) (y : S8192x256.Idx) (h : 512 * k ≤ (y 0).val) (h' : (y 0).val < 512 * (k + 1)) :
    y ∈ (Rect.unit (s := S8192x256) (k0_off4 ⟨k, hk⟩) S512x256.size (k0_off4_inb ⟨k, hk⟩)).set :=
  (Rect.mem_set_unit (inb := k0_off4_inb ⟨k, hk⟩)).2 fun a => by
    have e := congrFun (off4_eq ⟨k, hk⟩) a
    have hy1 : (y 1).val < 256 := (y 1).isLt
    match a with
    | ⟨0, _⟩ =>
      have e : k0_off4 ⟨k, hk⟩ 0 = 512 * k := e
      show k0_off4 ⟨k, hk⟩ 0 ≤ (y 0).val ∧ (y 0).val < k0_off4 ⟨k, hk⟩ 0 + 512
      omega
    | ⟨1, _⟩ =>
      have e : k0_off4 ⟨k, hk⟩ 1 = 0 := e
      show k0_off4 ⟨k, hk⟩ 1 ≤ (y 1).val ∧ (y 1).val < k0_off4 ⟨k, hk⟩ 1 + 256
      omega

variable (𝒱 : Variants) (c : Dev nD) (bd : Option 𝒱.V) (i : grid0.Coords) (arg1 : Memref sig .tc .vmem S8192x256 .fp8e4m3) (harg1 : arg1.IsWhole)
  (arg2 : Memref sig .tc .vmem S8192x256 .fp8e4m3) (harg2 : arg2.IsWhole) (arg3 : Memref sig .tc .vmem S4096x256 .i32) (harg3 : arg3.IsWhole)
  (arg4 : Memref sig .tc .vmem S4096x256 .i32) (harg4 : arg4.IsWhole) (arg5 : Memref sig .tc .vmem S240x8192 .bf16) (harg5 : arg5.IsWhole)
  (arg6 : Memref sig .tc .vmem S8192x240 .f32) (harg6 : arg6.IsWhole) (arg7 : Memref sig .tc .vmem S8192x256 .bf16) (harg7 : arg7.IsWhole)
  (arg8 : Memref sig .tc .vmem S8192x256 .bf16) (harg8 : arg8.IsWhole) (arg0 : BitVec 32) (X_arg1 : BufTy.Contents (Elt F) arg1.view.ty)
  (X_arg2 : BufTy.Contents (Elt F) arg2.view.ty) (X_arg3 : BufTy.Contents (Elt F) arg3.view.ty) (X_arg4 : BufTy.Contents (Elt F) arg4.view.ty)
  (X_arg5 : BufTy.Contents (Elt F) arg5.view.ty) (init : FVec F S240x256 .f32)

/-- A trip of the first loop stores one block of rows of each weight. -/
theorem trip_pieces (k : Fin k0_t1_loop.trips) (acc : FVec F S240x256 .f32) :
    (∃ w, (tripL_k0_t1 (F := F) 𝒱 c bd i arg1 harg1 arg2 harg2 arg3 harg3 arg4 harg4 arg5 harg5 arg6 harg6 arg7 harg7 arg8 harg8 arg0 X_arg1 X_arg2 X_arg3 X_arg4 X_arg5 k acc).1 = [⟨Rect.unit (s := S8192x256) (k0_off4 k) S512x256.size (k0_off4_inb k), w⟩])
    ∧ ∃ w, (tripL_k0_t1 (F := F) 𝒱 c bd i arg1 harg1 arg2 harg2 arg3 harg3 arg4 harg4 arg5 harg5 arg6 harg6 arg7 harg7 arg8 harg8 arg0 X_arg1 X_arg2 X_arg3 X_arg4 X_arg5 k acc).2 = [⟨Rect.unit (s := S8192x256) (k0_off4 k) S512x256.size (k0_off4_inb k), w⟩] := by
  unfold tripL_k0_t1 trip_k0_t1
  dsimp only
  exact ⟨⟨_, rfl⟩, _, rfl⟩

/-- The blocks stored before trip `k` cover the rows below `512 k` of both scratch buffers. -/
theorem st_cover (k : ℕ) (hk : k ≤ 16) (y : S8192x256.Idx) (hy : (y 0).val < 512 * k) :
    (∃ p ∈ (st_k0_t1 (F := F) 𝒱 c bd i arg1 harg1 arg2 harg2 arg3 harg3 arg4 harg4 arg5 harg5 arg6 harg6 arg7 harg7 arg8 harg8 arg0 X_arg1 X_arg2 X_arg3 X_arg4 X_arg5 init k).2.1, y ∈ p.1.set) ∧ ∃ p ∈ (st_k0_t1 (F := F) 𝒱 c bd i arg1 harg1 arg2 harg2 arg3 harg3 arg4 harg4 arg5 harg5 arg6 harg6 arg7 harg7 arg8 harg8 arg0 X_arg1 X_arg2 X_arg3 X_arg4 X_arg5 init k).2.2, y ∈ p.1.set := by
  induction k with
  | zero => omega
  | succ k ih =>
    have hk' : k < k0_t1_loop.trips := lt_of_lt_of_eq hk (by decide +kernel)
    rw [st_k0_t1_succ (F := F) 𝒱 c bd i arg1 harg1 arg2 harg2 arg3 harg3 arg4 harg4 arg5 harg5 arg6 harg6 arg7 harg7 arg8 harg8 arg0 X_arg1 X_arg2 X_arg3 X_arg4 X_arg5 init ⟨k, hk'⟩]
    dsimp only
    obtain ⟨⟨w, hw⟩, w', hw'⟩ := trip_pieces 𝒱 c bd i arg1 harg1 arg2 harg2 arg3 harg3 arg4 harg4 arg5 harg5 arg6 harg6 arg7 harg7 arg8 harg8 arg0 X_arg1 X_arg2 X_arg3 X_arg4 X_arg5 ⟨k, hk'⟩ (st_k0_t1 (F := F) 𝒱 c bd i arg1 harg1 arg2 harg2 arg3 harg3 arg4 harg4 arg5 harg5 arg6 harg6 arg7 harg7 arg8 harg8 arg0 X_arg1 X_arg2 X_arg3 X_arg4 X_arg5 init k).1
    by_cases h : (y 0).val < 512 * k
    · obtain ⟨⟨p, hp, hm⟩, q, hq, hn⟩ := ih (by omega) h
      exact ⟨⟨p, List.mem_append_right _ hp, hm⟩, q, List.mem_append_right _ hq, hn⟩
    · have hm := mem_block k hk' y (by omega) hy
      dsimp only at hw hw'
      rw [hw, hw']
      exact ⟨⟨_, List.mem_append_left _ (List.mem_singleton_self _), hm⟩, _, List.mem_append_left _ (List.mem_singleton_self _), hm⟩

/-- What the first loop leaves in a scratch buffer does not depend on what it held. -/
theorem writes_junk {arg : Memref sig .tc .vmem S8192x256 .bf16} (harg : arg.IsWhole) (f : BufTy.Contents (Elt F) arg.view.ty) (L : List (View.Piece (Elt F) S8192x256 .bf16))
    (h : ∀ y, ∃ p ∈ L, y ∈ p.1.set) : arg.view.writes (Elt F) f L = arg.view.writes (Elt F) arg.view.junk L :=
  (harg.eq_unread (funext fun y => (View.read_writes_apply_eq_canon arg.view f y L (h y)).trans (View.read_writes_apply_eq_canon arg.view arg.view.junk y L (h y)).symm)).trans
    (harg.eq_unread rfl).symm

/-- The first scratch buffer after the first loop. -/
theorem scratch7 (n : ℕ) (hn : n = 16) (f : BufTy.Contents (Elt F) arg7.view.ty) :
    arg7.view.writes (Elt F) f (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.1 = arg7.view.writes (Elt F) arg7.view.junk (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.1 :=
  writes_junk harg7 f _ fun y => (st_cover 𝒱 c bd i arg1 harg1 arg2 harg2 arg3 harg3 arg4 harg4 arg5 harg5 arg6 harg6 arg7 harg7 arg8 harg8 arg0 X_arg1 X_arg2 X_arg3 X_arg4 X_arg5 init n hn.le y (hn ▸ (y 0).isLt)).1

/-- The second scratch buffer after the first loop. -/
theorem scratch8 (n : ℕ) (hn : n = 16) (f : BufTy.Contents (Elt F) arg8.view.ty) :
    arg8.view.writes (Elt F) f (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.2 = arg8.view.writes (Elt F) arg8.view.junk (st_k0_t1 (F := F) 𝒱 c bd i arg1 harg1 arg2 harg2 arg3 harg3 arg4 harg4 arg5 harg5 arg6 harg6 arg7 harg7 arg8 harg8 arg0 X_arg1 X_arg2 X_arg3 X_arg4 X_arg5 init n).2.2 :=
  writes_junk harg8 f _ fun y => (st_cover 𝒱 c bd i arg1 harg1 arg2 harg2 arg3 harg3 arg4 harg4 arg5 harg5 arg6 harg6 arg7 harg7 arg8 harg8 arg0 X_arg1 X_arg2 X_arg3 X_arg4 X_arg5 init n hn.le y (hn ▸ (y 0).isLt)).2

end Cert.PowerIdeal.Hand
-- ==== Proof.PowerIdealRunA.lean ====
module

public import proofs.«01_k».proof.Proof.PowerIdealCover

@[expose] public section

-- membership in a rectangle of production extents (`View.cover_of_tiled`): the elaborator's structural look
-- recurses once per coordinate of the long axes
set_option maxRecDepth 16384

noncomputable section

namespace Cert.PowerIdeal.Gen

open Idealize.ShloMosaic Idealize.ShloMosaic.TcCoe Idealize.ShloMosaic.Tactic
open Cert.PowerIdeal.Hand
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : cond0_0 i)
    (x0 : Vec F S8192x256 .fp8e4m3) (x1 : Vec F S8192x256 .fp8e4m3) (x2 : Vec F S4096x256 .i32) (x3 : Vec F S4096x256 .i32) (x4 : Vec F S240x8192 .bf16) :
    { L5 : List (View.Piece (Elt F) S8192x240 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0_power i arg1 harg1 arg2 harg2 arg3 harg3 arg4 harg4 arg5 harg5 arg6 harg6 arg7 harg7 arg8 harg8) K } := by
  refine ⟨?_, fun E K => ?run⟩
  case run =>
    simp only [cc0_power_eq_skeleton]; unfold cc0_power_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    rw [scratch7 (hn := by decide +kernel) (f := fs0), scratch8 (hn := by decide +kernel) (f := fs1)]
    isplitl [H5]; · iexists _; iexact H5
    isplitl [HS0]
    · iexists _, _; isplitr; swap; · iexact HS0
      ipureintro; rfl
    iexists _, _; isplitr; swap; · iexact HS1
    ipureintro; rfl

end Cert.PowerIdeal.Gen

end
-- ==== Proof.PowerIdealRunB.lean ====
module

public import proofs.«01_k».proof.Proof.PowerIdealRunA

@[expose] public section

-- membership in a rectangle of production extents (`View.cover_of_tiled`): the elaborator's structural look
-- recurses once per coordinate of the long axes
set_option maxRecDepth 16384

noncomputable section

namespace Cert.PowerIdeal.Gen

open Idealize.ShloMosaic Idealize.ShloMosaic.TcCoe Idealize.ShloMosaic.Tactic
open Cert.PowerIdeal.Hand
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 111: 111 of 112), WITH the
    proof that on whole staging memrefs — the inputs' at their contents, the outputs it reads before covering (5) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : ¬cond0_0 i)
    (x0 : Vec F S8192x256 .fp8e4m3) (x1 : Vec F S8192x256 .fp8e4m3) (x2 : Vec F S4096x256 .i32) (x3 : Vec F S4096x256 .i32) (x4 : Vec F S240x8192 .bf16) (xo5 : Vec F S8192x240 .f32) :
    { L5 : List (View.Piece (Elt F) S8192x240 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0_power i arg1 harg1 arg2 harg2 arg3 harg3 arg4 harg4 arg5 harg5 arg6 harg6 arg7 harg7 arg8 harg8) K } := by
  refine ⟨?_, fun E K => ?run⟩
  case run =>
    simp only [cc0_power_eq_skeleton]; unfold cc0_power_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    rw [scratch7 (hn := by decide +kernel) (f := fs0), scratch8 (hn := by decide +kernel) (f := fs1)]
    isplitl [H5]; · iexists _; iexact H5
    isplitl [HS0]
    · iexists _, _; isplitr; swap; · iexact HS0
      ipureintro; rfl
    iexists _, _; isplitr; swap; · iexact HS1
    ipureintro; rfl

end Cert.PowerIdeal.Gen

end
-- ==== Proof.PowerIdealFrame.lean ====
module

public import proofs.«01_k».proof.Proof.PowerIdealRunB
public import Idealize.ShloMosaic.Lib.Claim

@[expose] public section

-- membership in a rectangle of production extents (`View.cover_of_tiled`): the elaborator's structural look
-- recurses once per coordinate of the long axes
set_option maxRecDepth 16384

noncomputable section

namespace Cert.PowerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 are of SEVERAL sizes (17 stores of `S512x240`, `S8192x240`): cut into blocks of `![512, 240]` they tile its block (checked by the kernel's evaluation: Lib/Ring.lean `Piece.tiledBy`), so they cover it. -/
theorem cover0_A_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : cond0_0 i)
    (x0 : Vec F S8192x256 .fp8e4m3) (x1 : Vec F S8192x256 .fp8e4m3) (x2 : Vec F S4096x256 .i32) (x3 : Vec F S4096x256 .i32) (x4 : Vec F S240x8192 .bf16) (y : S8192x240.Idx) :
    ∃ pc ∈ (kernelRun0_A c i arg1 harg1 arg2 harg2 arg3 harg3 arg4 harg4 arg5 harg5 arg6 harg6 arg7 harg7 arg8 harg8 hc0 x0 x1 x2 x3 x4).1, y ∈ pc.1.set :=
  View.cover_of_tiledBy (kernelRun0_A c i arg1 harg1 arg2 harg2 arg3 harg3 arg4 harg4 arg5 harg5 arg6 harg6 arg7 harg7 arg8 harg8 hc0 x0 x1 x2 x3 x4).1 ![512, 240] (by sl_kernel_rfl) y

/-- What case A leaves in output 5's staging buffer: its pieces read back over junk. -/
def out0_A_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : cond0_0 i)
    (x0 : Vec F S8192x256 .fp8e4m3) (x1 : Vec F S8192x256 .fp8e4m3) (x2 : Vec F S4096x256 .i32) (x3 : Vec F S4096x256 .i32) (x4 : Vec F S240x8192 .bf16) : Vec F S8192x240 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3 x4).1)

/-- Case B's pieces for output 5 tile its block (16 stores of `S512x240`, checked by the kernel's evaluation: Lib/Ring.lean `Piece.tiledL`, linear in the pieces, through a loop's `@[irreducible]` trip theorem too), so they cover it. -/
theorem cover0_B_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : ¬cond0_0 i)
    (x0 : Vec F S8192x256 .fp8e4m3) (x1 : Vec F S8192x256 .fp8e4m3) (x2 : Vec F S4096x256 .i32) (x3 : Vec F S4096x256 .i32) (x4 : Vec F S240x8192 .bf16) (xo5 : Vec F S8192x240 .f32) (y : S8192x240.Idx) :
    ∃ pc ∈ (kernelRun0_B c i arg1 harg1 arg2 harg2 arg3 harg3 arg4 harg4 arg5 harg5 arg6 harg6 arg7 harg7 arg8 harg8 hc0 x0 x1 x2 x3 x4 xo5).1, y ∈ pc.1.set :=
  View.cover_of_tiledL (kernelRun0_B c i arg1 harg1 arg2 harg2 arg3 harg3 arg4 harg4 arg5 harg5 arg6 harg6 arg7 harg7 arg8 harg8 hc0 x0 x1 x2 x3 x4 xo5).1 S512x240.size (by sl_kernel_rfl) y

/-- What case B leaves in output 5's staging buffer: its pieces read back over junk. -/
def out0_B_5 (c : Dev nD) (i : grid0.Coords) (arg1 : Memref sig .tc .vmem S8192x256 .fp8e4m3) (harg1 : arg1.IsWhole) (arg2 : Memref sig .tc .vmem S8192x256 .fp8e4m3) (harg2 : arg2.IsWhole) (arg3 : Memref sig .tc .vmem S4096x256 .i32) (harg3 : arg3.IsWhole) (arg4 : Memref sig .tc .vmem S4096x256 .i32) (harg4 : arg4.IsWhole) (arg5 : Memref sig .tc .vmem S240x8192 .bf16) (harg5 : arg5.IsWhole) (arg6 : Memref sig .tc .vmem S8192x240 .f32) (harg6 : arg6.IsWhole) (arg7 : Memref sig .tc .vmem S8192x256 .bf16) (harg7 : arg7.IsWhole) (arg8 : Memref sig .tc .vmem S8192x256 .bf16) (harg8 : arg8.IsWhole) (hc0 : ¬cond0_0 i)
    (x0 : Vec F S8192x256 .fp8e4m3) (x1 : Vec F S8192x256 .fp8e4m3) (x2 : Vec F S4096x256 .i32) (x3 : Vec F S4096x256 .i32) (x4 : Vec F S240x8192 .bf16) (xo5 : Vec F S8192x240 .f32) : Vec F S8192x240 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 x4 xo5).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8192x240 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 112 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 112 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 112 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 112 = 0) (d) :
    (dats m 0 c).before 5 t d = (outsAt0 m c (t.val - 1) (Nat.lt_of_le_of_lt (Nat.sub_le _ _) t.isLt)) := by
  have hN : t.val < 112 := lt_of_lt_of_eq t.isLt (show cfg0.N = 112 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 112 := lt_of_lt_of_eq t.isLt (show cfg0.N = 112 from N_0)
  by_cases h0 : t.val % 112 = 0
  · rw [outsAt0_A m c t h0]
    unfold out0_A_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _ _)
  · rw [outsAt0_B m c t h0]
    simp only [before0_5_B m c t h0]
    unfold out0_B_5
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, ⟨%e5, H5⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_PowerIdeal`'s statement (Defs.lean) at any `F` — Proof.lean cites it at `Bits`:
    `theorem Cert.Proof.claim : Cert.Claim := ⟨Cert.PowerIdeal.Gen.facts, fun m ρ _ => Cert.PowerIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.PowerIdeal.Gen

end
-- ==== Proof.PowerIdealValue.lean ====
module

public import proofs.«01_k».proof.Proof.PowerIdealFrame
public import Idealize.ShloMosaic.Lib.Pipeline.Value

@[expose] public section

noncomputable section

namespace Cert.PowerIdeal.Value

open Cert.PowerIdeal Cert.PowerIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`), read through the window's block. -/
theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 112 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 112 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt))) := by
  simp only [flushed5, outsAt0_B m c t h0]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S8192x240.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v24) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.PowerIdeal.Value

end
-- ==== Proof.PowerStep.lean ====
module

public import proofs.«01_k».proof.Proof.FirstStep
public import proofs.«01_k».proof.Proof.PowerIdealValue

@[expose] public section

noncomputable section

namespace Cert.PowerIdeal.Hand

open Cert.PowerIdeal Cert.PowerIdeal.Gen Idealize.ShloMosaic Idealize.ShloMosaic.TcCoe Idealize.SL.Sem
open Cert.Deq
open Cert.LastIdeal.Hand (Block Packed sum_block)
open Cert.FirstIdeal.Hand (term)

/-- Which rows of the result a trip of the second loop reads and writes. -/
theorem off6_eq : ∀ k : Fin k0_t2_loop.trips, k0_off6 k = ![512 * k.val, 0] := by decide +kernel
/-- Which rows of the weights a trip of the second loop loads. -/
theorem off7_eq : ∀ k : Fin k0_t2_loop.trips, ∀ a, k0_off7 k a = ![512 * k.val, 0] a := by decide +kernel

variable (𝒱 : Variants) (c : Dev nD) (bd : Option 𝒱.V) (i : grid0.Coords) (arg1 : Memref sig .tc .vmem S8192x256 .fp8e4m3) (harg1 : arg1.IsWhole)
  (arg2 : Memref sig .tc .vmem S8192x256 .fp8e4m3) (harg2 : arg2.IsWhole) (arg3 : Memref sig .tc .vmem S4096x256 .i32) (harg3 : arg3.IsWhole)
  (arg4 : Memref sig .tc .vmem S4096x256 .i32) (harg4 : arg4.IsWhole) (arg5 : Memref sig .tc .vmem S240x8192 .bf16) (harg5 : arg5.IsWhole)
  (arg6 : Memref sig .tc .vmem S8192x240 .f32) (harg6 : arg6.IsWhole) (arg7 : Memref sig .tc .vmem S8192x256 .bf16) (harg7 : arg7.IsWhole)
  (arg8 : Memref sig .tc .vmem S8192x256 .bf16) (harg8 : arg8.IsWhole) (arg0 : BitVec 32) (X_arg1 : BufTy.Contents (Elt Ideal) arg1.view.ty)
  (X_arg2 : BufTy.Contents (Elt Ideal) arg2.view.ty) (X_arg3 : BufTy.Contents (Elt Ideal) arg3.view.ty) (X_arg4 : BufTy.Contents (Elt Ideal) arg4.view.ty)
  (X_arg5 : BufTy.Contents (Elt Ideal) arg5.view.ty)

/-- The chunk of a weight that a trip of the first loop dequantises. -/
def part (a : BitVec 32) (X : Vec Ideal S8192x256 .fp8e4m3) (W : IVec S4096x256 32) (k : Fin k0_t1_loop.trips) : FVec Ideal S512x256 .bf16 :=
  Cert.LastIdeal.Gen.k0_pay3 a (View.ld (Val := Elt Ideal) (e' := .i32) W (Rect.unit (s := S4096x256) (k0_off1 i k) S256x128.size (k0_off1_inb i k)))
    (View.ld (Val := Elt Ideal) (e' := .fp8e4m3) X (Rect.unit (s := S8192x256) (k0_off2 k) S512x128.size (k0_off2_inb k)))
    (View.ld (Val := Elt Ideal) (e' := .fp8e4m3) X (Rect.unit (s := S8192x256) (k0_off3 k) S512x128.size (k0_off3_inb k)))

/-- What one trip of the first loop yields: what it found, and the basis times the first chunk less the basis times the second. -/
theorem tripR_eq (k : Fin k0_t1_loop.trips) (acc : FVec Ideal S240x256 .f32) :
    tripR_k0_t1 (F := Ideal) 𝒱 c bd i arg1 harg1 arg2 harg2 arg3 harg3 arg4 harg4 arg5 harg5 arg6 harg6 arg7 harg7 arg8 harg8 arg0 X_arg1 X_arg2 X_arg3 X_arg4 X_arg5 k acc
      = addf acc (subf
          (matmul (φ₁ := .bf16) dot_S240x512_S512x256_S240x256_1_0_0_1_n_n none
            (View.ld (Val := Elt Ideal) (e' := .bf16) (arg5.view.read (Elt Ideal) X_arg5) (Rect.unit (s := S240x8192) (k0_off5 k) S240x512.size (k0_off5_inb k)))
            (part i arg0 (arg1.view.read (Elt Ideal) X_arg1) (arg3.view.read (Elt Ideal) X_arg3) k) (constant S240x256 .f32 0x00000000#32))
          (matmul (φ₁ := .bf16) dot_S240x512_S512x256_S240x256_1_0_0_1_n_n none
            (View.ld (Val := Elt Ideal) (e' := .bf16) (arg5.view.read (Elt Ideal) X_arg5) (Rect.unit (s := S240x8192) (k0_off5 k) S240x512.size (k0_off5_inb k)))
            (part i arg0 (arg2.view.read (Elt Ideal) X_arg2) (arg4.view.read (Elt Ideal) X_arg4) k) (constant S240x256 .f32 0x00000000#32))) := by
  unfold tripR_k0_t1 trip_k0_t1
  dsimp only
  rfl

/-- What one trip of the first loop stores in the first scratch buffer: its chunk of the first weight. -/
theorem tripL1_eq (k : Fin k0_t1_loop.trips) (acc : FVec Ideal S240x256 .f32) :
    (tripL_k0_t1 (F := Ideal) 𝒱 c bd i arg1 harg1 arg2 harg2 arg3 harg3 arg4 harg4 arg5 harg5 arg6 harg6 arg7 harg7 arg8 harg8 arg0 X_arg1 X_arg2 X_arg3 X_arg4 X_arg5 k acc).1
      = [⟨Rect.unit (s := S8192x256) (k0_off4 k) S512x256.size (k0_off4_inb k), k0_pay8 (F := Ideal) (part i arg0 (arg1.view.read (Elt Ideal) X_arg1) (arg3.view.read (Elt Ideal) X_arg3) k)⟩] := by
  unfold tripL_k0_t1 trip_k0_t1
  dsimp only
  rfl

/-- What one trip of the first loop stores in the second scratch buffer: its chunk of the second weight. -/
theorem tripL2_eq (k : Fin k0_t1_loop.trips) (acc : FVec Ideal S240x256 .f32) :
    (tripL_k0_t1 (F := Ideal) 𝒱 c bd i arg1 harg1 arg2 harg2 arg3 harg3 arg4 harg4 arg5 harg5 arg6 harg6 arg7 harg7 arg8 harg8 arg0 X_arg1 X_arg2 X_arg3 X_arg4 X_arg5 k acc).2
      = [⟨Rect.unit (s := S8192x256) (k0_off4 k) S512x256.size (k0_off4_inb k), k0_pay3 (F := Ideal) (part i arg0 (arg2.view.read (Elt Ideal) X_arg2) (arg4.view.read (Elt Ideal) X_arg4) k)⟩] := by
  unfold tripL_k0_t1 trip_k0_t1
  dsimp only
  rfl

/-- A buffer in which trip after trip stores a chunk of the column block `t` of `D` reads that column block. -/
theorem kept_eq (arg : Memref sig .tc .vmem S8192x256 .bf16) (L : ℕ → List (View.Piece (Elt Ideal) S8192x256 .bf16)) (P : Fin k0_t1_loop.trips → FVec Ideal S512x256 .bf16)
    (hL : ∀ k : Fin k0_t1_loop.trips, L (k.val + 1) = ⟨Rect.unit (s := S8192x256) (k0_off4 k) S512x256.size (k0_off4_inb k), P k⟩ :: L k.val)
    (t : Fin 112) (D : FVec Ideal S8192x28672 .bf16)
    (hP : ∀ (k : Fin 16) (r : Fin 512) (j : Fin 256), P k (ix2 r j) = D (ix2 ⟨512 * k.val + r.val, by omega⟩ ⟨256 * t.val + j.val, by omega⟩))
    (k : ℕ) (hk : k ≤ 16) (r : Fin 8192) (j : Fin 256) (hy : r.val < 512 * k) :
    arg.view.read (Elt Ideal) (arg.view.writes (Elt Ideal) arg.view.junk (L k)) (ix2 r j) = D (ix2 r ⟨256 * t.val + j.val, by omega⟩) := by
  induction k with
  | zero => omega
  | succ k ih =>
    have hk' : k < k0_t1_loop.trips := lt_of_lt_of_eq hk (by decide +kernel)
    rw [hL ⟨k, hk'⟩]
    by_cases h : r.val < 512 * k
    · exact (View.read_writes_cons_rows_of_not_mem _ _ _ _ _ (ix2 r j) (off4_eq ⟨k, hk'⟩) (W := 512) rfl (Or.inl h)).trans (ih (by omega) h)
    · refine (View.read_writes_cons_rows_of_mem _ _ _ _ _ (ix2 r j) (ix2 (⟨r.val - 512 * k, by omega⟩ : Fin 512) j) (off4_eq ⟨k, hk'⟩) (by show r.val = 512 * k + (r.val - 512 * k); omega) rfl).trans ?_
      refine (hP ⟨k, hk⟩ _ j).trans (congrArg D ?_)
      congr 1
      apply Fin.ext
      show 512 * k + (r.val - 512 * k) = r.val
      omega

/-- What one trip of the second loop stores, of what it finds in the result's buffer. -/
theorem trip2_eq (v5 : FVec Ideal S240x256 .f32) (X7 : BufTy.Contents (Elt Ideal) arg7.view.ty) (X8 : BufTy.Contents (Elt Ideal) arg8.view.ty) (k : Fin k0_t2_loop.trips) (f : BufTy.Contents (Elt Ideal) arg6.view.ty) :
    tripL_k0_t2 (F := Ideal) 𝒱 c bd i arg1 harg1 arg2 harg2 arg3 harg3 arg4 harg4 arg5 harg5 arg6 harg6 arg7 harg7 arg8 harg8 v5 X7 X8 k f
      = [⟨Rect.unit (s := S8192x240) (k0_off6 k) S512x240.size (k0_off6_inb k),
          k0_pay5 (F := Ideal) v5 (View.ld (arg6.view.read (Elt Ideal) f) (Rect.unit (s := S8192x240) (k0_off6 k) S512x240.size (k0_off6_inb k)))
            (View.ld (arg7.view.read (Elt Ideal) X7) (Rect.unit (s := S8192x256) (k0_off7 k) S512x256.size (k0_off7_inb k)))
            (View.ld (arg8.view.read (Elt Ideal) X8) (Rect.unit (s := S8192x256) (k0_off7 k) S512x256.size (k0_off7_inb k)))⟩] := by
  unfold tripL_k0_t2 trip_k0_t2
  dsimp only
  rfl

/-- The pieces stored before trip `k` of the second loop cover the rows below `512 k`. -/
theorem pb_cover (v5 : FVec Ideal S240x256 .f32) (X7 : BufTy.Contents (Elt Ideal) arg7.view.ty) (X8 : BufTy.Contents (Elt Ideal) arg8.view.ty) (G : BufTy.Contents (Elt Ideal) arg6.view.ty) (k : ℕ) (hk : k ≤ 16) (y : S8192x240.Idx) (hy : (y 0).val < 512 * k) :
    ∃ p ∈ pb_k0_t2 (F := Ideal) 𝒱 c bd i arg1 harg1 arg2 harg2 arg3 harg3 arg4 harg4 arg5 harg5 arg6 harg6 arg7 harg7 arg8 harg8 v5 X7 X8 G k, y ∈ p.1.set := by
  induction k with
  | zero => omega
  | succ k ih =>
    have hk' : k < k0_t2_loop.trips := lt_of_lt_of_eq hk (by decide +kernel)
    rw [pb_k0_t2_succ (F := Ideal) 𝒱 c bd i arg1 harg1 arg2 harg2 arg3 harg3 arg4 harg4 arg5 harg5 arg6 harg6 arg7 harg7 arg8 harg8 v5 X7 X8 G ⟨k, hk'⟩, trip2_eq]
    by_cases h : (y 0).val < 512 * k
    · obtain ⟨p, hp, hm⟩ := ih (by omega) h
      exact ⟨p, List.mem_append_right _ hp, hm⟩
    · refine ⟨_, List.mem_append_left _ (List.mem_singleton_self _), (Rect.mem_set_unit (inb := k0_off6_inb ⟨k, hk'⟩)).2 fun a => ?_⟩
      have e := congrFun (off6_eq ⟨k, hk'⟩) a
      have hy1 : (y 1).val < 240 := (y 1).isLt
      match a with
      | ⟨0, _⟩ =>
        have e : k0_off6 ⟨k, hk'⟩ 0 = 512 * k := e
        show k0_off6 ⟨k, hk'⟩ 0 ≤ (y 0).val ∧ (y 0).val < k0_off6 ⟨k, hk'⟩ 0 + 512
        omega
      | ⟨1, _⟩ =>
        have e : k0_off6 ⟨k, hk'⟩ 1 = 0 := e
        show k0_off6 ⟨k, hk'⟩ 1 ≤ (y 1).val ∧ (y 1).val < k0_off6 ⟨k, hk'⟩ 1 + 240
        omega

section First

variable (t : Fin 112) (hi : (i 0).val = t.val) (h0 : arg0 = BitVec.ofNat 32 t.val)
  (C1 C2 : FVec Ideal S8192x28672 .fp8e4m3) (S1 S2 : FVec Ideal Cert.LastRefIdeal.S8192x224 .bf16) (Q : FVec Ideal S240x8192 .bf16)
  (h1 : Block t (arg1.view.read (Elt Ideal) X_arg1) C1)
  (h2 : Block t (arg2.view.read (Elt Ideal) X_arg2) C2)
  (h3 : Packed (arg3.view.read (Elt Ideal) X_arg3) S1)
  (h4 : Packed (arg4.view.read (Elt Ideal) X_arg4) S2)
  (h5 : arg5.view.read (Elt Ideal) X_arg5 = Q)
  (hD1 : Deq.Real (deq C1 S1)) (hD2 : Deq.Real (deq C2 S2)) (hQ : Deq.Real Q)

include hi h0

/-- The first scratch buffer after the first loop reads the column block of the first weight. -/
theorem kept7 (h1 : Block t (arg1.view.read (Elt Ideal) X_arg1) C1) (h3 : Packed (arg3.view.read (Elt Ideal) X_arg3) S1) (r : Fin 8192) (j : Fin 256) :
    arg7.view.read (Elt Ideal) (arg7.view.writes (Elt Ideal) arg7.view.junk (st_k0_t1 (F := Ideal) 𝒱 c bd i arg1 harg1 arg2 harg2 arg3 harg3 arg4 harg4 arg5 harg5 arg6 harg6 arg7 harg7 arg8 harg8 arg0 X_arg1 X_arg2 X_arg3 X_arg4 X_arg5 (k0_pay2 (F := Ideal)) 16).2.1) (ix2 r j)
      = deq C1 S1 (ix2 r ⟨256 * t.val + j.val, by omega⟩) := by
  subst h0
  refine kept_eq arg7 (fun k => (st_k0_t1 (F := Ideal) 𝒱 c bd i arg1 harg1 arg2 harg2 arg3 harg3 arg4 harg4 arg5 harg5 arg6 harg6 arg7 harg7 arg8 harg8 (BitVec.ofNat 32 t.val) X_arg1 X_arg2 X_arg3 X_arg4 X_arg5 (k0_pay2 (F := Ideal)) k).2.1)
    (part i (BitVec.ofNat 32 t.val) (arg1.view.read (Elt Ideal) X_arg1) (arg3.view.read (Elt Ideal) X_arg3)) (fun k => ?_) t (deq C1 S1)
    (fun k r j => Cert.LastIdeal.Hand.chunk i t hi _ _ C1 S1 h1 h3 k r j) 16 le_rfl r j r.isLt
  beta_reduce
  rw [st_k0_t1_succ (F := Ideal) 𝒱 c bd i arg1 harg1 arg2 harg2 arg3 harg3 arg4 harg4 arg5 harg5 arg6 harg6 arg7 harg7 arg8 harg8 (BitVec.ofNat 32 t.val) X_arg1 X_arg2 X_arg3 X_arg4 X_arg5 (k0_pay2 (F := Ideal)) k]
  have e := tripL1_eq 𝒱 c bd i arg1 harg1 arg2 harg2 arg3 harg3 arg4 harg4 arg5 harg5 arg6 harg6 arg7 harg7 arg8 harg8 (BitVec.ofNat 32 t.val) X_arg1 X_arg2 X_arg3 X_arg4 X_arg5 k (st_k0_t1 (F := Ideal) 𝒱 c bd i arg1 harg1 arg2 harg2 arg3 harg3 arg4 harg4 arg5 harg5 arg6 harg6 arg7 harg7 arg8 harg8 (BitVec.ofNat 32 t.val) X_arg1 X_arg2 X_arg3 X_arg4 X_arg5 (k0_pay2 (F := Ideal)) k).1
  refine (congrArg (· ++ _) e).trans ?_
  unfold k0_pay8
  rw [shapeCast_self]
  rfl

/-- The second scratch buffer after the first loop reads the column block of the second weight. -/
theorem kept8 (h2 : Block t (arg2.view.read (Elt Ideal) X_arg2) C2) (h4 : Packed (arg4.view.read (Elt Ideal) X_arg4) S2) (r : Fin 8192) (j : Fin 256) :
    arg8.view.read (Elt Ideal) (arg8.view.writes (Elt Ideal) arg8.view.junk (st_k0_t1 (F := Ideal) 𝒱 c bd i arg1 harg1 arg2 harg2 arg3 harg3 arg4 harg4 arg5 harg5 arg6 harg6 arg7 harg7 arg8 harg8 arg0 X_arg1 X_arg2 X_arg3 X_arg4 X_arg5 (k0_pay2 (F := Ideal)) 16).2.2) (ix2 r j)
      = deq C2 S2 (ix2 r ⟨256 * t.val + j.val, by omega⟩) := by
  subst h0
  refine kept_eq arg8 (fun k => (st_k0_t1 (F := Ideal) 𝒱 c bd i arg1 harg1 arg2 harg2 arg3 harg3 arg4 harg4 arg5 harg5 arg6 harg6 arg7 harg7 arg8 harg8 (BitVec.ofNat 32 t.val) X_arg1 X_arg2 X_arg3 X_arg4 X_arg5 (k0_pay2 (F := Ideal)) k).2.2)
    (part i (BitVec.ofNat 32 t.val) (arg2.view.read (Elt Ideal) X_arg2) (arg4.view.read (Elt Ideal) X_arg4)) (fun k => ?_) t (deq C2 S2)
    (fun k r j => Cert.LastIdeal.Hand.chunk i t hi _ _ C2 S2 h2 h4 k r j) 16 le_rfl r j r.isLt
  beta_reduce
  rw [st_k0_t1_succ (F := Ideal) 𝒱 c bd i arg1 harg1 arg2 harg2 arg3 harg3 arg4 harg4 arg5 harg5 arg6 harg6 arg7 harg7 arg8 harg8 (BitVec.ofNat 32 t.val) X_arg1 X_arg2 X_arg3 X_arg4 X_arg5 (k0_pay2 (F := Ideal)) k]
  have e := tripL2_eq 𝒱 c bd i arg1 harg1 arg2 harg2 arg3 harg3 arg4 harg4 arg5 harg5 arg6 harg6 arg7 harg7 arg8 harg8 (BitVec.ofNat 32 t.val) X_arg1 X_arg2 X_arg3 X_arg4 X_arg5 k (st_k0_t1 (F := Ideal) 𝒱 c bd i arg1 harg1 arg2 harg2 arg3 harg3 arg4 harg4 arg5 harg5 arg6 harg6 arg7 harg7 arg8 harg8 (BitVec.ofNat 32 t.val) X_arg1 X_arg2 X_arg3 X_arg4 X_arg5 (k0_pay2 (F := Ideal)) k).1
  refine (congrArg (· ++ _) e).trans ?_
  unfold k0_pay3
  rw [shapeCast_self]
  rfl

include h1 h2 h3 h4 h5 hD1 hD2 hQ

/-- The value the first loop carries, before trip `k`: the products over the rows below `512 k`. -/
theorem st_eq (k : ℕ) (hk : k ≤ 16) (r : Fin 240) (j : Fin 256) :
    (st_k0_t1 (F := Ideal) 𝒱 c bd i arg1 harg1 arg2 harg2 arg3 harg3 arg4 harg4 arg5 harg5 arg6 harg6 arg7 harg7 arg8 harg8 arg0 X_arg1 X_arg2 X_arg3 X_arg4 X_arg5 (k0_pay2 (F := Ideal)) k).1 (ix2 r j)
      = ((∑ n ∈ Finset.range (512 * k), re Q r n * re (deq C1 S1) n (256 * t.val + j.val)
          - ∑ n ∈ Finset.range (512 * k), re Q r n * re (deq C2 S2) n (256 * t.val + j.val) : ℝ) : EReal) := by
  induction k with
  | zero =>
    rw [st_k0_t1_zero]
    refine (show k0_pay2 (F := Ideal) (ix2 r j) = (0 : EReal) from Idealize.ShloMosaic.Ideal.ofBits_zero_f32).trans ?_
    simp
  | succ k ih =>
    have e := congrArg Prod.fst (st_k0_t1_succ (F := Ideal) 𝒱 c bd i arg1 harg1 arg2 harg2 arg3 harg3 arg4 harg4 arg5 harg5 arg6 harg6 arg7 harg7 arg8 harg8 arg0 X_arg1 X_arg2 X_arg3 X_arg4 X_arg5 (k0_pay2 (F := Ideal)) ⟨k, hk⟩)
    refine (congrFun (e.trans (tripR_eq 𝒱 c bd i arg1 harg1 arg2 harg2 arg3 harg3 arg4 harg4 arg5 harg5 arg6 harg6 arg7 harg7 arg8 harg8 arg0 X_arg1 X_arg2 X_arg3 X_arg4 X_arg5 ⟨k, hk⟩ _)) (ix2 r j)).trans ?_
    subst h0
    have e1 := Cert.LastIdeal.Hand.mm_chunk i t hi _ _ C1 S1 h1 h3 hD1 Q hQ ⟨k, hk⟩ r j
    have e2 := Cert.LastIdeal.Hand.mm_chunk i t hi _ _ C2 S2 h2 h4 hD2 Q hQ ⟨k, hk⟩ r j
    rw [h5]
    refine (congrArg₂ (fun a b : EReal => a + b) (ih (by omega)) (congrArg₂ (fun a b : EReal => a - b) e1 e2)).trans ?_
    rw [sum_block, sum_block]
    beta_reduce
    rw [← EReal.coe_sub, ← EReal.coe_add]
    exact congrArg Real.toEReal (by ring)

end First

section Second

variable (t : Fin 112) (D1 D2 : FVec Ideal S8192x28672 .bf16) (O : FVec Ideal Cert.FirstIdeal.S28672x240 .bf16)
  (hD1 : Deq.Real D1) (hD2 : Deq.Real D2) (hO : Deq.Real O) (v5 : FVec Ideal S240x256 .f32)
  (hv : ∀ (j : Fin 240) (l : Fin 256), v5 (ix2 j l) = O (ix2 ⟨256 * t.val + l.val, by omega⟩ j))

include hO hv

/-- The product of rows of a column block of a weight with the columns the first loop left, as a real sum. -/
theorem mm_rows (B : Vec Ideal S8192x256 .bf16) (D : FVec Ideal S8192x28672 .bf16) (hD : Deq.Real D)
    (hB : ∀ (r : Fin 8192) (l : Fin 256), B (ix2 r l) = D (ix2 r ⟨256 * t.val + l.val, by omega⟩)) (k : Fin 16) (r : Fin 512) (j : Fin 240) :
    matmul (φ₁ := .bf16) dot_S512x256_S256x240_S512x240_1_0_0_1_n_n none
        (View.ld (Val := Elt Ideal) (e' := .bf16) B (Rect.unit (s := S8192x256) (k0_off7 k) S512x256.size (k0_off7_inb k)))
        (truncf .bf16 (transpose S256x240 [1, 0] v5 transposes_S240x256_p1_0_S256x240) bitsLt_bf16_f32) (constant S512x240 .f32 0x00000000#32) (ix2 r j)
      = ((∑ n ∈ Finset.range 256, re D (512 * k.val + r.val) (256 * t.val + n) * re O (256 * t.val + n) j : ℝ) : EReal) := by
  have hb : ∀ (r : Fin 512) (n : Fin 256), View.ld (Val := Elt Ideal) (e' := .bf16) B (Rect.unit (s := S8192x256) (k0_off7 k) S512x256.size (k0_off7_inb k)) (ix2 r n)
      = D (ix2 ⟨512 * k.val + r.val, by omega⟩ ⟨256 * t.val + n.val, by omega⟩) := by
    intro r n
    refine (View.ld_unit_apply_of _ _ _ _ _ (ix2 ⟨512 * k.val + r.val, by omega⟩ n) fun a => ?_).trans (hB _ _)
    rw [off7_eq k a]
    match a with | ⟨0, _⟩ => rfl | ⟨1, _⟩ => exact (Nat.zero_add _).symm
  have hx : ∀ (n : Fin 256) (j : Fin 240), truncf (F := Ideal) .bf16 (transpose S256x240 [1, 0] v5 transposes_S240x256_p1_0_S256x240) bitsLt_bf16_f32 (ix2 n j)
      = O (ix2 ⟨256 * t.val + n.val, by omega⟩ j) := by
    intro n j
    refine Eq.trans ?_ (hv j n)
    show v5 _ = v5 _
    congr 1
    funext a
    match a with | ⟨0, _⟩ => rfl | ⟨1, _⟩ => rfl
  refine (mm _ rfl none _ _ ?_ ?_ r j).trans ?_
  · intro z
    have e := hb (z 0) (z 1)
    rw [← eq_ix2 z] at e
    rw [e]; exact hD _
  · intro z
    have e := hx (z 0) (z 1)
    rw [← eq_ix2 z] at e
    rw [e]; exact hO _
  · congr 1
    refine Finset.sum_congr rfl fun n hn => ?_
    have hn := Finset.mem_range.1 hn
    congr 1
    · exact re_congr (hb r ⟨n, hn⟩)
    · exact re_congr (hx ⟨n, hn⟩ j)

include hD1 hD2

/-- What the result's buffer reads before trip `k` of the second loop: the rows below `512 k` have the point's contribution added, the others are as found. -/
theorem pb_eq (X7 : BufTy.Contents (Elt Ideal) arg7.view.ty) (X8 : BufTy.Contents (Elt Ideal) arg8.view.ty)
    (h7 : ∀ (r : Fin 8192) (l : Fin 256), arg7.view.read (Elt Ideal) X7 (ix2 r l) = D1 (ix2 r ⟨256 * t.val + l.val, by omega⟩))
    (h8 : ∀ (r : Fin 8192) (l : Fin 256), arg8.view.read (Elt Ideal) X8 (ix2 r l) = D2 (ix2 r ⟨256 * t.val + l.val, by omega⟩))
    (G : BufTy.Contents (Elt Ideal) arg6.view.ty) (k : ℕ) (hk : k ≤ 16) (y : S8192x240.Idx) :
    arg6.view.read (Elt Ideal) (arg6.view.writes (Elt Ideal) G (pb_k0_t2 (F := Ideal) 𝒱 c bd i arg1 harg1 arg2 harg2 arg3 harg3 arg4 harg4 arg5 harg5 arg6 harg6 arg7 harg7 arg8 harg8 v5 X7 X8 G k)) y
      = if (y 0).val < 512 * k then (arg6.view.read (Elt Ideal) G y + term D1 D2 O t.val y : EReal) else arg6.view.read (Elt Ideal) G y := by
  induction k with
  | zero => rw [if_neg (by omega)]; rfl
  | succ k ih =>
    have ih := ih (by omega)
    have hk : k < k0_t2_loop.trips := lt_of_lt_of_eq hk (by decide +kernel)
    have h16 : k < 16 := lt_of_lt_of_eq hk (by decide +kernel)
    rw [pb_k0_t2_succ (F := Ideal) 𝒱 c bd i arg1 harg1 arg2 harg2 arg3 harg3 arg4 harg4 arg5 harg5 arg6 harg6 arg7 harg7 arg8 harg8 v5 X7 X8 G ⟨k, hk⟩, trip2_eq]
    by_cases hy : 512 * k ≤ (y 0).val ∧ (y 0).val < 512 * k + 512
    · rw [if_pos (by omega)]
      refine (View.read_writes_cons_rows_of_mem _ _ _ _ _ y (ix2 (⟨(y 0).val - 512 * k, by omega⟩ : Fin 512) (y 1)) (off6_eq ⟨k, hk⟩) (by show _ = 512 * k + ((y 0).val - 512 * k); omega) rfl).trans ?_
      have hr : 512 * k + ((y 0).val - 512 * k) = (y 0).val := by omega
      unfold k0_pay5
      refine congrArg₂ (fun a b : EReal => a + b) ?_ ?_
      · rw [shapeCast_self]
        refine (View.ld_unit_apply_of _ _ _ _ _ (y : S8192x240.Idx) fun a => ?_).trans (ih.trans (if_neg (by omega)))
        refine Eq.trans ?_ (congrFun (congrArg (fun o : Fin 2 → ℕ => fun a => o a + _) (off6_eq ⟨k, hk⟩).symm) a)
        match a with | ⟨0, _⟩ => exact hr.symm | ⟨1, _⟩ => exact (Nat.zero_add _).symm
      · refine (congrArg₂ (fun a b : EReal => a - b) (mm_rows t O hO v5 hv _ D1 hD1 h7 ⟨k, h16⟩ _ _)
          (mm_rows t O hO v5 hv _ D2 hD2 h8 ⟨k, h16⟩ _ _)).trans ?_
        unfold term
        rw [EReal.coe_sub]
        simp only [hr]
    · refine (View.read_writes_cons_rows_of_not_mem _ _ _ _ _ y (off6_eq ⟨k, hk⟩) (W := 512) rfl (not_and_or.1 hy |>.imp (by intro h; exact not_le.1 h) (by intro h; exact not_lt.1 h))).trans (ih.trans ?_)
      refine if_congr ?_ rfl rfl
      constructor <;> intro h <;> omega

end Second

end Cert.PowerIdeal.Hand
-- ==== Proof.PowerHost.lean ====
module

public import proofs.«01_k».proof.Proof.LastHost
public import proofs.«01_k».proof.Proof.PowerIdealValue

@[expose] public section

noncomputable section

namespace Cert.PowerIdeal.Hand

open Cert.PowerIdeal Cert.PowerIdeal.Gen Idealize.ShloMosaic Idealize.ShloMosaic.TcCoe Idealize.SL.Sem
open Cert.LastIdeal.Hand (words)

variable (m : (ℓ : Loc nD τ sig) → Buf (Elt Ideal) ℓ) (c : Dev nD)

/-- The kernel's first operand is the codes of the first weight. -/
theorem V_v0 : V m c main_v0 = bitcastToFloat (F := Ideal) .fp8e4m3 (m ((c : Thread nD τ).loc main_arg0)) := by
  unfold V
  simp only [hostOps0, hostOps0_1, hostOps0_2, hostOps0_3, List.flatten_cons, List.flatten_nil, List.append_nil, List.cons_append, List.nil_append]
  after_results

/-- The kernel's second operand is the codes of the second weight. -/
theorem V_v1 : V m c main_v1 = bitcastToFloat (F := Ideal) .fp8e4m3 (m ((c : Thread nD τ).loc main_arg2)) := by
  unfold V
  simp only [hostOps0, hostOps0_1, hostOps0_2, hostOps0_3, List.flatten_cons, List.flatten_nil, List.append_nil, List.cons_append, List.nil_append]
  after_results

/-- The kernel's third operand is the packed scales of the first weight. -/
theorem V_v12 : V m c main_v12 = words (m ((c : Thread nD τ).loc main_arg1)) := by
  unfold V
  simp only [hostOps0, hostOps0_1, hostOps0_2, hostOps0_3, List.flatten_cons, List.flatten_nil, List.append_nil, List.cons_append, List.nil_append]
  after_results
  rfl

/-- The kernel's fourth operand is the packed scales of the second weight. -/
theorem V_v23 : V m c main_v23 = words (m ((c : Thread nD τ).loc main_arg3)) := by
  unfold V
  simp only [hostOps0, hostOps0_1, hostOps0_2, hostOps0_3, List.flatten_cons, List.flatten_nil, List.append_nil, List.cons_append, List.nil_append]
  after_results
  rfl

end Cert.PowerIdeal.Hand
-- ==== Proof.PowerKernel.lean ====
module

public import proofs.«01_k».proof.Proof.PowerStep
public import proofs.«01_k».proof.Proof.PowerHost
public import proofs.«01_k».proof.Proof.FirstKernel
public import proofs.«01_k».proof.Proof.LastKernel
public import Idealize.ShloMosaic.Lib.Pipeline.ValueKit

@[expose] public section

noncomputable section

namespace Cert.PowerIdeal.Hand

open Cert.PowerIdeal Cert.PowerIdeal.Gen Idealize.ShloMosaic Idealize.ShloMosaic.TcCoe Idealize.SL.Sem
open Cert.Deq
open Cert.LastIdeal.Hand (Block Packed words words_apply wt sketch)
open Cert.FirstIdeal.Hand (term upTo upTo_succ image)

/-- The columns the call makes first: the sketch of the difference of two weights, turned. -/
def cols (d1 d2 : FVec Ideal S8192x28672 .bf16) (q : FVec Ideal S240x8192 .bf16) : FVec Ideal Cert.FirstIdeal.S28672x240 .bf16 := fun j => sketch d1 d2 q (ix2 (j 1) (j 0))

/-- Those columns are real. -/
theorem cols_real (d1 d2 : FVec Ideal S8192x28672 .bf16) (q : FVec Ideal S240x8192 .bf16) : Deq.Real (cols d1 d2 q) := fun _ => ⟨_, rfl⟩

variable (m : (ℓ : Loc nD τ sig) → Buf (Elt Ideal) ℓ) (c : Dev nD)

/-- The first window's block at a grid point. -/
theorem index0 : ∀ t : Fin grid0.N, win0_0.index t 0 = 0 ∧ win0_0.index t 1 = (grid0.coords t 0).val := by decide +kernel
/-- The second window's block at a grid point. -/
theorem index1 : ∀ t : Fin grid0.N, win0_1.index t 0 = 0 ∧ win0_1.index t 1 = (grid0.coords t 0).val := by decide +kernel
/-- The third window's block at a grid point. -/
theorem index2 : ∀ t : Fin grid0.N, win0_2.index t 0 = 0 ∧ win0_2.index t 1 = 0 := by decide +kernel
/-- The fourth window's block at a grid point. -/
theorem index3 : ∀ t : Fin grid0.N, win0_3.index t 0 = 0 ∧ win0_3.index t 1 = 0 := by decide +kernel
/-- The fifth window's block at a grid point. -/
theorem index4 : ∀ t : Fin grid0.N, win0_4.index t 0 = 0 ∧ win0_4.index t 1 = 0 := by decide +kernel
/-- The result window's block at a grid point. -/
theorem index5 : ∀ t : Fin grid0.N, win0_5.index t 0 = 0 ∧ win0_5.index t 1 = 0 := by decide +kernel
/-- The grid has one axis. -/
theorem coords_eq : ∀ t : Fin grid0.N, (grid0.coords t 0).val = t.val := by decide +kernel

/-- The first window holds a column block of the first weight's codes. -/
theorem blk0 (t : Fin grid0.N) : Block (grid0.coords t 0) (iblk m c 0 t) (bitcastToFloat (F := Ideal) .fp8e4m3 (m ((c : Thread nD τ).loc main_arg0))) := by
  intro r l
  unfold iblk
  blk_simp
  rw [V_v0]
  refine congrArg _ (funext fun a => Fin.ext ?_)
  match a with
  | ⟨0, _⟩ => blk_simp; rw [(index0 t).1]; simp
  | ⟨1, _⟩ => blk_simp; rw [(index0 t).2]; simp [Nat.mul_comm]

/-- The second window holds a column block of the second weight's codes. -/
theorem blk1 (t : Fin grid0.N) : Block (grid0.coords t 0) (iblk m c 1 t) (bitcastToFloat (F := Ideal) .fp8e4m3 (m ((c : Thread nD τ).loc main_arg2))) := by
  intro r l
  unfold iblk
  blk_simp
  rw [V_v1]
  refine congrArg _ (funext fun a => Fin.ext ?_)
  match a with
  | ⟨0, _⟩ => blk_simp; rw [(index1 t).1]; simp
  | ⟨1, _⟩ => blk_simp; rw [(index1 t).2]; simp [Nat.mul_comm]

/-- The third window holds the first weight's packed scales. -/
theorem blk2 (t : Fin grid0.N) : Packed (iblk m c 2 t) (bitcastToFloat (F := Ideal) .bf16 (m ((c : Thread nD τ).loc main_arg1))) := by
  intro r g p
  unfold iblk
  blk_simp
  rw [V_v12]
  refine (congrArg (fun w : BitVec 32 => Ideal.ofBits .bf16 (w.extractLsb' (16 * p.val) 16)) (congrArg _ (funext fun a => Fin.ext ?_))).trans (congrArg (Ideal.ofBits .bf16) (words_apply _ r g p))
  match a with
  | ⟨0, _⟩ => blk_simp; rw [(index2 t).1]; simp
  | ⟨1, _⟩ => blk_simp; rw [(index2 t).2]; simp

/-- The fourth window holds the second weight's packed scales. -/
theorem blk3 (t : Fin grid0.N) : Packed (iblk m c 3 t) (bitcastToFloat (F := Ideal) .bf16 (m ((c : Thread nD τ).loc main_arg3))) := by
  intro r g p
  unfold iblk
  blk_simp
  rw [V_v23]
  refine (congrArg (fun w : BitVec 32 => Ideal.ofBits .bf16 (w.extractLsb' (16 * p.val) 16)) (congrArg _ (funext fun a => Fin.ext ?_))).trans (congrArg (Ideal.ofBits .bf16) (words_apply _ r g p))
  match a with
  | ⟨0, _⟩ => blk_simp; rw [(index3 t).1]; simp
  | ⟨1, _⟩ => blk_simp; rw [(index3 t).2]; simp

/-- The fifth window holds the basis. -/
theorem blk4 (t : Fin grid0.N) : iblk m c 4 t = m ((c : Thread nD τ).loc main_arg4) := by
  funext y
  unfold iblk
  blk_simp
  rw [V_main_arg4]
  refine congrArg _ (funext fun a => Fin.ext ?_)
  match a with
  | ⟨0, _⟩ => blk_simp; rw [(index4 t).1]; simp
  | ⟨1, _⟩ => blk_simp; rw [(index4 t).2]; simp

/-- The first grid point clears the result's buffer. -/
theorem zero_eq (v : View sig .tc .vmem S8192x240 .f32) (f : BufTy.Contents (Elt Ideal) v.ty) (inb) (y : S8192x240.Idx) :
    v.read (Elt Ideal) (v.writes (Elt Ideal) f [⟨Rect.unit (s := S8192x240) ![0, 0] ![8192, 240] inb, k0_pay1 (F := Ideal)⟩]) y = (0 : EReal) := by
  refine (View.read_writes_cons_rows_of_mem v f inb (k0_pay1 (F := Ideal)) [] y y (o := 0) rfl (Nat.zero_add _).symm rfl).trans ?_
  unfold k0_pay1
  exact Idealize.ShloMosaic.Ideal.ofBits_zero_f32

/-- The first loop's carried value and stores at a grid point. -/
abbrev left (t : Fin cfg0.N) : FVec Ideal S240x256 .f32 × List (View.Piece (Elt Ideal) S8192x256 .bf16) × List (View.Piece (Elt Ideal) S8192x256 .bf16) :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
    (BitVec.ofNat 32 (grid0.coords t 0).val) ((hs0_0 t).unread (iblk m c 0 t)) ((hs0_1 t).unread (iblk m c 1 t)) ((hs0_2 t).unread (iblk m c 2 t)) ((hs0_3 t).unread (iblk m c 3 t)) ((hs0_4 t).unread (iblk m c 4 t)) (k0_pay2 (F := Ideal)) 16

variable (hD1 : Deq.Real (wt (m ((c : Thread nD τ).loc main_arg0)) (m ((c : Thread nD τ).loc main_arg1))))
  (hD2 : Deq.Real (wt (m ((c : Thread nD τ).loc main_arg2)) (m ((c : Thread nD τ).loc main_arg3))))
  (hQ : Deq.Real (s := S240x8192) (m ((c : Thread nD τ).loc main_arg4)))

include hD1 hD2 hQ

/-- A grid point's trips, over whatever contents `G` of the result's buffer, add the point's contribution. -/
theorem step_eq (t : Fin cfg0.N) (G : BufTy.Contents (Elt Ideal) (ms0_5 t).view.ty) (y : S8192x240.Idx) :
    (ms0_5 t).view.read (Elt Ideal) ((ms0_5 t).view.writes (Elt Ideal) G (pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (left m c t).1 (scM0_0.view.writes (Elt Ideal) scM0_0.view.junk (left m c t).2.1) (scM0_1.view.writes (Elt Ideal) scM0_1.view.junk (left m c t).2.2) G 16)) y
      = ((ms0_5 t).view.read (Elt Ideal) G y + term (wt (m ((c : Thread nD τ).loc main_arg0)) (m ((c : Thread nD τ).loc main_arg1))) (wt (m ((c : Thread nD τ).loc main_arg2)) (m ((c : Thread nD τ).loc main_arg3)))
          (cols (wt (m ((c : Thread nD τ).loc main_arg0)) (m ((c : Thread nD τ).loc main_arg1))) (wt (m ((c : Thread nD τ).loc main_arg2)) (m ((c : Thread nD τ).loc main_arg3))) (m ((c : Thread nD τ).loc main_arg4))) t.val y : EReal) := by
  have b0 : Block (grid0.coords t 0) ((ms0_0 t).view.read (Elt Ideal) ((hs0_0 t).unread (iblk m c 0 t))) (bitcastToFloat (F := Ideal) .fp8e4m3 (m ((c : Thread nD τ).loc main_arg0))) := by rw [Memref.IsWhole.read_unread]; exact blk0 m c t
  have b1 : Block (grid0.coords t 0) ((ms0_1 t).view.read (Elt Ideal) ((hs0_1 t).unread (iblk m c 1 t))) (bitcastToFloat (F := Ideal) .fp8e4m3 (m ((c : Thread nD τ).loc main_arg2))) := by rw [Memref.IsWhole.read_unread]; exact blk1 m c t
  have b2 : Packed ((ms0_2 t).view.read (Elt Ideal) ((hs0_2 t).unread (iblk m c 2 t))) (bitcastToFloat (F := Ideal) .bf16 (m ((c : Thread nD τ).loc main_arg1))) := by rw [Memref.IsWhole.read_unread]; exact blk2 m c t
  have b3 : Packed ((ms0_3 t).view.read (Elt Ideal) ((hs0_3 t).unread (iblk m c 3 t))) (bitcastToFloat (F := Ideal) .bf16 (m ((c : Thread nD τ).loc main_arg3))) := by rw [Memref.IsWhole.read_unread]; exact blk3 m c t
  have b4 : (ms0_4 t).view.read (Elt Ideal) ((hs0_4 t).unread (iblk m c 4 t)) = m ((c : Thread nD τ).loc main_arg4) := by rw [Memref.IsWhole.read_unread]; exact blk4 m c t
  have h := pb_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
    (grid0.coords t 0) (wt (m ((c : Thread nD τ).loc main_arg0)) (m ((c : Thread nD τ).loc main_arg1))) (wt (m ((c : Thread nD τ).loc main_arg2)) (m ((c : Thread nD τ).loc main_arg3))) (cols (wt (m ((c : Thread nD τ).loc main_arg0)) (m ((c : Thread nD τ).loc main_arg1))) (wt (m ((c : Thread nD τ).loc main_arg2)) (m ((c : Thread nD τ).loc main_arg3))) (m ((c : Thread nD τ).loc main_arg4))) hD1 hD2 (cols_real _ _ _) (left m c t).1
    (fun j l => st_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (BitVec.ofNat 32 (grid0.coords t 0).val) ((hs0_0 t).unread (iblk m c 0 t)) ((hs0_1 t).unread (iblk m c 1 t)) ((hs0_2 t).unread (iblk m c 2 t)) ((hs0_3 t).unread (iblk m c 3 t)) ((hs0_4 t).unread (iblk m c 4 t)) (grid0.coords t 0) rfl rfl _ _ _ _ _ b0 b1 b2 b3 b4 hD1 hD2 hQ 16 le_rfl j l)
    (scM0_0.view.writes (Elt Ideal) scM0_0.view.junk (left m c t).2.1) (scM0_1.view.writes (Elt Ideal) scM0_1.view.junk (left m c t).2.2)
    (kept7 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (BitVec.ofNat 32 (grid0.coords t 0).val) ((hs0_0 t).unread (iblk m c 0 t)) ((hs0_1 t).unread (iblk m c 1 t)) ((hs0_2 t).unread (iblk m c 2 t)) ((hs0_3 t).unread (iblk m c 3 t)) ((hs0_4 t).unread (iblk m c 4 t)) (grid0.coords t 0) rfl rfl _ _ b0 b2)
    (kept8 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (BitVec.ofNat 32 (grid0.coords t 0).val) ((hs0_0 t).unread (iblk m c 0 t)) ((hs0_1 t).unread (iblk m c 1 t)) ((hs0_2 t).unread (iblk m c 2 t)) ((hs0_3 t).unread (iblk m c 3 t)) ((hs0_4 t).unread (iblk m c 4 t)) (grid0.coords t 0) rfl rfl _ _ b1 b3) G 16 le_rfl y
  rw [if_pos (show (y 0).val < 512 * 16 from (y 0).isLt)] at h
  refine h.trans ?_
  rw [coords_eq t]

/-- After grid point `n` the result's buffer holds the sum over the first `256 (n + 1)` contracted indices. -/
theorem outs_eq (n : ℕ) (hn : n < cfg0.N) (y : S8192x240.Idx) :
    outsAt0 m c n hn y = upTo (wt (m ((c : Thread nD τ).loc main_arg0)) (m ((c : Thread nD τ).loc main_arg1))) (wt (m ((c : Thread nD τ).loc main_arg2)) (m ((c : Thread nD τ).loc main_arg3)))
      (cols (wt (m ((c : Thread nD τ).loc main_arg0)) (m ((c : Thread nD τ).loc main_arg1))) (wt (m ((c : Thread nD τ).loc main_arg2)) (m ((c : Thread nD τ).loc main_arg3))) (m ((c : Thread nD τ).loc main_arg4))) (256 * (n + 1)) y := by
  induction n with
  | zero =>
    refine (congrFun (outsAt0_A m c ⟨0, hn⟩ rfl) y).trans ?_
    frame_out
    refine (congrFun (View.read_writes_junk_eq_canon (ms0_5 ⟨0, hn⟩).view _).symm y).trans ?_
    rw [View.writes_append]
    refine (step_eq m c hD1 hD2 hQ ⟨0, hn⟩ _ y).trans ?_
    rw [zero_eq]
    refine Eq.trans ?_ (upTo_succ _ _ _ 0 y)
    congr 1
    unfold upTo
    simp
  | succ n ih =>
    have hn' : n < cfg0.N := Nat.lt_of_succ_lt hn
    have h112 : n + 1 < 112 := lt_of_lt_of_eq hn N_0
    refine (congrFun (outsAt0_B m c ⟨n + 1, hn⟩ (by show ¬ (n + 1) % 112 = 0; omega)) y).trans ?_
    frame_out
    refine (View.read_writes_apply_eq_canon (ms0_5 ⟨n + 1, hn⟩).view ((hs0_5 ⟨n + 1, hn⟩).unread (outsAt0 m c n hn')) y _ (pb_cover _ _ _ _ _ _ _ _ _ _ _ _ _ _ _ _ _ _ _ _ _ _ _ _ 16 le_rfl y (y 0).isLt)).symm.trans ?_
    refine (step_eq m c hD1 hD2 hQ ⟨n + 1, hn⟩ _ y).trans (Eq.trans ?_ (upTo_succ _ _ _ (n + 1) y))
    rw [Memref.IsWhole.read_unread, ih hn']

/-- The kernel's result array. -/
theorem result_eq :
    (dats m 0 c).arrAt 5 cfg0.N = image (wt (m ((c : Thread nD τ).loc main_arg0)) (m ((c : Thread nD τ).loc main_arg1))) (wt (m ((c : Thread nD τ).loc main_arg2)) (m ((c : Thread nD τ).loc main_arg3)))
      (cols (wt (m ((c : Thread nD τ).loc main_arg0)) (m ((c : Thread nD τ).loc main_arg1))) (wt (m ((c : Thread nD τ).loc main_arg2)) (m ((c : Thread nD τ).loc main_arg3))) (m ((c : Thread nD τ).loc main_arg4))) := by
  refine (dats m 0 c).arrAt_eq_of_covers 5 _ (by decide +kernel) fun t hf y => ?_
  have ht : t.val % 112 = 111 := (flush0_5 t).mp hf
  have hN : t.val < 112 := lt_of_lt_of_eq t.isLt (show cfg0.N = 112 from N_0)
  blk_simp
  rw [after0_5]
  refine (outs_eq m c hD1 hD2 hQ t.val t.isLt y).trans ?_
  unfold image
  rw [show 256 * (t.val + 1) = 28672 by omega]
  refine congrArg _ (funext fun a => Fin.ext ?_)
  match a with
  | ⟨0, _⟩ => blk_simp; rw [(index5 t).1]; simp
  | ⟨1, _⟩ => blk_simp; rw [(index5 t).2]; simp

end Cert.PowerIdeal.Hand
-- ==== Proof.PowerRef.lean ====
module

public import proofs.«01_k».proof.Proof.PowerKernel
public import proofs.«01_k».proof.Proof.LastRef
public import proofs.«01_k».proof.Proof.Gen.PowerRefIdeal.Value

@[expose] public section

noncomputable section

namespace Cert.PowerRefIdeal.Hand

open Cert.PowerRefIdeal Cert.PowerRefIdeal.Gen Idealize.ShloMosaic Idealize.ShloMosaic.TcCoe Idealize.SL.Sem
open Cert.Deq
open Cert.LastIdeal.Hand (wt)
open Cert.LastRefIdeal.Hand (whole_at)
open Cert.FirstIdeal.Hand (image)
open Cert.PowerIdeal.Hand (cols cols_real)

variable (m : (ℓ : Loc nD τ sig) → Buf (Elt Ideal) ℓ) (c : Dev nD)

/-- The reference's first operand is the codes of the first weight. -/
theorem V_v0 : V m c main_v0 = bitcastToFloat (F := Ideal) .fp8e4m3 (m ((c : Thread nD τ).loc main_arg0)) := by
  unfold V
  after_results

/-- The reference's second operand is the scales of the first weight. -/
theorem V_v1 : V m c main_v1 = bitcastToFloat (F := Ideal) .bf16 (m ((c : Thread nD τ).loc main_arg1)) := by
  unfold V
  after_results

/-- The reference's third operand is the codes of the second weight. -/
theorem V_v2 : V m c main_v2 = bitcastToFloat (F := Ideal) .fp8e4m3 (m ((c : Thread nD τ).loc main_arg2)) := by
  unfold V
  after_results

/-- The reference's fourth operand is the scales of the second weight. -/
theorem V_v3 : V m c main_v3 = bitcastToFloat (F := Ideal) .bf16 (m ((c : Thread nD τ).loc main_arg3)) := by
  unfold V
  after_results

/-- The first window's one block is its array. -/
theorem iblk0 (t : Fin cfg0.N) : iblk m c 0 t = V m c main_v0 := by
  funext y
  unfold iblk
  blk_simp
  refine congrArg _ (funext fun a => Fin.ext ?_)
  match a with
  | ⟨0, _⟩ => blk_simp; exact whole_at _ _
  | ⟨1, _⟩ => blk_simp; exact whole_at _ _

/-- The second window's one block is its array. -/
theorem iblk1 (t : Fin cfg0.N) : iblk m c 1 t = V m c main_v1 := by
  funext y
  unfold iblk
  blk_simp
  refine congrArg _ (funext fun a => Fin.ext ?_)
  match a with
  | ⟨0, _⟩ => blk_simp; exact whole_at _ _
  | ⟨1, _⟩ => blk_simp; exact whole_at _ _

/-- The third window's one block is its array. -/
theorem iblk2 (t : Fin cfg0.N) : iblk m c 2 t = V m c main_v2 := by
  funext y
  unfold iblk
  blk_simp
  refine congrArg _ (funext fun a => Fin.ext ?_)
  match a with
  | ⟨0, _⟩ => blk_simp; exact whole_at _ _
  | ⟨1, _⟩ => blk_simp; exact whole_at _ _

/-- The fourth window's one block is its array. -/
theorem iblk3 (t : Fin cfg0.N) : iblk m c 3 t = V m c main_v3 := by
  funext y
  unfold iblk
  blk_simp
  refine congrArg _ (funext fun a => Fin.ext ?_)
  match a with
  | ⟨0, _⟩ => blk_simp; exact whole_at _ _
  | ⟨1, _⟩ => blk_simp; exact whole_at _ _

/-- The fifth window's one block is its array. -/
theorem iblk4 (t : Fin cfg0.N) : iblk m c 4 t = V m c main_arg4 := by
  funext y
  unfold iblk
  blk_simp
  refine congrArg _ (funext fun a => Fin.ext ?_)
  match a with
  | ⟨0, _⟩ => blk_simp; exact whole_at _ _
  | ⟨1, _⟩ => blk_simp; exact whole_at _ _

/-- The product of a weight, turned, with the basis, turned, is the sketch turned. -/
theorem mm_turned (d : FVec Ideal S8192x28672 .bf16) (q : FVec Ideal S240x8192 .bf16) (hd : Deq.Real d) (hq : Deq.Real q) (n : Fin 28672) (r : Fin 240) :
    FloatOps.matmul (F := Ideal) (φ₁ := .bf16) (φ₂ := .bf16) dot_S8192x28672_S240x8192_S28672x240_0_1_1_0_n_n none d q (constant S28672x240 .f32 0x00000000#32) (ix2 n r)
      = ((∑ m ∈ Finset.range 8192, re q r m * re d m n : ℝ) : EReal) := by
  have e : FloatOps.matmul (F := Ideal) (φ₁ := .bf16) (φ₂ := .bf16) dot_S8192x28672_S240x8192_S28672x240_0_1_1_0_n_n none d q (constant S28672x240 .f32 0x00000000#32) (ix2 n r)
      = (0 + ∑ m : Fin 8192, d (ix2 m n) * q (ix2 r m) : EReal) := by
    pointwise
  rw [e, zero_add, Finset.sum_range, ← coe_sum]
  refine Finset.sum_congr rfl fun m _ => ?_
  rw [EReal.coe_mul, mul_comm]
  exact congrArg₂ (· * ·) (eq_re hq r m) (eq_re hd m n)

/-- The reference's payload is the difference of the weights applied to the columns it sketches. -/
theorem pay_eq (c1 c2 : FVec Ideal S8192x28672 .fp8e4m3) (s1 s2 : FVec Ideal S8192x224 .bf16) (q : FVec Ideal S240x8192 .bf16)
    (h1 : Deq.Real (deq c1 s1)) (h2 : Deq.Real (deq c2 s2)) (hq : Deq.Real q) : k0_pay1 (F := Ideal) c1 s1 c2 s2 q = image (deq c1 s1) (deq c2 s2) (cols (deq c1 s1) (deq c2 s2) q) := by
  unfold k0_pay1
  simp only [shapeCast_self, ref_deq]
  have hz : truncf (F := Ideal) .bf16 (subf (F := Ideal)
      (matmul (φ₁ := .bf16) (φ₂ := .bf16) dot_S8192x28672_S240x8192_S28672x240_0_1_1_0_n_n none (deq c1 s1) q (constant S28672x240 .f32 0x00000000#32))
      (matmul (φ₁ := .bf16) (φ₂ := .bf16) dot_S8192x28672_S240x8192_S28672x240_0_1_1_0_n_n none (deq c2 s2) q (constant S28672x240 .f32 0x00000000#32))) bitsLt_bf16_f32
      = cols (deq c1 s1) (deq c2 s2) q := by
    funext j
    obtain ⟨n, r, rfl⟩ : ∃ (n : Fin 28672) (r : Fin 240), j = ix2 n r := ⟨j 0, j 1, eq_ix2 (n0 := 28672) (n1 := 240) j⟩
    exact (congrArg₂ (fun a b : EReal => a - b) (mm_turned (deq c1 s1) q h1 hq n r) (mm_turned (deq c2 s2) q h2 hq n r)).trans (EReal.coe_sub _ _).symm
  rw [hz]
  have ho := cols_real (deq c1 s1) (deq c2 s2) q
  funext j
  obtain ⟨r, n, rfl⟩ : ∃ (r : Fin 8192) (n : Fin 240), j = ix2 r n := ⟨j 0, j 1, eq_ix2 (n0 := 8192) (n1 := 240) j⟩
  exact (congrArg₂ (fun a b : EReal => a - b) (mm dot_S8192x28672_S28672x240_S8192x240_1_0_0_1_n_n rfl none (deq c1 s1) _ h1 ho r n)
    (mm dot_S8192x28672_S28672x240_S8192x240_1_0_0_1_n_n rfl none (deq c2 s2) _ h2 ho r n)).trans (EReal.coe_sub _ _).symm

/-- The reference's result array. -/
theorem result_eq (hD1 : Deq.Real (wt (m ((c : Thread nD τ).loc main_arg0)) (m ((c : Thread nD τ).loc main_arg1))))
    (hD2 : Deq.Real (wt (m ((c : Thread nD τ).loc main_arg2)) (m ((c : Thread nD τ).loc main_arg3))))
    (hQ : Deq.Real (s := S240x8192) (m ((c : Thread nD τ).loc main_arg4))) :
    (dats m 0 c).arrAt 5 cfg0.N = image (wt (m ((c : Thread nD τ).loc main_arg0)) (m ((c : Thread nD τ).loc main_arg1))) (wt (m ((c : Thread nD τ).loc main_arg2)) (m ((c : Thread nD τ).loc main_arg3)))
      (cols (wt (m ((c : Thread nD τ).loc main_arg0)) (m ((c : Thread nD τ).loc main_arg1))) (wt (m ((c : Thread nD τ).loc main_arg2)) (m ((c : Thread nD τ).loc main_arg3))) (m ((c : Thread nD τ).loc main_arg4))) := by
  refine (dats m 0 c).arrAt_eq_of_covers 5 _ (by decide +kernel) fun t hf y => ?_
  blk_simp
  rw [after0_5]
  frame_out
  rw [iblk0, iblk1, iblk2, iblk3, iblk4, V_v0, V_v1, V_v2, V_v3, V_main_arg4]
  refine (congrFun (pay_eq _ _ _ _ _ hD1 hD2 hQ) y).trans (congrArg _ (funext fun a => Fin.ext ?_))
  match a with
  | ⟨0, _⟩ => blk_simp; exact (whole_at _ _).symm
  | ⟨1, _⟩ => blk_simp; exact (whole_at _ _).symm

end Cert.PowerRefIdeal.Hand
-- ==== Proof.PowerValue.lean ====
module

public import proofs.«01_k».proof.Defs
public import proofs.«01_k».proof.Proof.PowerRef
public import proofs.«01_k».proof.Proof.LastValue
public import proofs.«01_k».proof.Proof.PowerIdealValue
public import proofs.«01_k».proof.Proof.Gen.PowerRefIdeal.Value

@[expose] public section

noncomputable section

namespace Cert.PowerRefIdeal.Hand

open Idealize.ShloMosaic Idealize.ShloMosaic.TcCoe Idealize.SL.Sem
open Cert.Deq
open Cert.LastIdeal.Hand (wt)
open Cert.FirstIdeal.Hand (image)
open Cert.PowerIdeal.Hand (cols)
open Cert.LastRefIdeal.Hand (preFacts)

/-- Under the precondition the two weights and the basis are real. -/
theorem real_of_pre (m : (ℓ : Loc Cert.PowerIdeal.nD Cert.PowerIdeal.τ Cert.PowerIdeal.sig) → Buf (Elt Ideal) ℓ)
    (h : Pre_PowerIdeal_finite_qt (hPre_finite_qt := preFacts) m) (c : Dev Cert.PowerIdeal.nD) :
    Deq.Real (wt (m ((c.tc : Thread Cert.PowerIdeal.nD Cert.PowerIdeal.τ).loc Cert.PowerIdeal.main_arg0)) (m ((c.tc : Thread Cert.PowerIdeal.nD Cert.PowerIdeal.τ).loc Cert.PowerIdeal.main_arg1)))
    ∧ Deq.Real (wt (m ((c.tc : Thread Cert.PowerIdeal.nD Cert.PowerIdeal.τ).loc Cert.PowerIdeal.main_arg2)) (m ((c.tc : Thread Cert.PowerIdeal.nD Cert.PowerIdeal.τ).loc Cert.PowerIdeal.main_arg3)))
    ∧ Deq.Real (s := Cert.PowerIdeal.S240x8192) (m ((c.tc : Thread Cert.PowerIdeal.nD Cert.PowerIdeal.τ).loc Cert.PowerIdeal.main_arg4)) := by
  obtain ⟨h0, h1, h2, h3, h4⟩ := h c
  exact ⟨deq_real (codes_real _ _ _ (fun _ => rfl) h0) (scales_real _ _ _ (fun _ => rfl) h1),
    deq_real (codes_real _ _ _ (fun _ => rfl) h2) (scales_real _ _ _ (fun _ => rfl) h3),
    floats_real _ _ (fun _ => inf_eq) h4⟩

/-- The power step and its reference leave the same array: the difference of the two weights applied to the columns it sketches. -/
theorem algebraic : algebraic_PowerIdeal_PowerRefIdeal_pre_finite_qt (hPowerIdeal := Cert.PowerIdeal.Gen.facts)
    (hPowerRefIdeal := Cert.PowerRefIdeal.Gen.facts) (hPre_finite_qt := preFacts) := fun m g m' g' hp ha => by
  refine ⟨fun c => image (wt (m ((c.tc : Thread Cert.PowerIdeal.nD Cert.PowerIdeal.τ).loc Cert.PowerIdeal.main_arg0)) (m ((c.tc : Thread Cert.PowerIdeal.nD Cert.PowerIdeal.τ).loc Cert.PowerIdeal.main_arg1)))
    (wt (m ((c.tc : Thread Cert.PowerIdeal.nD Cert.PowerIdeal.τ).loc Cert.PowerIdeal.main_arg2)) (m ((c.tc : Thread Cert.PowerIdeal.nD Cert.PowerIdeal.τ).loc Cert.PowerIdeal.main_arg3)))
    (cols (wt (m ((c.tc : Thread Cert.PowerIdeal.nD Cert.PowerIdeal.τ).loc Cert.PowerIdeal.main_arg0)) (m ((c.tc : Thread Cert.PowerIdeal.nD Cert.PowerIdeal.τ).loc Cert.PowerIdeal.main_arg1)))
      (wt (m ((c.tc : Thread Cert.PowerIdeal.nD Cert.PowerIdeal.τ).loc Cert.PowerIdeal.main_arg2)) (m ((c.tc : Thread Cert.PowerIdeal.nD Cert.PowerIdeal.τ).loc Cert.PowerIdeal.main_arg3))) (m ((c.tc : Thread Cert.PowerIdeal.nD Cert.PowerIdeal.τ).loc Cert.PowerIdeal.main_arg4))), ?_, ?_⟩
  · refine (θ_run _ _ _).mono (fun r h c => ?_) (Cert.PowerIdeal.Value.run_blocks m g)
    obtain ⟨hD1, hD2, hQ⟩ := real_of_pre m hp c
    obtain ⟨e, k⟩ := h c
    exact ⟨e.trans (Cert.PowerIdeal.Hand.result_eq m c hD1 hD2 hQ), k⟩
  · refine (θ_run _ _ _).mono (fun r h c => ?_) (Cert.PowerRefIdeal.Value.run_blocks m' g')
    obtain ⟨hD1, hD2, hQ⟩ := real_of_pre m hp c
    obtain ⟨a0, a1, a2, a3, a4⟩ := ha c
    obtain ⟨e, k⟩ := h c
    refine ⟨e.trans ?_, k⟩
    have := result_eq m' c
    rw [a0, a1, a2, a3, a4] at this
    exact this hD1 hD2 hQ

end Cert.PowerRefIdeal.Hand

end
-- ==== Proof.Chol.lean ====
module

public import Idealize.ShloMosaic.PureOps.Ideal
public import Mathlib.Tactic.FieldSimp
public import Mathlib.Tactic.Ring
public import Mathlib.Tactic.Linarith

/-! Cholesky factorisation and triangular solves of real matrices, written on functions of natural
indices. -/

@[expose] public section

noncomputable section

namespace Cert.Chol

open Finset

/-- What is left of the matrix `g` after `j` columns have been eliminated. -/
def rest (g : ℕ → ℕ → ℝ) : ℕ → ℕ → ℕ → ℝ
  | 0 => g
  | j + 1 => fun i k => rest g j i k
      - (if j ≤ i then rest g j i j / √(rest g j j j) else 0)
        * (if j ≤ k then rest g j k j / √(rest g j j j) else 0)

/-- Entry `i` of column `j` of the Cholesky factor of `g`. -/
def low (g : ℕ → ℕ → ℝ) (i j : ℕ) : ℝ :=
  if j ≤ i then rest g j i j / √(rest g j j j) else 0

theorem rest_succ (g : ℕ → ℕ → ℝ) (j i k : ℕ) :
    rest g (j + 1) i k = rest g j i k - low g i j * low g k j := rfl

theorem low_of_lt (g : ℕ → ℕ → ℝ) {i j : ℕ} (h : i < j) : low g i j = 0 := if_neg (by omega)

/-- The remainder of a symmetric matrix is symmetric. -/
theorem rest_symm (g : ℕ → ℕ → ℝ) (hg : ∀ i k, g i k = g k i) (j i k : ℕ) :
    rest g j i k = rest g j k i := by
  induction j generalizing i k with
  | zero => exact hg i k
  | succ j ih => rw [rest_succ, rest_succ, ih i k]; ring

/-- The matrix is the columns eliminated so far and the remainder. -/
theorem eq_sum_add_rest (g : ℕ → ℕ → ℝ) (j i k : ℕ) :
    g i k = (∑ m ∈ range j, low g i m * low g k m) + rest g j i k := by
  induction j with
  | zero => simp [rest]
  | succ j ih => rw [sum_range_succ, rest_succ, ih]; ring

/-- A pivot's square root is the factor's diagonal entry. -/
theorem low_diag (g : ℕ → ℕ → ℝ) (j : ℕ) : low g j j = √(rest g j j j) := by
  rw [low, if_pos le_rfl, Real.div_sqrt]

theorem low_diag_pos (g : ℕ → ℕ → ℝ) {j : ℕ} (h : 0 < rest g j j j) : 0 < low g j j := by
  rw [low_diag]; exact Real.sqrt_pos.2 h

/-- An eliminated row of the remainder is zero. -/
theorem rest_row (g : ℕ → ℕ → ℝ) (hg : ∀ i k, g i k = g k i) {n : ℕ}
    (hp : ∀ j < n, 0 < rest g j j j) {j : ℕ} (hj : j ≤ n) {i : ℕ} (hi : i < j) (k : ℕ) :
    rest g j i k = 0 := by
  induction j generalizing i k with
  | zero => omega
  | succ j ih =>
    have ih := fun {i} => @ih (by omega) i
    have hd := hp j (by omega)
    rw [rest_succ]
    rcases Nat.lt_succ_iff_lt_or_eq.1 hi with h | rfl
    · rw [ih h, low_of_lt g h]; ring
    · rw [low_diag]
      by_cases h : i ≤ k
      · rw [low, if_pos h, rest_symm g hg i i k]
        field_simp
        simp
      · rw [low_of_lt g (by omega : k < i), rest_symm g hg, ih (by omega : k < i)]; ring

/-- With positive pivots the matrix is the factor times its transpose. -/
theorem eq_sum_low (g : ℕ → ℕ → ℝ) (hg : ∀ i k, g i k = g k i) {n : ℕ}
    (hp : ∀ j < n, 0 < rest g j j j) {i : ℕ} (hi : i < n) (k : ℕ) :
    g i k = ∑ m ∈ range n, low g i m * low g k m := by
  rw [eq_sum_add_rest g n i k, rest_row g hg hp le_rfl hi, add_zero]

/-- Row `m` of the solution `u` of `l u = b` for a lower triangular `l`. -/
def solve (l b : ℕ → ℕ → ℝ) (m c : ℕ) : ℝ :=
  (b m c - ∑ k : Fin m, l m k * solve l b k c) / l m m

theorem solve_eq (l b : ℕ → ℕ → ℝ) (m c : ℕ) :
    solve l b m c = (b m c - ∑ k ∈ range m, l m k * solve l b k c) / l m m := by
  rw [solve, ← Fin.sum_univ_eq_sum_range (fun k => l m k * solve l b k c)]

/-- The triangular system is solved. -/
theorem sum_solve (l b : ℕ → ℕ → ℝ) (m c : ℕ) (h : l m m ≠ 0) :
    b m c = (∑ k ∈ range m, l m k * solve l b k c) + l m m * solve l b m c := by
  rw [solve_eq l b m c]; field_simp; ring

/-- The triangular system of the matrix itself is solved by the transposed factor. -/
theorem solve_self (g : ℕ → ℕ → ℝ) (hg : ∀ i k, g i k = g k i) {n : ℕ}
    (hp : ∀ j < n, 0 < rest g j j j) {b : ℕ → ℕ → ℝ} {c : ℕ}
    (hb : ∀ m < n, b m c = g m c) (m : ℕ) (hm : m < n) :
    solve (low g) b m c = low g c m := by
  induction m using Nat.strong_induction_on with
  | _ m ih =>
    have hd := (low_diag_pos g (hp m hm)).ne'
    have h1 : ∑ k ∈ range m, low g m k * solve (low g) b k c = ∑ k ∈ range m, low g m k * low g c k :=
      sum_congr rfl fun k hk => by rw [ih k (mem_range.1 hk) (by have := mem_range.1 hk; omega)]
    have h2 := eq_sum_low g hg hp hm c
    have h3 : ∑ k ∈ range n, low g m k * low g c k
        = ∑ k ∈ range (m + 1), low g m k * low g c k := by
      symm
      apply sum_subset (by intro x; simp; omega)
      intro x _ hx
      rw [low_of_lt g (by simp at hx; omega), zero_mul]
    rw [solve_eq, h1, hb m hm, h2, h3, sum_range_succ]
    field_simp
    ring

/-- A triangular solve is multiplication by the solution for the identity. -/
theorem solve_linear (l e b : ℕ → ℕ → ℝ) {n : ℕ} (o : ℕ)
    (he : ∀ m < n, ∀ k < n, e m (o + k) = if m = k then 1 else 0) (m : ℕ) (hm : m < n) (c : ℕ) :
    solve l b m c = ∑ k ∈ range n, solve l e m (o + k) * b k c := by
  induction m using Nat.strong_induction_on with
  | _ m ih =>
    have h1 : ∑ j ∈ range m, l m j * solve l b j c
        = ∑ k ∈ range n, (∑ j ∈ range m, l m j * solve l e j (o + k)) * b k c := by
      simp_rw [sum_mul]
      rw [sum_comm]
      refine sum_congr rfl fun j hj => ?_
      have := mem_range.1 hj
      rw [ih j this (by omega), mul_sum]
      exact sum_congr rfl fun k _ => by ring
    have h2 : b m c = ∑ k ∈ range n, e m (o + k) * b k c := by
      rw [sum_congr rfl (g := fun k => if m = k then b k c else 0)]
      · simp [hm]
      · intro k hk
        rw [he m hm k (mem_range.1 hk)]
        split_ifs <;> simp
    rw [solve_eq, h1, h2, ← sum_sub_distrib, sum_div]
    refine sum_congr rfl fun k _ => ?_
    rw [solve_eq l e]
    ring

end Cert.Chol
-- ==== Proof.CqrReal.lean ====
module

public import proofs.«01_k».proof.Proof.Mm
public import proofs.«01_k».proof.Proof.Chol
public import Idealize.ShloMosaic.Lib.Pointwise

@[expose] public section

noncomputable section

namespace Cert.CqrReal

open Idealize.ShloMosaic Finset
open Cert.Deq
open Idealize.ShloMosaic.WordCmp

/-- A matrix whose entries are the reals of a table. -/
def Is {a b : ℕ} (x : FVec Ideal ⟨2, ![a, b]⟩ .f32) (g : ℕ → ℕ → ℝ) : Prop :=
  ∀ (i : Fin a) (c : Fin b), x (ix2 i c) = ((g i.val c.val : ℝ) : EReal)

/-- A loop's index from zero in steps of one. -/
theorem iv_eq (k : ℕ) : Scf.iv 0#32 1#32 k = BitVec.ofNat 32 k := by simp [Scf.iv]

/-- A small word's value. -/
theorem toInt_small {a : ℕ} (h : a < 2147483648) : (BitVec.ofNat 32 a).toInt = (a : ℤ) := by
  rw [BitVec.toInt_eq_toNat_cond, BitVec.toNat_ofNat, Nat.mod_eq_of_lt (by omega), if_pos (by omega)]

/-- A choice by equality of small words. -/
theorem sel_eq {α : Type} {a b : ℕ} (ha : a < 2147483648) (hb : b < 2147483648) (x y : α) :
    Scalar.select (IntOp.cmpi .eq (BitVec.ofNat 32 a) (BitVec.ofNat 32 b)) x y = if a = b then x else y := by
  have e : (BitVec.ofNat 32 a = BitVec.ofNat 32 b) ↔ a = b :=
    ⟨fun h => by have := congrArg BitVec.toInt h; rw [toInt_small ha, toInt_small hb] at this; exact_mod_cast this, fun h => by rw [h]⟩
  rw [cmpi_eq_eq]
  by_cases h : a = b
  · rw [decide_eq_true (e.2 h), if_pos h]; rfl
  · rw [decide_eq_false (fun g => h (e.1 g)), if_neg h]; rfl

/-- A choice by small words compared, the second below the first. -/
theorem sel_gt {α : Type} {a b : ℕ} (ha : a < 2147483648) (hb : b < 2147483648) (x y : α) :
    Scalar.select (IntOp.cmpi .sgt (BitVec.ofNat 32 a) (BitVec.ofNat 32 b)) x y = if b < a then x else y := by
  rw [cmpi_sgt_eq, toInt_small ha, toInt_small hb]
  by_cases h : b < a
  · rw [decide_eq_true (by exact_mod_cast h), if_pos h]; rfl
  · rw [decide_eq_false (by exact_mod_cast h), if_neg h]; rfl

/-- A choice by small words compared, the second no more than the first. -/
theorem sel_ge {α : Type} {a b : ℕ} (ha : a < 2147483648) (hb : b < 2147483648) (x y : α) :
    Scalar.select (IntOp.cmpi .sge (BitVec.ofNat 32 a) (BitVec.ofNat 32 b)) x y = if b ≤ a then x else y := by
  rw [cmpi_sge_eq, toInt_small ha, toInt_small hb]
  by_cases h : b ≤ a
  · rw [decide_eq_true (by exact_mod_cast h), if_pos h]; rfl
  · rw [decide_eq_false (by exact_mod_cast h), if_neg h]; rfl

/-- A sum that picks one entry out. -/
theorem sum_pick {n : ℕ} (hn : n < 2147483648) (j : Fin n) (f : Fin n → EReal) :
    ∑ x : Fin n, Scalar.select (IntOp.cmpi .eq (BitVec.ofNat 32 x.val) (BitVec.ofNat 32 j.val)) (f x) 0 = f j := by
  rw [Finset.sum_eq_single j (fun x _ h => ?_) (fun h => absurd (Finset.mem_univ j) h)]
  · rw [sel_eq (by omega) (by omega), if_pos rfl]
  · rw [sel_eq (by omega) (by omega), if_neg (fun e => h (Fin.ext e))]

/-- A sum of reals over a range, as one over the indices. -/
theorem sum_real (n : ℕ) (f : ℕ → ℝ) : ∑ x : Fin n, ((f x.val : ℝ) : EReal) = ((∑ x ∈ range n, f x : ℝ) : EReal) := by
  rw [Finset.sum_range]; exact coe_sum _ _

/-- A real over the root of a positive one. -/
theorem div_sqrt (x : ℝ) {d : ℝ} (h : 0 < d) : Ideal.div (x : EReal) (Ideal.sqrt (d : EReal)) = ((x / √d : ℝ) : EReal) := by
  rw [Ideal.sqrt_coe, if_neg (not_lt.2 h.le), Ideal.div_coe (Real.sqrt_pos.2 h).ne', ← EReal.coe_mul, mul_one_div]

/-- A real over a real that is not zero. -/
theorem div_real (x : ℝ) {d : ℝ} (h : d ≠ 0) : Ideal.div (x : EReal) (d : EReal) = ((x / d : ℝ) : EReal) := by
  rw [Ideal.div_coe h, ← EReal.coe_mul, mul_one_div]

/-- A matrix of reals is its table. -/
theorem is_re {a b : ℕ} (x : FVec Ideal ⟨2, ![a, b]⟩ .f32) (h : Deq.Real x) : Is x (re x) := fun i c => eq_re h i c

/-- What a loop's trips preserve, its last trip leaves. -/
theorem fold_ind {σ : Type} (n : ℕ) (g : Fin n → σ → σ) (init : σ) (P : ℕ → σ → Prop) (h0 : P 0 init)
    (hs : ∀ (k : Fin n) (a : σ), P k.val a → P (k.val + 1) (g k a)) : P n ((List.finRange n).foldl (fun acc k => g k acc) init) := by
  induction n with
  | zero => exact h0
  | succ n ih =>
    rw [List.finRange_succ_last, List.foldl_append, List.foldl_map]
    exact hs (Fin.last n) _ (ih (fun k => g k.castSucc) fun k a h => hs k.castSucc a h)

/-- The Gram matrix of a matrix of 8192 rows. -/
def gram (y : ℕ → ℕ → ℝ) (i c : ℕ) : ℝ := ∑ m ∈ range 8192, y m i * y m c

theorem gram_symm (y : ℕ → ℕ → ℝ) (i c : ℕ) : gram y i c = gram y c i := Finset.sum_congr rfl fun _ _ => mul_comm _ _

/-- All pivots of the Gram matrix of 240 columns are positive. -/
def Pivots (y : ℕ → ℕ → ℝ) : Prop := ∀ j < 240, 0 < Chol.rest (gram y) j j j

/-- The orthonormal factor, a row of it: the triangular system against the matrix's row. -/
def orth (y : ℕ → ℕ → ℝ) (i c : ℕ) : ℝ := Chol.solve (Chol.low (gram y)) (fun m _ => y i m) c 0

end Cert.CqrReal
-- ==== Proof.CqrPanel.lean ====
module

public import proofs.«01_k».proof.Proof.CqrReal
public import proofs.«01_k».proof.Proof.Gen.CqrIdeal.Value
public import Idealize.ShloMosaic.Lib.Pointwise

@[expose] public section

noncomputable section

namespace Cert.CqrIdeal.Hand

open Cert.CqrIdeal Cert.CqrIdeal.Gen Idealize.ShloMosaic Idealize.ShloMosaic.TcCoe Idealize.SL.Sem
open Finset Cert.CqrReal Idealize.ShloMosaic.WordCmp

/-- One row of a column vector lies within it. -/
theorem slice_col : ∀ j : Fin 8, S8x128.Slices ![j.val, 0] S1x128 := by decide
/-- One row of the panel lies within it. -/
theorem slice_row : ∀ j : Fin 8, S8x512.Slices ![j.val, 0] S1x512 := by decide

/-- Row `j` of a column vector, in every row. -/
def bcol (j : Fin 8) (x : FVec Ideal S8x128 .f32) : FVec Ideal S8x128 .f32 :=
  broadcastTo S8x128 (shapeCast S1x128 (extractStridedSlice S1x128 ![j.val, 0] x (slice_col j)) shapeCasts_S1x128_S1x128) broadcasts_S1x128_S8x128

/-- One over the root of the pivot. -/
def vinv (j : Fin 8) (x : FVec Ideal S8x128 .f32) : FVec Ideal S8x128 .f32 :=
  divf (broadcast S8x128 (Scalar.ofBits .f32 0x3F800000#32)) (sqrt (bcol j x))

/-- The factor's column below the pivot. -/
def vlow (j : Fin 8) (v18 : IVec S8x128 32) (x : FVec Ideal S8x128 .f32) : FVec Ideal S8x128 .f32 :=
  select (cmpi .sgt v18 (broadcast S8x128 (BitVec.ofNat 32 j.val))) (mulf x (vinv j x)) (broadcast S8x128 (Scalar.ofBits .f32 0x00000000#32))

/-- A later column once a column of the factor is eliminated. -/
def vupd (k : Fin 8) (l x : FVec Ideal S8x128 .f32) : FVec Ideal S8x128 .f32 := subf x (mulf l (bcol k l))

/-- Four copies of a column vector side by side. -/
def wide (x : FVec Ideal S8x128 .f32) : FVec Ideal S8x512 .f32 :=
  concatenate S8x512 1 [⟨S8x128, x⟩, ⟨S8x128, x⟩, ⟨S8x128, x⟩, ⟨S8x128, x⟩] concatenates_S8x128_S8x128_S8x128_S8x128_S8x512_d1

/-- The panel's rows once row `j` is divided by the pivot's root and eliminated below. -/
def vrow (j : Fin 8) (v18 : IVec S8x128 32) (v19 : IVec S8x512 32) (x : FVec Ideal S8x128 .f32) (w : FVec Ideal S8x512 .f32) : FVec Ideal S8x512 .f32 :=
  select (cmpi .eq v19 (broadcast S8x512 (BitVec.ofNat 32 j.val)))
    (mulf (broadcastTo S8x512 (shapeCast S1x512 (extractStridedSlice S1x512 ![j.val, 0] w (slice_row j)) shapeCasts_S1x512_S1x512) broadcasts_S1x512_S8x512) (wide (vinv j x)))
    (subf w (mulf (wide (vlow j v18 x))
      (mulf (broadcastTo S8x512 (shapeCast S1x512 (extractStridedSlice S1x512 ![j.val, 0] w (slice_row j)) shapeCasts_S1x512_S1x512) broadcasts_S1x512_S8x512) (wide (vinv j x)))))

/-- Column `k` of the panel before elimination step `n`. -/
def cols (v18 : IVec S8x128 32) (c0 : Fin 8 → FVec Ideal S8x128 .f32) : (n : ℕ) → n ≤ 8 → Fin 8 → FVec Ideal S8x128 .f32
  | 0, _, k => c0 k
  | n + 1, h, k => vupd k (vlow ⟨n, h⟩ v18 (cols v18 c0 n (Nat.le_of_succ_le h) ⟨n, h⟩)) (cols v18 c0 n (Nat.le_of_succ_le h) k)

/-- The panel's rows before elimination step `n`. -/
def rows (v18 : IVec S8x128 32) (v19 : IVec S8x512 32) (c0 : Fin 8 → FVec Ideal S8x128 .f32) (w : FVec Ideal S8x512 .f32) : (n : ℕ) → n ≤ 8 → FVec Ideal S8x512 .f32
  | 0, _ => w
  | n + 1, h => vrow ⟨n, h⟩ v18 v19 (cols v18 c0 n (Nat.le_of_succ_le h) ⟨n, h⟩) (rows v18 v19 c0 w n (Nat.le_of_succ_le h))

/-- Column `o` of the window, in every lane. -/
def gath (o : BitVec 32) (x : Vec Ideal S8x128 .f32) : FVec Ideal S8x128 .f32 :=
  dynamicGather 1 x (shapeCast S8x128 (shapeCast S8x128x1 (select (cmpi .slt (broadcast S8x128 o) (broadcast S8x128 0#32)) (addi (broadcast S8x128 o) (broadcast S8x128 128#32)) (broadcast S8x128 o)) shapeCasts_S8x128_S8x128x1) shapeCasts_S8x128x1_S8x128)

/-- The panel's eight columns, of the window they lie in. -/
def first (k : Fin k0_t2_loop.trips) (x : Vec Ideal S8x128 .f32) (j : Fin 8) : FVec Ideal S8x128 .f32 :=
  gath (Scalar.addi (Scalar.subi (trip_k0_t2.sl.v24 k) (trip_k0_t2.sl.v43 k)) (BitVec.ofNat 32 j.val)) x

/-- The row numbers of a column vector. -/
abbrev i18 : IVec S8x128 32 := iota .tc S8x128 32 [0] iota_S8x128_d0_w32
/-- The row numbers of the panel. -/
abbrev i19 : IVec S8x512 32 := iota .tc S8x512 32 [0] iota_S8x512_d0_w32

/-- The reciprocal root, at an index. -/
theorem vinv_apply (j : Fin 8) (x : FVec Ideal S8x128 .f32) (i : Fin 8) (c : Fin 128) : vinv j x (ix2 i c) = Ideal.div 1 (Ideal.sqrt (x (ix2 j c))) := by
  pointwise [vinv, bcol]

/-- The copies, at an index. -/
theorem wide_apply (x : FVec Ideal S8x128 .f32) (i : Fin 8) (c : Fin 512) : wide x (ix2 i c) = x (ix2 i ⟨c.val % 128, Nat.mod_lt _ (by decide)⟩) := by
  pointwise [wide]
  split
  · congr; omega
  split
  · congr; omega
  split
  · congr; omega
  · congr; omega

/-- The factor's column, at an index. -/
theorem vlow_apply (j : Fin 8) (x : FVec Ideal S8x128 .f32) (i : Fin 8) (c : Fin 128) :
    vlow j i18 x (ix2 i c) = if j.val < i.val then x (ix2 i c) * vinv j x (ix2 i c) else 0 := by
  pointwise [vlow]
  rw [sel_gt (by omega) (by omega)]

/-- The eliminated column, at an index. -/
theorem vupd_apply (k : Fin 8) (l x : FVec Ideal S8x128 .f32) (i : Fin 8) (c : Fin 128) :
    vupd k l x (ix2 i c) = x (ix2 i c) - l (ix2 i c) * l (ix2 k c) := by
  pointwise [vupd, bcol]

/-- The eliminated rows, at an index. -/
theorem vrow_apply (j : Fin 8) (x : FVec Ideal S8x128 .f32) (w : FVec Ideal S8x512 .f32) (i : Fin 8) (c : Fin 512) :
    vrow j i18 i19 x w (ix2 i c) = if i.val = j.val then w (ix2 j c) * wide (vinv j x) (ix2 i c)
      else w (ix2 i c) - wide (vlow j i18 x) (ix2 i c) * (w (ix2 j c) * wide (vinv j x) (ix2 i c)) := by
  pointwise [vrow]
  rw [sel_eq (by omega) (by omega)]

/-- A matrix and its right sides after `n` steps of forward elimination: solved rows, then remainders. -/
def elim (g b : ℕ → ℕ → ℝ) (n i c : ℕ) : ℝ :=
  if i < n then Chol.solve (Chol.low g) b i c else b i c - ∑ k ∈ range n, Chol.low g i k * Chol.solve (Chol.low g) b k c

section Spec

variable {g b : ℕ → ℕ → ℝ} {p : ℕ} (hp : ∀ j < 8, 0 < Chol.rest g (p + j) (p + j) (p + j))
  {c0 : Fin 8 → FVec Ideal S8x128 .f32} {w : FVec Ideal S8x512 .f32}
  (hc : ∀ (k r : Fin 8) (c : Fin 128), c0 k (ix2 r c) = ((Chol.rest g p (p + r.val) (p + k.val) : ℝ) : EReal))
  (hw : ∀ (r : Fin 8) (c : Fin 512), w (ix2 r c) = ((elim g b p (p + r.val) c.val : ℝ) : EReal))

include hp in
/-- The pivot's reciprocal root. -/
theorem vinv_spec (n : Fin 8) (x : FVec Ideal S8x128 .f32)
    (hx : ∀ (r : Fin 8), n ≤ r → ∀ c : Fin 128, x (ix2 r c) = ((Chol.rest g (p + n.val) (p + r.val) (p + n.val) : ℝ) : EReal)) (r : Fin 8) (c : Fin 128) :
    vinv n x (ix2 r c) = ((1 / Chol.low g (p + n.val) (p + n.val) : ℝ) : EReal) := by
  rw [vinv_apply, hx n le_rfl, ← EReal.coe_one, div_sqrt _ (hp _ n.isLt), Chol.low_diag]

include hp in
/-- The factor's column below the pivot. -/
theorem vlow_spec (n : Fin 8) (x : FVec Ideal S8x128 .f32)
    (hx : ∀ (r : Fin 8), n ≤ r → ∀ c : Fin 128, x (ix2 r c) = ((Chol.rest g (p + n.val) (p + r.val) (p + n.val) : ℝ) : EReal)) (r : Fin 8) (c : Fin 128) :
    vlow n i18 x (ix2 r c) = ((if n.val < r.val then Chol.low g (p + r.val) (p + n.val) else 0 : ℝ) : EReal) := by
  rw [vlow_apply]
  by_cases h : n.val < r.val
  · rw [if_pos h, if_pos h, vinv_spec hp n x hx, hx r h.le, ← EReal.coe_mul, Chol.low_diag, Chol.low, if_pos (by omega), mul_one_div]
  · rw [if_neg h, if_neg h]; rfl

include hp hc in
/-- The panel's columns before elimination step `n`: the remainder there, from row and column `n` on. -/
theorem cols_spec (n : ℕ) (h : n ≤ 8) (k r : Fin 8) (hk : n ≤ k.val) (hr : n ≤ r.val) (c : Fin 128) :
    cols i18 c0 n h k (ix2 r c) = ((Chol.rest g (p + n) (p + r.val) (p + k.val) : ℝ) : EReal) := by
  induction n generalizing k r c with
  | zero => exact hc k r c
  | succ n ih =>
    have hx : ∀ (r : Fin 8), (⟨n, h⟩ : Fin 8) ≤ r → ∀ c : Fin 128, cols i18 c0 n (Nat.le_of_succ_le h) ⟨n, h⟩ (ix2 r c) = ((Chol.rest g (p + n) (p + r.val) (p + n) : ℝ) : EReal) :=
      fun r hr c => ih (Nat.le_of_succ_le h) ⟨n, h⟩ r le_rfl hr c
    have e : cols i18 c0 (n + 1) h k = vupd k (vlow ⟨n, h⟩ i18 (cols i18 c0 n (Nat.le_of_succ_le h) ⟨n, h⟩)) (cols i18 c0 n (Nat.le_of_succ_le h) k) := rfl
    rw [e, vupd_apply, vlow_spec hp ⟨n, h⟩ _ hx, vlow_spec hp ⟨n, h⟩ _ hx, ih (Nat.le_of_succ_le h) k r (by omega) (by omega), if_pos (by exact hr), if_pos (by exact hk),
      ← EReal.coe_mul, ← EReal.coe_sub]
    rfl

include hp hc hw in
/-- The panel's rows before elimination step `n`. -/
theorem rows_spec (n : ℕ) (h : n ≤ 8) (r : Fin 8) (c : Fin 512) :
    rows i18 i19 c0 w n h (ix2 r c) = ((elim g b (p + n) (p + r.val) c.val : ℝ) : EReal) := by
  induction n generalizing r c with
  | zero => exact hw r c
  | succ n ih =>
    have hx : ∀ (r : Fin 8), (⟨n, h⟩ : Fin 8) ≤ r → ∀ c : Fin 128, cols i18 c0 n (Nat.le_of_succ_le h) ⟨n, h⟩ (ix2 r c) = ((Chol.rest g (p + n) (p + r.val) (p + n) : ℝ) : EReal) :=
      fun r hr c => cols_spec hp hc n (Nat.le_of_succ_le h) ⟨n, h⟩ r le_rfl hr c
    have e : rows i18 i19 c0 w (n + 1) h = vrow ⟨n, h⟩ i18 i19 (cols i18 c0 n (Nat.le_of_succ_le h) ⟨n, h⟩) (rows i18 i19 c0 w n (Nat.le_of_succ_le h)) := rfl
    have hq : elim g b (p + n) (p + n) c.val * (1 / Chol.low g (p + n) (p + n)) = Chol.solve (Chol.low g) b (p + n) c.val := by
      rw [elim, if_neg (lt_irrefl _), mul_one_div, ← Chol.solve_eq]
    rw [e, vrow_apply, wide_apply, wide_apply, vinv_spec hp ⟨n, h⟩ _ hx, vlow_spec hp ⟨n, h⟩ _ hx, ih, ih]
    dsimp only
    rw [← EReal.coe_mul, hq, ← EReal.coe_mul, ← EReal.coe_sub]
    by_cases hr : r.val = n
    · rw [if_pos hr, hr, elim, if_pos (by omega)]
    · rw [if_neg hr]
      congr 1
      by_cases hl : n < r.val
      · rw [if_pos hl, elim, elim, if_neg (by omega), if_neg (by omega), ← Nat.add_assoc, sum_range_succ]; ring
      · rw [if_neg hl, elim, elim, if_pos (by omega), if_pos (by omega)]; ring

end Spec

/-- The trailing rows' update. -/
theorem pay8_apply (v : ℕ) (hv : v < 2147483640) (a : FVec Ideal S8x128 .f32) (b : FVec Ideal S8x512 .f32) (d : FVec Ideal S8x128 .f32) (e : IVec S8x128 32) (x : Vec Ideal S240x512 .f32) (i : Fin 240) (c : Fin 512) :
    k0_pay8 (BitVec.ofNat 32 v) a b d e x (ix2 i c) = x (ix2 i c) -
      ∑ r : Fin 8, if v + 8 ≤ i.val then k0_pay6 a b d e (ix2 r ⟨i.val, lt_trans i.isLt (by decide)⟩) * k0_pay6 a b d e (ix2 r c) else (0 : EReal) := by
  pointwise [k0_pay8]
  have hs : Scalar.addi (BitVec.ofNat 32 v) 8#32 = BitVec.ofNat 32 (v + 8) := (BitVec.ofNat_add ..).symm
  rw [hs]
  simp only [sel_ge (show i.val < 2147483648 by omega) (show v + 8 < 2147483648 by omega)]

/-- A block of the first result. -/
theorem pay9_apply (l : FVec Ideal S240x240 .f32) (y : Vec Ideal S512x240 .f32) (i : Fin 512) (c : Fin 240) :
    k0_pay9 l y (ix2 i c) = ∑ x : Fin 240, y (ix2 i x) * l (ix2 c x) := by
  pointwise [k0_pay9]

/-- A block of the second result is the first's transposed. -/
theorem pay10_apply (l : FVec Ideal S240x240 .f32) (y : Vec Ideal S512x240 .f32) (i : Fin 240) (c : Fin 512) :
    k0_pay10 l y (ix2 i c) = k0_pay9 l y (ix2 c i) := by
  pointwise [k0_pay10]

/-- A trip of the first loop adds a block's products. -/
theorem pay2_apply (a : FVec Ideal S240x240 .f32) (y : Vec Ideal S512x240 .f32) (i c : Fin 240) :
    k0_pay2 a y (ix2 i c) = a (ix2 i c) + ∑ x : Fin 512, y (ix2 x i) * y (ix2 x c) := by
  pointwise [k0_pay2]

/-- The identity's block. -/
theorem pay5_apply (i c : Fin 240) : k0_pay5 (F := Ideal) (ix2 i c) = (((if i.val = c.val then 1 else 0) : ℝ) : EReal) := by
  pointwise [k0_pay5]
  rw [cmpi_eq_eq_toNat, BitVec.toNat_ofNat, BitVec.toNat_ofNat, Nat.mod_eq_of_lt (by omega), Nat.mod_eq_of_lt (by omega)]
  by_cases h : i.val = c.val
  · rw [decide_eq_true h, if_pos h]
    exact congrArg (fun z : ℤ => ((z : ℝ) : EReal)) (show ((BitVec.ofBool true).setWidth 32).toInt = 1 by decide) |>.trans (by norm_num)
  · rw [decide_eq_false h, if_neg h]
    exact congrArg (fun z : ℤ => ((z : ℝ) : EReal)) (show ((BitVec.ofBool false).setWidth 32).toInt = 0 by decide) |>.trans (by norm_num)

/-- The offset of a column in its window is the column modulo 128. -/
theorem off_eq : ∀ (k : Fin k0_t2_loop.trips) (j : Fin 8), (Scalar.select (IntOp.cmpi CmpIPredicate.slt (Scalar.addi (Scalar.subi (trip_k0_t2.sl.v24 k) (trip_k0_t2.sl.v43 k)) (BitVec.ofNat 32 j.val)) 0#32)
    (IntOp.addi (Scalar.addi (Scalar.subi (trip_k0_t2.sl.v24 k) (trip_k0_t2.sl.v43 k)) (BitVec.ofNat 32 j.val)) 128#32) (Scalar.addi (Scalar.subi (trip_k0_t2.sl.v24 k) (trip_k0_t2.sl.v43 k)) (BitVec.ofNat 32 j.val))).toNat % 128 = (8 * k.val + j.val) % 128 := by
  decide +kernel

/-- A panel's column, of the window it lies in. -/
theorem first_apply (k : Fin k0_t2_loop.trips) (x : Vec Ideal S8x128 .f32) (j r : Fin 8) (c : Fin 128) :
    first k x j (ix2 r c) = x (ix2 r ⟨(8 * k.val + j.val) % 128, Nat.mod_lt _ (by decide)⟩) := by
  pointwise [first, gath]
  exact congrArg x (congrArg (ix2 r) (Fin.ext (off_eq k j)))

variable (arg3 : Memref sig .tc .vmem S240x512 .f32) (k : Fin k0_t2_loop.trips) (f : BufTy.Contents (Elt Ideal) arg3.view.ty)

/-- The eight columns a trip starts from. -/
abbrev st0 : Fin 8 → FVec Ideal S8x128 .f32 := first k (trip_k0_t2.sl.r_1 arg3 k f)

/-- The rows a trip stores are the eight-step elimination of those it loads. -/
theorem pay6_eq : k0_pay6 (trip_k0_t2.sl.r_42 arg3 i18 k f) (trip_k0_t2.sl.r_43 arg3 i18 i19 k f) (trip_k0_t2.sl.r_44 arg3 i18 k f) k0_pay72
    = rows i18 i19 (st0 arg3 k f) (trip_k0_t2.sl.r arg3 k f) 8 (by decide) := rfl

/-- The stored rows are the eliminated ones. -/
theorem pay7_eq (a : FVec Ideal S8x128 .f32) (b : FVec Ideal S8x512 .f32) (d : FVec Ideal S8x128 .f32) (e : IVec S8x128 32) : k0_pay7 a b d e = k0_pay6 a b d e := by
  unfold k0_pay7
  simp only [shapeCast_self]

/-- The Gram matrix's block is stored as it is. -/
theorem pay4_eq (g : FVec Ideal S240x240 .f32) : k0_pay4 g = g := by
  unfold k0_pay4
  simp only [shapeCast_self]

/-- The scratch matrix is cleared. -/
theorem pay3_apply (i : Fin 240) (c : Fin 512) : k0_pay3 (F := Ideal) (ix2 i c) = ((0 : ℝ) : EReal) := by
  pointwise [k0_pay3]
  rfl

/-- The first loop starts from zero. -/
theorem pay1_apply (i c : Fin 240) : k0_pay1 (F := Ideal) (ix2 i c) = ((0 : ℝ) : EReal) := by
  pointwise [k0_pay1]
  rfl

end Cert.CqrIdeal.Hand
-- ==== Proof.CqrLoops.lean ====
module

public import proofs.«01_k».proof.Proof.CqrPanel
public import Idealize.ShloMosaic.Lib.Pipeline.ValueKit
public import Idealize.ShloMosaic.Lib.WritesUnit

@[expose] public section

noncomputable section

namespace Cert.CqrIdeal.Hand

open Cert.CqrIdeal Cert.CqrIdeal.Gen Idealize.ShloMosaic Idealize.ShloMosaic.TcCoe Idealize.SL.Sem
open Finset Cert.CqrReal

/-- A rectangle loaded, at an index: the buffer's content there. -/
theorem readAt_apply {s : Shape} {e : EltTy} {sp : Space} (v : View sig .tc sp s e) {off size off' : Fin s.rank → ℕ} (inb) (f : BufTy.Contents (Elt Ideal) v.ty)
    (x : (Rect.unit (s := s) off size inb).shape.Idx) (y : s.Idx) (hoff : off = off') (h : ∀ a, (y a).val = off' a + (x a).val) :
    v.readAt (Elt Ideal) (Rect.unit (s := s) off size inb).toLoadRect f x = v.read (Elt Ideal) f y :=
  congrArg (v.read (Elt Ideal) f) (funext fun a => Fin.ext ((Rect.idx_unit_val off size inb x a).trans ((congrFun hoff a ▸ rfl : off a + (x a).val = off' a + (x a).val).trans (h a).symm)))

/-- The first loop's block of rows. -/
theorem off1_eq : ∀ k : Fin k0_t1_loop.trips, k0_off1 k = ![512 * k.val, 0] := by decide +kernel
/-- A panel's rows. -/
theorem off2_eq : ∀ k : Fin k0_t2_loop.trips, k0_off2 k = ![8 * k.val, 0] := by decide +kernel
/-- The window a panel's columns lie in. -/
theorem off3_eq : ∀ k : Fin k0_t2_loop.trips, k0_off3 k = ![8 * k.val, 128 * (8 * k.val / 128)] := by decide +kernel
/-- The third loop's block of rows. -/
theorem off4_eq : ∀ k : Fin k0_t3_loop.trips, k0_off4 k = ![512 * k.val, 0] := by decide +kernel
/-- The third loop's block of columns. -/
theorem off5_eq : ∀ k : Fin k0_t3_loop.trips, k0_off5 k = ![0, 512 * k.val] := by decide +kernel
/-- A panel's first row. -/
theorem v24_eq : ∀ k : Fin k0_t2_loop.trips, trip_k0_t2.sl.v24 k = BitVec.ofNat 32 (8 * k.val) := by decide +kernel
/-- The first loop's trips. -/
theorem trips1 : k0_t1_loop.trips = 16 := by decide +kernel
/-- The panel loop's trips. -/
theorem trips2 : k0_t2_loop.trips = 30 := by decide +kernel
/-- The third loop's trips. -/
theorem trips3 : k0_t3_loop.trips = 16 := by decide +kernel

variable (c : Dev nD) (arg0 : Memref sig .tc .vmem S8192x240 .f32) (harg0 : arg0.IsWhole) (arg1 : Memref sig .tc .vmem S8192x240 .f32) (harg1 : arg1.IsWhole)
  (arg2 : Memref sig .tc .vmem S240x8192 .bf16) (harg2 : arg2.IsWhole) (arg3 : Memref sig .tc .vmem S240x512 .f32) (harg3 : arg3.IsWhole)

section Apply

variable (X : BufTy.Contents (Elt Ideal) arg0.view.ty) {f : ℕ → ℕ → ℝ} (hX : Is (a := 8192) (b := 240) (arg0.view.read (Elt Ideal) X) f)

include hX

/-- A block of the operand's rows. -/
theorem block_apply (k : ℕ) (hk : k < 16) (off : Fin 2 → ℕ) (hoff : off = ![512 * k, 0]) (inb) (i : Fin 512) (j : Fin 240) :
    arg0.view.readAt (Elt Ideal) (Rect.unit (s := S8192x240) off ![512, 240] inb).toLoadRect X (ix2 i j) = ((f (512 * k + i.val) j.val : ℝ) : EReal) := by
  refine (readAt_apply arg0.view inb X (ix2 i j) (ix2 ⟨512 * k + i.val, by omega⟩ j) hoff fun a => ?_).trans (hX _ _)
  match a with
  | ⟨0, _⟩ => rfl
  | ⟨1, _⟩ => exact (Nat.zero_add _).symm

/-- The first loop's sum after `n` blocks. -/
theorem state1 (n : ℕ) (hn : n ≤ 16) : Is (a := 240) (b := 240) (st_k0_t1 (F := Ideal) Variants.none c none arg0 harg0 arg1 harg1 arg2 harg2 arg3 harg3 X k0_pay1 n)
    (fun i j => ∑ m ∈ range (512 * n), f m i * f m j) := by
  induction n with
  | zero => intro i j; rw [st_k0_t1_zero, pay1_apply]; rfl
  | succ n ih =>
    intro i j
    have hk : n < k0_t1_loop.trips := by rw [trips1]; omega
    have e := st_k0_t1_succ (F := Ideal) Variants.none c none arg0 harg0 arg1 harg1 arg2 harg2 arg3 harg3 X k0_pay1 ⟨n, hk⟩
    dsimp only at e
    rw [e]
    unfold tripR_k0_t1 trip_k0_t1
    dsimp only
    rw [pay2_apply, ih (by omega), Nat.mul_succ, sum_range_add, EReal.coe_add]
    congr 1
    refine (Finset.sum_congr rfl fun x _ => ?_).trans (sum_real 512 fun x => f (512 * n + x) i.val * f (512 * n + x) j.val)
    rw [EReal.coe_mul]
    exact congrArg₂ _ (block_apply arg0 X hX n (by omega) _ (off1_eq ⟨n, hk⟩) _ x i) (block_apply arg0 X hX n (by omega) _ (off1_eq ⟨n, hk⟩) _ x j)

/-- The third loop's rows of the first result after `n` blocks. -/
theorem state3 (l : FVec Ideal S240x240 .f32) {q : ℕ → ℕ → ℝ}
    (hl : ∀ (i : ℕ), i < 8192 → ∀ (j : Fin 240), (∑ x : Fin 240, ((f i x.val : ℝ) : EReal) * l (ix2 j x)) = ((q i j.val : ℝ) : EReal))
    (v : View sig .tc .vmem S8192x240 .f32) (G : BufTy.Contents (Elt Ideal) v.ty) (w : View sig .tc .vmem S240x8192 .bf16) (H : BufTy.Contents (Elt Ideal) w.ty)
    (n : ℕ) (hn : n ≤ 16) (i : Fin 8192) (hi : i.val < 512 * n) (j : Fin 240) :
    v.read (Elt Ideal) (v.writes (Elt Ideal) G (pb_k0_t3 (F := Ideal) Variants.none c none arg0 harg0 arg1 harg1 arg2 harg2 arg3 harg3 l X n).1) (ix2 i j) = ((q i.val j.val : ℝ) : EReal)
    ∧ w.read (Elt Ideal) (w.writes (Elt Ideal) H (pb_k0_t3 (F := Ideal) Variants.none c none arg0 harg0 arg1 harg1 arg2 harg2 arg3 harg3 l X n).2) (ix2 j i) = ((q i.val j.val : ℝ) : EReal) := by
  induction n with
  | zero => omega
  | succ n ih =>
    have hk : n < k0_t3_loop.trips := by rw [trips3]; omega
    have e := pb_k0_t3_succ (F := Ideal) Variants.none c none arg0 harg0 arg1 harg1 arg2 harg2 arg3 harg3 l X ⟨n, hk⟩
    dsimp only at e
    rw [e]
    unfold trip_k0_t3
    dsimp only
    by_cases h : i.val < 512 * n
    · refine ⟨(View.read_writes_cons_rows_of_not_mem v G _ _ _ (ix2 i j) (off4_eq ⟨n, hk⟩) (W := 512) rfl (.inl h)).trans (ih (by omega) h).1,
        (View.read_writes_cons_unit_of_not_mem w H _ _ _ (ix2 j i) (off5_eq ⟨n, hk⟩) (1 : Fin 2) (.inl h)).trans (ih (by omega) h).2⟩
    · have hv : ∀ inb, k0_pay9 (F := Ideal) l (arg0.view.readAt (Elt Ideal) (Rect.unit (s := S8192x240) (k0_off4 ⟨n, hk⟩) ![512, 240] inb).toLoadRect X) (ix2 ⟨i.val - 512 * n, by omega⟩ j) = ((q i.val j.val : ℝ) : EReal) := by
        intro inb
        rw [pay9_apply]
        refine (Finset.sum_congr rfl fun x _ => ?_).trans (hl i.val i.isLt j)
        refine congrArg (· * l (ix2 j x)) ((block_apply arg0 X hX n (by omega) _ (off4_eq ⟨n, hk⟩) inb _ x).trans ?_)
        congr 2
        show 512 * n + (i.val - 512 * n) = i.val
        omega
      have hx : i.val = 512 * n + (i.val - 512 * n) := by omega
      refine ⟨(View.read_writes_cons_rows_of_mem (size := ![512, 240]) v G _ _ _ (ix2 i j) (ix2 ⟨i.val - 512 * n, by omega⟩ j) (off4_eq ⟨n, hk⟩) hx rfl).trans (hv _),
        (View.read_writes_cons_unit_of_mem (size := ![240, 512]) w H _ _ _ (ix2 j i) (ix2 j ⟨i.val - 512 * n, by omega⟩) (off5_eq ⟨n, hk⟩) fun a => ?_).trans ((pay10_apply _ _ _ _).trans (hv _))⟩
      match a with
      | ⟨0, _⟩ => exact (Nat.zero_add _).symm
      | ⟨1, _⟩ => exact hx

end Apply

section Panel

variable {g b : ℕ → ℕ → ℝ} (hg : ∀ i k, g i k = g k i) (hp : ∀ j < 240, 0 < Chol.rest g j j j) (hb : ∀ i j, j < 240 → b i j = g i j)
  (G : BufTy.Contents (Elt Ideal) arg3.view.ty) (hG : Is (a := 240) (b := 512) (arg3.view.read (Elt Ideal) G) b)

include hg hp hb in
/-- Before a panel, an unsolved row of the matrix is its remainder. -/
theorem elim_rest (n i j : ℕ) (hn : n ≤ 240) (hi : n ≤ i) (hj : j < 240) : elim g b n i j = Chol.rest g n i j := by
  rw [elim, if_neg (by omega), hb i j hj, Chol.eq_sum_add_rest g n i j]
  have : ∀ k ∈ range n, Chol.low g i k * Chol.solve (Chol.low g) b k j = Chol.low g i k * Chol.low g j k := fun k hk => by
    rw [Chol.solve_self g hg hp (b := b) (fun m _ => (hb m j hj).trans (hg m j ▸ rfl)) k (by have := Finset.mem_range.1 hk; omega)]
  rw [Finset.sum_congr rfl this]
  ring

include hg hp hb hG in
/-- The scratch matrix after `n` panels: `8 n` steps of elimination. -/
theorem state2 (n : ℕ) (hn : n ≤ 30) : Is (a := 240) (b := 512)
    (arg3.view.read (Elt Ideal) (arg3.view.writes (Elt Ideal) G (pb_k0_t2 (F := Ideal) Variants.none c none arg0 harg0 arg1 harg1 arg2 harg2 arg3 harg3 i18 i19 G n)))
    (elim g b (8 * n)) := by
  induction n with
  | zero =>
    intro i j
    refine (hG i j).trans ?_
    rw [elim, if_neg (Nat.not_lt_zero _), Nat.mul_zero, sum_range_zero, sub_zero]
  | succ n ih =>
    have hk : n < k0_t2_loop.trips := by rw [trips2]; omega
    have e := pb_k0_t2_succ (F := Ideal) Variants.none c none arg0 harg0 arg1 harg1 arg2 harg2 arg3 harg3 i18 i19 G ⟨n, hk⟩
    dsimp only at e
    rw [e, View.writes_append]
    replace ih := ih (by omega)
    generalize arg3.view.writes (Elt Ideal) G (pb_k0_t2 (F := Ideal) Variants.none c none arg0 harg0 arg1 harg1 arg2 harg2 arg3 harg3 i18 i19 G n) = F at ih ⊢
    unfold tripL_k0_t2 trip_k0_t2
    dsimp only
    have hrow : ∀ (r : Fin 8) (j : Fin 512), trip_k0_t2.sl.r arg3 ⟨n, hk⟩ F (ix2 r j) = ((elim g b (8 * n) (8 * n + r.val) j.val : ℝ) : EReal) := by
      intro r j
      refine (readAt_apply arg3.view _ F (ix2 r j) (ix2 ⟨8 * n + r.val, by omega⟩ j) (off2_eq ⟨n, hk⟩) fun a => ?_).trans (ih _ _)
      match a with
      | ⟨0, _⟩ => rfl
      | ⟨1, _⟩ => exact (Nat.zero_add _).symm
    have hcol : ∀ (k r : Fin 8) (j : Fin 128), st0 arg3 ⟨n, hk⟩ F k (ix2 r j) = ((Chol.rest g (8 * n) (8 * n + r.val) (8 * n + k.val) : ℝ) : EReal) := by
      intro k r j
      rw [←  elim_rest hg hp hb (8 * n) (8 * n + r.val) (8 * n + k.val) (by omega) (by omega) (by omega)]
      refine (first_apply ⟨n, hk⟩ _ k r j).trans ((readAt_apply arg3.view _ F (ix2 r ⟨(8 * n + k.val) % 128, Nat.mod_lt _ (by decide)⟩) (ix2 ⟨8 * n + r.val, by omega⟩ ⟨8 * n + k.val, by omega⟩) (off3_eq ⟨n, hk⟩) fun a => ?_).trans (ih _ _))
      match a with
      | ⟨0, _⟩ => rfl
      | ⟨1, _⟩ => show 8 * n + k.val = 128 * (8 * n / 128) + (8 * n + k.val) % 128; omega
    have hrows : ∀ (r : Fin 8) (j : Fin 512), k0_pay6 (trip_k0_t2.sl.r_42 arg3 i18 ⟨n, hk⟩ F) (trip_k0_t2.sl.r_43 arg3 i18 i19 ⟨n, hk⟩ F) (trip_k0_t2.sl.r_44 arg3 i18 ⟨n, hk⟩ F) k0_pay72 (ix2 r j)
        = ((elim g b (8 * n + 8) (8 * n + r.val) j.val : ℝ) : EReal) := by
      intro r j
      rw [pay6_eq]
      exact rows_spec (fun j hj => hp _ (by omega)) hcol hrow 8 le_rfl r j
    have hmid : ∀ (i : Fin 240) (j : Fin 512), arg3.view.readAt (Elt Ideal) (Rect.unit (s := S240x512) ![0, 0] ![240, 512] inb_S240x512_S240x512_0_0).toLoadRect
        (arg3.view.writes (Elt Ideal) F (trip_k0_t2.sl.HW_arg3_1 arg3 i18 i19 ⟨n, hk⟩ F)) (ix2 i j)
        = ((if i.val < 8 * n + 8 then elim g b (8 * n + 8) i.val j.val else elim g b (8 * n) i.val j.val : ℝ) : EReal) := by
      intro i j
      refine (readAt_apply arg3.view _ _ (ix2 i j) (ix2 i j) rfl fun a => ?_).trans ?_
      · match a with
        | ⟨0, _⟩ => exact (Nat.zero_add _).symm
        | ⟨1, _⟩ => exact (Nat.zero_add _).symm
      unfold trip_k0_t2.sl.HW_arg3_1
      by_cases h : 8 * n ≤ i.val ∧ i.val < 8 * n + 8
      · have hx : i.val = 8 * n + (i.val - 8 * n) := by omega
        rw [if_pos h.2]
        refine (View.read_writes_cons_rows_of_mem (size := S8x512.size) arg3.view F _ _ _ (ix2 i j) (ix2 ⟨i.val - 8 * n, by omega⟩ j) (off2_eq ⟨n, hk⟩) hx rfl).trans ?_
        rw [pay7_eq]
        refine (hrows _ _).trans ?_
        dsimp only
        rw [← hx]
      · refine (View.read_writes_cons_rows_of_not_mem arg3.view F _ _ _ (ix2 i j) (off2_eq ⟨n, hk⟩) (W := 8) rfl (show i.val < 8 * n ∨ 8 * n + 8 ≤ i.val by omega)).trans ((ih i j).trans ?_)
        split
        · rw [elim, elim, if_pos (by omega), if_pos (by omega)]
        · rfl
    intro i j
    refine (View.read_writes_cons_rows_of_mem arg3.view F _ _ _ (ix2 i j) (ix2 i j) (o := 0) rfl (Nat.zero_add _).symm rfl).trans ?_
    have hv : trip_k0_t2.sl.v24 ⟨n, hk⟩ = BitVec.ofNat 32 (8 * n) := v24_eq ⟨n, hk⟩
    rw [hv, pay8_apply (8 * n) (by omega), hmid]
    simp only [hrows]
    by_cases h : 8 * n + 8 ≤ i.val
    · simp only [if_pos h, if_neg (not_lt.2 h), ← EReal.coe_mul]
      rw [sum_real 8 fun r => elim g b (8 * n + 8) (8 * n + r) i.val * elim g b (8 * n + 8) (8 * n + r) j.val, ← EReal.coe_sub]
      congr 1
      have : ∀ r ∈ range 8, elim g b (8 * n + 8) (8 * n + r) i.val * elim g b (8 * n + 8) (8 * n + r) j.val = Chol.low g i.val (8 * n + r) * Chol.solve (Chol.low g) b (8 * n + r) j.val := fun r hr => by
        have := Finset.mem_range.1 hr
        rw [elim, elim, if_pos (by omega), if_pos (by omega),
          Chol.solve_self g hg hp (b := b) (c := i.val) (fun m _ => (hb m i.val i.isLt).trans (hg m i.val ▸ rfl)) (8 * n + r) (by omega)]
      rw [Finset.sum_congr rfl this, elim, elim, if_neg (by omega), if_neg (by omega), Nat.mul_succ, sum_range_add]
      ring
    · simp only [if_neg h, if_pos (not_le.1 h), Finset.sum_const_zero, sub_zero]
      rfl

end Panel

end Cert.CqrIdeal.Hand
-- ==== Proof.CqrRef.lean ====
module

public import proofs.«01_k».proof.Proof.CqrReal
public import proofs.«01_k».proof.Proof.LastRef
public import proofs.«01_k».proof.Proof.Gen.CqrRefIdeal.Value
public import Idealize.ShloMosaic.Lib.Pipeline.ValueKit
public import Idealize.ShloMosaic.Lib.Pointwise

@[expose] public section

noncomputable section

namespace Cert.CqrRefIdeal.Hand

open Cert.CqrRefIdeal Cert.CqrRefIdeal.Gen Idealize.ShloMosaic Idealize.ShloMosaic.TcCoe Idealize.SL.Sem
open Finset Cert.CqrReal
open Cert.LastRefIdeal.Hand (whole_at)

/-- The reference's first matrix is the Gram matrix. -/
theorem pay1_apply (y : Vec Ideal S8192x240 .f32) {f : ℕ → ℕ → ℝ} (hy : Is (a := 8192) (b := 240) y f) : Is (a := 240) (b := 240) (k0_pay1 y) (gram f) := by
  intro i c
  have e : k0_pay1 y (ix2 i c) = ∑ m : Fin 8192, y (ix2 m i) * y (ix2 m c) := by pointwise [k0_pay1]
  rw [e]
  refine (Finset.sum_congr rfl fun m _ => ?_).trans (sum_real 8192 fun m => f m i.val * f m c.val)
  rw [hy, hy, ← EReal.coe_mul]

/-- The first loop's column is the factor's. -/
theorem pay3_apply (k : Fin k0_t1_loop.trips) (j : Fin 240) (hj : k.val = j.val) (a : FVec Ideal S240x240 .f32) {g : ℕ → ℕ → ℝ}
    (ha : Is (a := 240) (b := 240) a (Chol.rest g j.val)) (hp : 0 < Chol.rest g j.val j.val j.val) (i c : Fin 240) :
    k0_pay3 k a (ix2 i c) = ((Chol.low g i.val j.val : ℝ) : EReal) := by
  pointwise [k0_pay3]
  rw [iv_eq, hj]
  simp only [sum_pick (n := 240) (by decide) j]
  rw [sel_ge (by omega) (by omega), ha, ha, div_sqrt _ hp]
  unfold Chol.low
  split <;> simp

/-- A trip of the first loop subtracts the column's outer square. -/
theorem pay4_apply (k : Fin k0_t1_loop.trips) (j : Fin 240) (hj : k.val = j.val) (a : FVec Ideal S240x240 .f32) {g : ℕ → ℕ → ℝ}
    (ha : Is (a := 240) (b := 240) a (Chol.rest g j.val)) (hp : 0 < Chol.rest g j.val j.val j.val) :
    Is (a := 240) (b := 240) (k0_pay4 k a) (Chol.rest g (j.val + 1)) := by
  intro i c
  have e : k0_pay4 k a (ix2 i c) = a (ix2 i c) - k0_pay3 k a (ix2 i c) * k0_pay3 k a (ix2 c i) := by pointwise [k0_pay4]
  rw [e, pay3_apply k j hj a ha hp, pay3_apply k j hj a ha hp, ha, ← EReal.coe_mul, ← EReal.coe_sub, Chol.rest_succ]

/-- The factor's first `n` columns. -/
def part (g : ℕ → ℕ → ℝ) (n i c : ℕ) : ℝ := if c < n then Chol.low g i c else 0

/-- A trip of the first loop sets a column of the factor. -/
theorem pay5_apply (k : Fin k0_t1_loop.trips) (j : Fin 240) (hj : k.val = j.val) (a l : FVec Ideal S240x240 .f32) {g : ℕ → ℕ → ℝ}
    (ha : Is (a := 240) (b := 240) a (Chol.rest g j.val)) (hp : 0 < Chol.rest g j.val j.val j.val)
    (hl : Is (a := 240) (b := 240) l (part g j.val)) : Is (a := 240) (b := 240) (k0_pay5 k a l) (part g (j.val + 1)) := by
  intro i c
  have e : k0_pay5 k a l (ix2 i c) = Scalar.select (IntOp.cmpi .eq (BitVec.ofNat 32 c.val) (Scf.iv 0#32 1#32 k)) (k0_pay3 k a (ix2 i c)) (l (ix2 i c)) := by
    pointwise [k0_pay5]
  rw [e, iv_eq, hj, sel_eq (by omega) (by omega), pay3_apply k j hj a ha hp, hl]
  unfold part
  by_cases h : c.val = j.val
  · rw [if_pos h, if_pos (by omega), h]
  · rw [if_neg h]
    by_cases h' : c.val < j.val
    · rw [if_pos h', if_pos (by omega)]
    · rw [if_neg h', if_neg (by omega)]

/-- The first loop leaves the factor. -/
theorem loop1 (y : Vec Ideal S8192x240 .f32) {f : ℕ → ℕ → ℝ} (hy : Is (a := 8192) (b := 240) y f) (hp : Pivots f) :
    Is (a := 240) (b := 240) (Scf.fold (fun (k : Fin k0_t1_loop.trips) (p : FVec Ideal S240x240 .f32 × FVec Ideal S240x240 .f32) => (k0_pay4 k p.1, k0_pay5 k p.1 p.2)) (k0_pay1 y, k0_pay2)).2
      (part (gram f) 240) := by
  rw [Scf.fold_eq]
  have ht : k0_t1_loop.trips = 240 := by decide +kernel
  have := fold_ind k0_t1_loop.trips (fun k (p : FVec Ideal S240x240 .f32 × FVec Ideal S240x240 .f32) => (k0_pay4 k p.1, k0_pay5 k p.1 p.2)) (k0_pay1 y, k0_pay2)
    (fun n p => Is (a := 240) (b := 240) p.1 (Chol.rest (gram f) n) ∧ Is (a := 240) (b := 240) p.2 (part (gram f) n)) ?_ ?_
  · exact fun i c => (this.2 i c).trans (congrArg (fun n => ((part (gram f) n i.val c.val : ℝ) : EReal)) ht)
  · refine ⟨pay1_apply y hy, fun i c => ?_⟩
    rw [part, if_neg (Nat.not_lt_zero _)]
    unfold k0_pay2
    exact Idealize.ShloMosaic.Ideal.ofBits_zero_f32
  · intro k p h
    have hk : k.val < 240 := lt_of_lt_of_eq k.isLt ht
    exact ⟨pay4_apply k ⟨k.val, hk⟩ rfl p.1 h.1 (hp _ hk), pay5_apply k ⟨k.val, hk⟩ rfl p.1 p.2 h.1 (hp _ hk) h.2⟩

/-- The orthonormal factor's first `n` columns. -/
def qpart (f : ℕ → ℕ → ℝ) (n i c : ℕ) : ℝ := if c < n then orth f i c else 0

/-- A trip of the second loop sets a column of the orthonormal factor. -/
theorem pay7_apply (k : Fin k0_t2_loop.trips) (j : Fin 240) (hj : k.val = j.val) (y q : FVec Ideal S8192x240 .f32) (l : FVec Ideal S240x240 .f32) {f : ℕ → ℕ → ℝ}
    (hy : Is (a := 8192) (b := 240) y f) (hl : Is (a := 240) (b := 240) l (part (gram f) 240)) (hq : Is (a := 8192) (b := 240) q (qpart f j.val)) (hp : Pivots f) :
    Is (a := 8192) (b := 240) (k0_pay7 y l k q) (qpart f (j.val + 1)) := by
  intro i c
  pointwise [k0_pay7]
  rw [iv_eq, hj]
  simp only [sum_pick (n := 240) (by decide) j]
  have hd : Chol.low (gram f) j.val j.val ≠ 0 := (Chol.low_diag_pos _ (hp j.val j.isLt)).ne'
  have hs : (∑ x : Fin 240, (Scalar.select (IntOp.cmpi .eq (BitVec.ofNat 32 x.val) (BitVec.ofNat 32 j.val)) (y (ix2 i x)) 0 - q (ix2 i x) * l (ix2 j x)))
      = ((f i.val j.val - ∑ x ∈ range j.val, Chol.low (gram f) j.val x * orth f i.val x : ℝ) : EReal) := by
    refine (Finset.sum_congr rfl fun x _ => ?_).trans ((sum_real 240 fun x => (if x = j.val then f i.val j.val else 0) - (if x < j.val then Chol.low (gram f) j.val x * orth f i.val x else 0)).trans ?_)
    · rw [sel_eq (by omega) (by omega), hy, hq, hl]
      unfold part qpart
      rw [if_pos x.isLt, EReal.coe_sub, ← EReal.coe_mul]
      congr 2
      · split
        · rename_i h; rw [h]
        · rfl
      · split
        · rw [mul_comm]
        · rw [zero_mul]
    · congr 1
      rw [Finset.sum_sub_distrib, Finset.sum_ite_eq' (range 240) j.val, if_pos (Finset.mem_range.2 j.isLt), ← Finset.sum_filter]
      congr 2
      ext x
      simp only [Finset.mem_filter, Finset.mem_range]
      omega
  rw [hs, hl, sel_eq (by omega) (by omega), hq]
  unfold part qpart
  rw [if_pos j.isLt, div_real _ hd]
  by_cases h : c.val = j.val
  · rw [if_pos h, if_pos (by omega), h]
    congr 1
    exact (Chol.solve_eq (Chol.low (gram f)) (fun m _ => f i.val m) j.val 0).symm
  · rw [if_neg h]
    by_cases h' : c.val < j.val
    · rw [if_pos h', if_pos (by omega)]
    · rw [if_neg h', if_neg (by omega)]

/-- The second loop leaves the orthonormal factor. -/
theorem loop2 (y : Vec Ideal S8192x240 .f32) (l : FVec Ideal S240x240 .f32) {f : ℕ → ℕ → ℝ} (hy : Is (a := 8192) (b := 240) y f) (hp : Pivots f)
    (hl : Is (a := 240) (b := 240) l (part (gram f) 240)) :
    Is (a := 8192) (b := 240) (Scf.fold (fun (k : Fin k0_t2_loop.trips) (q : FVec Ideal S8192x240 .f32) => k0_pay7 y l k q) k0_pay6) (orth f) := by
  rw [Scf.fold_eq]
  have ht : k0_t2_loop.trips = 240 := by decide +kernel
  have := fold_ind k0_t2_loop.trips (fun k q => k0_pay7 y l k q) k0_pay6
    (fun n q => Is (a := 8192) (b := 240) q (qpart f n)) (fun i c => by
      rw [qpart, if_neg (Nat.not_lt_zero _)]
      unfold k0_pay6
      exact Idealize.ShloMosaic.Ideal.ofBits_zero_f32) (fun k q h => pay7_apply k ⟨k.val, lt_of_lt_of_eq k.isLt ht⟩ rfl y q l hy hl h hp)
  intro i c
  refine (this i c).trans ?_
  rw [qpart, if_pos (lt_of_lt_of_eq c.isLt ht.symm)]

/-- The reference's second result is the first transposed. -/
theorem pay8_apply (q : FVec Ideal S8192x240 .f32) (i : Fin 240) (c : Fin 8192) : k0_pay8 q (ix2 i c) = q (ix2 c i) := by
  pointwise [k0_pay8]

variable (m : (ℓ : Loc nD τ sig) → Buf (Elt Ideal) ℓ) (c : Dev nD)

/-- The operand's one block is its array. -/
theorem iblk0 (t : Fin cfg0.N) : iblk m c 0 t = m ((c : Thread nD τ).loc main_arg0) := by
  funext y
  unfold iblk
  blk_simp
  rw [V_main_arg0]
  refine congrArg _ (funext fun a => Fin.ext ?_)
  match a with
  | ⟨0, _⟩ => blk_simp; exact whole_at _ _
  | ⟨1, _⟩ => blk_simp; exact whole_at _ _

/-- The orthonormal factor as an array. -/
def qArr (f : ℕ → ℕ → ℝ) : FVec Ideal S8192x240 .f32 := fun j => ((orth f (j 0).val (j 1).val : ℝ) : EReal)

/-- The transposed orthonormal factor as an array. -/
def qtArr (f : ℕ → ℕ → ℝ) : FVec Ideal S240x8192 .bf16 := fun j => ((orth f (j 1).val (j 0).val : ℝ) : EReal)

/-- An array of a table's reals, at any index. -/
theorem is_fun {a b : ℕ} {x : FVec Ideal ⟨2, ![a, b]⟩ .f32} {g : ℕ → ℕ → ℝ} (h : Is x g) (j : (⟨2, ![a, b]⟩ : Shape).Idx) : x j = ((g (j 0).val (j 1).val : ℝ) : EReal) := by
  obtain ⟨r, n, rfl⟩ : ∃ (r : Fin a) (n : Fin b), j = ix2 r n := ⟨j 0, j 1, eq_ix2 (n0 := a) (n1 := b) j⟩
  exact h r n

variable {f : ℕ → ℕ → ℝ} (hy : Is (a := 8192) (b := 240) (m ((c : Thread nD τ).loc main_arg0)) f) (hp : Pivots f)
include hy hp

/-- The reference's first result array. -/
theorem result1_eq : (dats m 0 c).arrAt 1 cfg0.N = qArr f := by
  refine (dats m 0 c).arrAt_eq_of_covers 1 _ (by decide +kernel) fun t hf y => ?_
  blk_simp
  rw [after0_1]
  unfold outsAt0
  dsimp only
  frame_out
  rw [iblk0]
  generalize hz : View.read _ _ _ = z
  replace hy : Is (a := 8192) (b := 240) z f := fun i n => (congrFun (hz.symm.trans ((hs0_0 t).read_unread _)) (ix2 i n)).trans (hy i n)
  refine (is_fun (a := 8192) (b := 240) (loop2 z _ hy hp (loop1 z hy hp)) y).trans (congrArg (qArr f) (funext fun a => Fin.ext ?_))
  match a with
  | ⟨0, _⟩ => blk_simp; exact (whole_at _ _).symm
  | ⟨1, _⟩ => blk_simp; exact (whole_at _ _).symm

/-- The reference's second result array. -/
theorem result2_eq : (dats m 0 c).arrAt 2 cfg0.N = qtArr f := by
  refine (dats m 0 c).arrAt_eq_of_covers 2 _ (by decide +kernel) fun t hf y => ?_
  blk_simp
  rw [after0_2]
  unfold outsAt0
  dsimp only
  frame_out
  rw [iblk0]
  generalize hz : View.read _ _ _ = z
  replace hy : Is (a := 8192) (b := 240) z f := fun i n => (congrFun (hz.symm.trans ((hs0_0 t).read_unread _)) (ix2 i n)).trans (hy i n)
  obtain ⟨r, n, hj⟩ : ∃ (r : Fin 240) (n : Fin 8192), y = ix2 r n := ⟨y 0, y 1, eq_ix2 (n0 := 240) (n1 := 8192) y⟩
  subst hj
  refine (pay8_apply _ r n).trans ((loop2 z _ hy hp (loop1 z hy hp) n r).trans (congrArg (qtArr f) (funext fun a => Fin.ext ?_) : qtArr f (ix2 r n) = _))
  match a with
  | ⟨0, _⟩ => blk_simp; exact (whole_at _ _).symm
  | ⟨1, _⟩ => blk_simp; exact (whole_at _ _).symm

end Cert.CqrRefIdeal.Hand
-- ==== Proof.CqrKernel.lean ====
module

public import proofs.«01_k».proof.Proof.CqrLoops
public import proofs.«01_k».proof.Proof.CqrRef
public import proofs.«01_k».proof.Proof.Gen.CqrIdeal.Value

@[expose] public section

noncomputable section

namespace Cert.CqrIdeal.Hand

open Cert.CqrIdeal Cert.CqrIdeal.Gen Idealize.ShloMosaic Idealize.ShloMosaic.TcCoe Idealize.SL.Sem
open Finset Cert.CqrReal
open Cert.LastRefIdeal.Hand (whole_at)
open Cert.CqrRefIdeal.Hand (qArr qtArr is_fun)

/-- What the scratch matrix holds before the panels: the Gram matrix, and from column 256 on the identity. -/
def rhs (f : ℕ → ℕ → ℝ) (i c : ℕ) : ℝ :=
  if c < 240 then gram f i c else if 256 ≤ c ∧ c < 496 then (if i = c - 256 then 1 else 0) else 0

/-- The three stores that fill the scratch matrix, newest first. -/
def fill (g : FVec Ideal S240x240 .f32) : List (View.Piece (Elt Ideal) S240x512 .f32) :=
  [⟨Rect.unit ![0, 256] ![240, 240] inb_S240x512_S240x240_0_256, k0_pay5 (F := Ideal)⟩,
   ⟨Rect.unit ![0, 0] ![240, 240] inb_S240x512_S240x240_0_0, k0_pay4 g⟩,
   ⟨Rect.unit ![0, 0] ![240, 512] inb_S240x512_S240x512_0_0, k0_pay3 (F := Ideal)⟩]

/-- The scratch matrix once filled. -/
theorem fill_apply (v : View sig .tc .vmem S240x512 .f32) (G : BufTy.Contents (Elt Ideal) v.ty) (g : FVec Ideal S240x240 .f32) {f : ℕ → ℕ → ℝ}
    (h : Is (a := 240) (b := 240) g (gram f)) : Is (a := 240) (b := 512) (v.read (Elt Ideal) (v.writes (Elt Ideal) G (fill g))) (rhs f) := by
  intro i c
  unfold fill rhs
  by_cases h2 : 256 ≤ c.val ∧ c.val < 496
  · rw [if_neg (by omega), if_pos h2]
    refine (View.read_writes_cons_unit_of_mem (size := ![240, 240]) v G _ _ _ (ix2 i c) (ix2 i ⟨c.val - 256, by omega⟩) rfl fun a => ?_).trans (pay5_apply _ _)
    match a with
    | ⟨0, _⟩ => exact (Nat.zero_add _).symm
    | ⟨1, _⟩ => show c.val = 256 + (c.val - 256); omega
  · refine (View.read_writes_cons_unit_of_not_mem (off' := ![0, 256]) (size := ![240, 240]) v G _ _ _ (ix2 i c) rfl (1 : Fin 2) (by show c.val < 256 ∨ 256 + 240 ≤ c.val; omega)).trans ?_
    by_cases h1 : c.val < 240
    · rw [if_pos h1, pay4_eq]
      refine (View.read_writes_cons_unit_of_mem (size := ![240, 240]) v G _ _ _ (ix2 i c) (ix2 i ⟨c.val, h1⟩) rfl fun a => ?_).trans (h _ _)
      match a with
      | ⟨0, _⟩ => exact (Nat.zero_add _).symm
      | ⟨1, _⟩ => exact (Nat.zero_add _).symm
    · rw [if_neg h1, if_neg h2]
      refine (View.read_writes_cons_unit_of_not_mem (off' := ![0, 0]) (size := ![240, 240]) v G _ _ _ (ix2 i c) rfl (1 : Fin 2) (by show c.val < 0 ∨ 0 + 240 ≤ c.val; omega)).trans ?_
      refine (View.read_writes_cons_unit_of_mem (size := ![240, 512]) v G _ _ _ (ix2 i c) (ix2 i c) rfl fun a => ?_).trans (pay3_apply _ _)
      match a with
      | ⟨0, _⟩ => exact (Nat.zero_add _).symm
      | ⟨1, _⟩ => exact (Nat.zero_add _).symm

/-- The inverse factor applied to a row of the operand is the row of the orthonormal factor. -/
theorem apply_inverse {f : ℕ → ℕ → ℝ} (l : FVec Ideal S240x240 .f32)
    (hl : ∀ j x : Fin 240, l (ix2 j x) = ((Chol.solve (Chol.low (gram f)) (rhs f) j.val (256 + x.val) : ℝ) : EReal)) (i : ℕ) (_ : i < 8192) (j : Fin 240) :
    (∑ x : Fin 240, ((f i x.val : ℝ) : EReal) * l (ix2 j x)) = ((orth f i j.val : ℝ) : EReal) := by
  refine (Finset.sum_congr rfl fun x _ => ?_).trans ((sum_real 240 fun x => f i x * Chol.solve (Chol.low (gram f)) (rhs f) j.val (256 + x)).trans ?_)
  · rw [hl, ← EReal.coe_mul]
  · congr 1
    unfold orth
    rw [Chol.solve_linear (Chol.low (gram f)) (rhs f) (fun m _ => f i m) 256 (n := 240) (fun m hm k hk => ?_) j.val j.isLt 0]
    · exact Finset.sum_congr rfl fun x _ => mul_comm _ _
    · unfold rhs
      rw [if_neg (by omega), if_pos (by omega), Nat.add_sub_cancel_left]

section Body

variable (c : Dev nD) (arg0 : Memref sig .tc .vmem S8192x240 .f32) (harg0 : arg0.IsWhole) (arg1 : Memref sig .tc .vmem S8192x240 .f32) (harg1 : arg1.IsWhole)
  (arg2 : Memref sig .tc .vmem S240x8192 .bf16) (harg2 : arg2.IsWhole) (arg3 : Memref sig .tc .vmem S240x512 .f32) (harg3 : arg3.IsWhole)
  (X : BufTy.Contents (Elt Ideal) arg0.view.ty) {f : ℕ → ℕ → ℝ} (hX : Is (a := 8192) (b := 240) (arg0.view.read (Elt Ideal) X) f) (hp : Pivots f)
include hX hp

/-- What the panels leave from column 256 on: the inverse of the triangular factor. -/
theorem inverse (G : BufTy.Contents (Elt Ideal) arg3.view.ty) (inb) (n1 n2 : ℕ) (h1 : n1 = 16) (h2 : n2 = 30) (j x : Fin 240) :
    arg3.view.readAt (Elt Ideal) (Rect.unit (s := S240x512) ![0, 256] ![240, 240] inb).toLoadRect
      (arg3.view.writes (Elt Ideal) G (pb_k0_t2 (F := Ideal) Variants.none c none arg0 harg0 arg1 harg1 arg2 harg2 arg3 harg3 i18 i19
        (arg3.view.writes (Elt Ideal) G (fill (st_k0_t1 (F := Ideal) Variants.none c none arg0 harg0 arg1 harg1 arg2 harg2 arg3 harg3 X k0_pay1 n1))) n2
        ++ fill (st_k0_t1 (F := Ideal) Variants.none c none arg0 harg0 arg1 harg1 arg2 harg2 arg3 harg3 X k0_pay1 n1))) (ix2 j x)
    = ((Chol.solve (Chol.low (gram f)) (rhs f) j.val (256 + x.val) : ℝ) : EReal) := by
  subst h1 h2
  have hG := fill_apply arg3.view G _ (state1 c arg0 harg0 arg1 harg1 arg2 harg2 arg3 harg3 X hX 16 le_rfl)
  rw [View.writes_append]
  refine (readAt_apply arg3.view inb _ (ix2 j x) (ix2 j ⟨256 + x.val, by omega⟩) rfl fun a => ?_).trans
    ((state2 (b := rhs f) c arg0 harg0 arg1 harg1 arg2 harg2 arg3 harg3 (gram_symm f) hp (fun i j hj => if_pos hj) _ hG 30 le_rfl _ _).trans ?_)
  · match a with
    | ⟨0, _⟩ => exact (Nat.zero_add _).symm
    | ⟨1, _⟩ => rfl
  · rw [elim, if_pos (by show j.val < 8 * 30; omega)]

end Body

variable (m : (ℓ : Loc nD τ sig) → Buf (Elt Ideal) ℓ) (c : Dev nD)

/-- The operand's one block is its array. -/
theorem iblk0 (t : Fin cfg0.N) : iblk m c 0 t = m ((c : Thread nD τ).loc main_arg0) := by
  funext y
  unfold iblk
  blk_simp
  rw [V_main_arg0]
  refine congrArg _ (funext fun a => Fin.ext ?_)
  match a with
  | ⟨0, _⟩ => blk_simp; exact whole_at _ _
  | ⟨1, _⟩ => blk_simp; exact whole_at _ _

variable {f : ℕ → ℕ → ℝ} (hy : Is (a := 8192) (b := 240) (m ((c : Thread nD τ).loc main_arg0)) f) (hp : Pivots f)
include hy hp

/-- The kernel's first result array. -/
theorem result1_eq : (dats m 0 c).arrAt 1 cfg0.N = qArr f := by
  refine (dats m 0 c).arrAt_eq_of_covers 1 _ (by decide +kernel) fun t hf y => ?_
  blk_simp
  rw [after0_1]
  unfold outsAt0
  dsimp only
  frame_out
  rw [iblk0]
  have hX : Is (a := 8192) (b := 240) ((ms0_0 t).view.read (Elt Ideal) ((hs0_0 t).unread (m ((c : Thread nD τ).loc main_arg0)))) f :=
    fun i n => (congrFun ((hs0_0 t).read_unread _) (ix2 i n)).trans (hy i n)
  generalize (hs0_0 t).unread (m ((c : Thread nD τ).loc main_arg0)) = X at hX ⊢
  generalize hL : View.readCov (Val := Elt Ideal) _ _ _ = l
  have hl := apply_inverse l fun j x => (congrFun hL.symm (ix2 j x)).trans (inverse c (ms0_0 t) (hs0_0 t) (ms0_1 t) (hs0_1 t) (ms0_2 t) (hs0_2 t) scM0_0 (Memref.isWhole_whole _) X hX hp (View.whole cc0_scratch0).junk inb_S240x512_S240x240_0_256
    (Scf.trips 0#32 (Scalar.addi 0#32 16#32) 1#32) (Scf.trips 0#32 (Scalar.addi 0#32 30#32) 1#32) (by decide +kernel) (by decide +kernel) j x)
  obtain ⟨r, n, hj⟩ : ∃ (r : Fin 8192) (n : Fin 240), y = ix2 r n := ⟨y 0, y 1, eq_ix2 (n0 := 8192) (n1 := 240) y⟩
  subst hj
  have h3 := (state3 c (ms0_0 t) (hs0_0 t) (ms0_1 t) (hs0_1 t) (ms0_2 t) (hs0_2 t) scM0_0 (Memref.isWhole_whole _) X hX l hl (ms0_1 t).view (ms0_1 t).view.junk (ms0_2 t).view (ms0_2 t).view.junk
    (Scf.trips 0#32 (Scalar.addi 0#32 16#32) 1#32) (by decide +kernel) r (lt_of_lt_of_le r.isLt (by decide +kernel)) n).1
  refine (congrFun (View.read_writes_junk_eq_canon (ms0_1 t).view _).symm (ix2 r n)).trans (h3.trans (congrArg (qArr f) (funext fun a => Fin.ext ?_) : qArr f (ix2 r n) = _))
  match a with
  | ⟨0, _⟩ => blk_simp; exact (whole_at _ _).symm
  | ⟨1, _⟩ => blk_simp; exact (whole_at _ _).symm

/-- The kernel's second result array. -/
theorem result2_eq : (dats m 0 c).arrAt 2 cfg0.N = qtArr f := by
  refine (dats m 0 c).arrAt_eq_of_covers 2 _ (by decide +kernel) fun t hf y => ?_
  blk_simp
  rw [after0_2]
  unfold outsAt0
  dsimp only
  frame_out
  rw [iblk0]
  have hX : Is (a := 8192) (b := 240) ((ms0_0 t).view.read (Elt Ideal) ((hs0_0 t).unread (m ((c : Thread nD τ).loc main_arg0)))) f :=
    fun i n => (congrFun ((hs0_0 t).read_unread _) (ix2 i n)).trans (hy i n)
  generalize (hs0_0 t).unread (m ((c : Thread nD τ).loc main_arg0)) = X at hX ⊢
  generalize hL : View.readCov (Val := Elt Ideal) _ _ _ = l
  have hl := apply_inverse l fun j x => (congrFun hL.symm (ix2 j x)).trans (inverse c (ms0_0 t) (hs0_0 t) (ms0_1 t) (hs0_1 t) (ms0_2 t) (hs0_2 t) scM0_0 (Memref.isWhole_whole _) X hX hp (View.whole cc0_scratch0).junk inb_S240x512_S240x240_0_256
    (Scf.trips 0#32 (Scalar.addi 0#32 16#32) 1#32) (Scf.trips 0#32 (Scalar.addi 0#32 30#32) 1#32) (by decide +kernel) (by decide +kernel) j x)
  obtain ⟨r, n, hj⟩ : ∃ (r : Fin 240) (n : Fin 8192), y = ix2 r n := ⟨y 0, y 1, eq_ix2 (n0 := 240) (n1 := 8192) y⟩
  subst hj
  have h3 := (state3 c (ms0_0 t) (hs0_0 t) (ms0_1 t) (hs0_1 t) (ms0_2 t) (hs0_2 t) scM0_0 (Memref.isWhole_whole _) X hX l hl (ms0_1 t).view (ms0_1 t).view.junk (ms0_2 t).view (ms0_2 t).view.junk
    (Scf.trips 0#32 (Scalar.addi 0#32 16#32) 1#32) (by decide +kernel) n (lt_of_lt_of_le n.isLt (by decide +kernel)) r).2
  refine (congrFun (View.read_writes_junk_eq_canon (ms0_2 t).view _).symm (ix2 r n)).trans (h3.trans (congrArg (qtArr f) (funext fun a => Fin.ext ?_) : qtArr f (ix2 r n) = _))
  match a with
  | ⟨0, _⟩ => blk_simp; exact (whole_at _ _).symm
  | ⟨1, _⟩ => blk_simp; exact (whole_at _ _).symm

end Cert.CqrIdeal.Hand
-- ==== Proof.CqrPre.lean ====
module

public import proofs.«01_k».proof.Pre_full_rank
public import proofs.«01_k».proof.Proof.CqrReal
public import proofs.«01_k».proof.Proof.Finite

@[expose] public section

noncomputable section

namespace Cert.CqrPre

open Idealize.ShloMosaic Cert.Pre_full_rank Finset Cert.CqrReal Idealize.ShloMosaic.WordCmp

/-- The side conditions of the predicate on the argument. -/
theorem preFacts : Cert.Pre_full_rank.Facts where
  bcast_S_S8192x240 := by decide
  bcast_S_S240 := by decide
  bcast_S240_S1x240_1 := by decide
  bcast_S1x240_S240x240_0_1 := by decide
  bcast_S_S240x240 := by decide
  reducesTo_S240x240_S240_d1 := by decide
  h_S_ := by decide
  reducesTo_S240_S_d0 := by decide
  bcast_S240_S240x1_0 := by decide
  bcast_S240x1_S240x240_0_1 := by decide
  dot_S8192x240_S8192x240_S240x240_0_0_1_1_n_n_wf := by decide

variable [Cert.Pre_full_rank.Facts]

/-- The predicate's matrix is the Gram matrix. -/
theorem gram_apply (y : FVec Ideal S8192x240 .f32) {f : ℕ → ℕ → ℝ} (hy : Is (a := 8192) (b := 240) y f) :
    Is (a := 240) (b := 240) (Host.dotGeneral (F := Ideal) (φ₁ := .f32) (φ₂ := .f32) dot_S8192x240_S8192x240_S240x240_0_0_1_1_n_n (some .fp32) y y) (gram f) := by
  intro i c
  have e : Host.dotGeneral (F := Ideal) (φ₁ := .f32) (φ₂ := .f32) dot_S8192x240_S8192x240_S240x240_0_0_1_1_n_n (some .fp32) y y (ix2 i c) = ∑ m : Fin 8192, y (ix2 m i) * y (ix2 m c) := by
    pointwise
  rw [e]
  refine (Finset.sum_congr rfl fun m _ => ?_).trans (sum_real 8192 fun m => f m i.val * f m c.val)
  rw [hy, hy, ← EReal.coe_mul]

/-- The predicate's zero. -/
theorem zero_apply (x : S_.Idx) : (id (constant (F := Ideal) S_ FTy.f32 0#32) x : EReal) = 0 := Idealize.ShloMosaic.Ideal.ofBits_zero_f32

/-- What the predicate's loop carries: a remainder, the step's number and a flag. -/
abbrev St : Type := FVec Ideal S240x240 .f32 × IVec S_ 32 × IVec S_ 1

/-- After `n` steps: the number is `n`, and if the flag is set the pivots so far are positive and the remainder is the one after `n` steps. -/
def Inv (g : ℕ → ℕ → ℝ) (n : ℕ) (s : St) : Prop :=
  s.2.1 = (fun _ => BitVec.ofNat 32 n) ∧ (s.2.2 = (fun _ => 1#1) → Is (a := 240) (b := 240) s.1 (Chol.rest g n) ∧ ∀ i < n, 0 < Chol.rest g i i i)

/-- One step. -/
def one (s : St) : St := fn_pivot s.1 s.2.1 s.2.2

/-- One step of the predicate is one step of elimination. -/
theorem inv_one (g : ℕ → ℕ → ℝ) (n : ℕ) (hn : n < 240) (s : St) (h : Inv g n s) : Inv g (n + 1) (one s) := by
  obtain ⟨a, j, k⟩ := s
  obtain ⟨hj, hk⟩ := h
  dsimp only at hj hk
  subst hj
  refine ⟨?_, fun e => ?_⟩
  · funext x
    exact (BitVec.ofNat_add ..).symm
  · have e0 := congrFun e ix0
    have hd : ∀ x : S_.Idx, (one (a, (fun _ => BitVec.ofNat 32 n), k)).2.2 x = IntOp.andi (k x) (BitVec.ofBool (decide ((0 : EReal) < a (ix2 ⟨n, hn⟩ ⟨n, hn⟩)))) := by
      intro x
      unfold one
      pointwise [fn_pivot, fn_pivot_part1, fn_where, fn_where_6]
      simp only [zero_apply]
      have hp := fun f : Fin 240 → EReal => sum_pick (n := 240) (by decide) ⟨n, hn⟩ f
      dsimp only at hp
      simp only [hp]
    have hand : ∀ x : S_.Idx, k x = 1#1 ∧ (0 : EReal) < a (ix2 ⟨n, hn⟩ ⟨n, hn⟩) := by
      intro x
      have e1 := (hd x).symm.trans (congrFun e x)
      by_cases hpos : (0 : EReal) < a (ix2 ⟨n, hn⟩ ⟨n, hn⟩)
      · refine ⟨?_, hpos⟩
        rw [decide_eq_true hpos] at e1
        revert e1
        generalize k x = b
        revert b
        decide
      · rw [decide_eq_false hpos] at e1
        exact absurd e1 ((by decide : ∀ b : BitVec 1, IntOp.andi b (BitVec.ofBool false) ≠ 1#1) (k x))
    obtain ⟨ha, hpos⟩ := hk (funext fun x => (hand x).1)
    have hn' : 0 < Chol.rest g n n n := by
      have := (hand ix0).2
      rw [ha] at this
      exact EReal.coe_pos.1 this
    refine ⟨fun i c => ?_, fun i hi => ?_⟩
    · unfold one
      pointwise [fn_pivot, fn_pivot_part1, fn_where, fn_where_6]
      simp only [zero_apply]
      have hp := fun f : Fin 240 → EReal => sum_pick (n := 240) (by decide) ⟨n, hn⟩ f
      dsimp only at hp
      simp only [hp]
      rw [sel_ge (by omega) (by omega), sel_ge (by omega) (by omega), ha, ha, ha, ha, div_sqrt _ hn', div_sqrt _ hn']
      have hl : ∀ i : Fin 240, (if n ≤ i.val then ((Chol.rest g n i.val n / √(Chol.rest g n n n) : ℝ) : EReal) else 0) = ((Chol.low g i.val n : ℝ) : EReal) := by
        intro i
        unfold Chol.low
        split <;> simp
      dsimp only
      rw [hl, hl, ← EReal.coe_mul, ← EReal.coe_sub, Chol.rest_succ]
    · rcases Nat.lt_succ_iff_lt_or_eq.1 hi with h | rfl
      · exact ((hk (funext fun x => (hand x).1)).2 i h)
      · exact hn'

/-- A map that makes `n` steps. -/
def Steps (g : ℕ → ℕ → ℝ) (n : ℕ) (F : St → St) : Prop := ∀ j s, j + n ≤ 240 → Inv g j s → Inv g (j + n) (F s)

/-- Twice a map of `n` steps makes `n + n`. -/
theorem Steps.twice {g : ℕ → ℕ → ℝ} {n : ℕ} {F : St → St} (h : Steps g n F) : Steps g (n + n) fun s => F (F s) := fun j s hj hs => by
  rw [← Nat.add_assoc]
  exact h (j + n) (F s) (by omega) (h j s (by omega) hs)

/-- The predicate's map of 16 steps, and its doublings. -/
theorem steps16 (g : ℕ → ℕ → ℝ) : Steps g 16 fun s => fn_lambda_2 s.1 s.2.1 s.2.2 :=
  (((show Steps g 1 one from fun j s hj hs => inv_one g j (by omega) s hs).twice).twice).twice.twice
theorem steps32 (g : ℕ → ℕ → ℝ) : Steps g 32 fun s => fn_lambda_1 s.1 s.2.1 s.2.2 := (steps16 g).twice
theorem steps64 (g : ℕ → ℕ → ℝ) : Steps g 64 fun s => fn_lambda_0 s.1 s.2.1 s.2.2 := (steps32 g).twice
theorem steps128 (g : ℕ → ℕ → ℝ) : Steps g 128 fun s => fn_lambda s.1 s.2.1 s.2.2 := (steps64 g).twice

/-- An argument the predicate accepts is real. -/
theorem real_of_pre (y : FVec Ideal S8192x240 .f32) (h : (fn (F := Ideal) y).1 = fun _ => 1#1) : Deq.Real y :=
  Cert.Deq.floats_real _ _ (fun _ => Cert.Deq.inf_eq) h

/-- The Gram matrix of an argument the predicate accepts has positive pivots. -/
theorem pivots_of_pre (y : FVec Ideal S8192x240 .f32) {f : ℕ → ℕ → ℝ} (hy : Is (a := 8192) (b := 240) y f) (h : (fn (F := Ideal) y).2 = fun _ => 1#1) : Pivots f := by
  have h0 : Inv (gram f) 0 (Host.dotGeneral (F := Ideal) (φ₁ := .f32) (φ₂ := .f32) dot_S8192x240_S8192x240_S240x240_0_0_1_1_n_n (some .fp32) y y, constantI S_ 32 0#32, constantI S_ 1 1#1) :=
    ⟨rfl, fun _ => ⟨gram_apply y hy, fun i hi => absurd hi (Nat.not_lt_zero i)⟩⟩
  have h1 := steps16 (gram f) _ _ (by decide) (steps32 (gram f) _ _ (by decide) (steps64 (gram f) _ _ (by decide) (steps128 (gram f) _ _ (by decide) h0)))
  exact (h1.2 h).2

end Cert.CqrPre
-- ==== Proof.CqrValue.lean ====
module

public import proofs.«01_k».proof.Defs
public import proofs.«01_k».proof.Proof.CqrKernel
public import proofs.«01_k».proof.Proof.CqrPre
public import proofs.«01_k».proof.Proof.Gen.CqrIdeal.Value
public import proofs.«01_k».proof.Proof.Gen.CqrRefIdeal.Value

@[expose] public section

noncomputable section

namespace Cert.CqrRefIdeal.Hand

open Idealize.ShloMosaic Idealize.ShloMosaic.TcCoe Idealize.SL.Sem
open Cert.CqrReal Cert.CqrPre

/-- The operand of the orthonormalisation, as reals. -/
def operand (m : (ℓ : Loc Cert.CqrIdeal.nD Cert.CqrIdeal.τ Cert.CqrIdeal.sig) → Buf (Elt Ideal) ℓ) (c : Dev Cert.CqrIdeal.nD) : ℕ → ℕ → ℝ :=
  Deq.re (m ((c.tc : Thread Cert.CqrIdeal.nD Cert.CqrIdeal.τ).loc Cert.CqrIdeal.main_arg0))

/-- Under the precondition the operand is real and the pivots of its Gram matrix are positive. -/
theorem operand_of_pre (m : (ℓ : Loc Cert.CqrIdeal.nD Cert.CqrIdeal.τ Cert.CqrIdeal.sig) → Buf (Elt Ideal) ℓ)
    (h : Pre_CqrIdeal_full_rank (hPre_full_rank := preFacts) m) (c : Dev Cert.CqrIdeal.nD) :
    Is (a := 8192) (b := 240) (m ((c.tc : Thread Cert.CqrIdeal.nD Cert.CqrIdeal.τ).loc Cert.CqrIdeal.main_arg0)) (operand m c) ∧ Pivots (operand m c) := by
  letI := preFacts
  have hy := is_re (a := 8192) (b := 240) _ (real_of_pre _ (h c).1)
  exact ⟨hy, pivots_of_pre _ hy (h c).2⟩

/-- The orthonormalisation and its reference leave the same two arrays: the operand's orthonormal factor, and the factor transposed. -/
theorem algebraic : algebraic_CqrIdeal_CqrRefIdeal_pre_full_rank (hCqrIdeal := Cert.CqrIdeal.Gen.facts)
    (hCqrRefIdeal := Cert.CqrRefIdeal.Gen.facts) (hPre_full_rank := preFacts) := fun m g m' g' hp ha => by
  refine ⟨fun c => qArr (operand m c), fun c => qtArr (operand m c), ?_, ?_⟩
  · refine (θ_run _ _ _).mono (fun r h c => ?_) (Cert.CqrIdeal.Value.run_blocks m g)
    obtain ⟨hy, hpv⟩ := operand_of_pre m hp c
    obtain ⟨e1, e2, k⟩ := h c
    exact ⟨e1.trans (Cert.CqrIdeal.Hand.result1_eq m c hy hpv), e2.trans (Cert.CqrIdeal.Hand.result2_eq m c hy hpv), k⟩
  · refine (θ_run _ _ _).mono (fun r h c => ?_) (Cert.CqrRefIdeal.Value.run_blocks m' g')
    obtain ⟨hy, hpv⟩ := operand_of_pre m hp c
    obtain ⟨e1, e2, k⟩ := h c
    rw [← ha c] at hy
    exact ⟨e1.trans (result1_eq m' c hy hpv), e2.trans (result2_eq m' c hy hpv), k⟩

end Cert.CqrRefIdeal.Hand

end
-- ==== Proof.lean ====
module

public import proofs.«01_k».proof.Defs
public import proofs.«01_k».proof.Proof.Gen.Last
public import proofs.«01_k».proof.Proof.Gen.Last.Skeleton
public import proofs.«01_k».proof.Proof.Gen.Last.Loops
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Loops
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastRefIdeal.Skeleton
public import proofs.«01_k».proof.Proof.Gen.LastRefIdeal.Launch
public import proofs.«01_k».proof.Proof.Gen.LastRefIdeal.Points
public import proofs.«01_k».proof.Proof.Gen.LastRefIdeal.Frame
public import proofs.«01_k».proof.Proof.Gen.First
public import proofs.«01_k».proof.Proof.Gen.First.Skeleton
public import proofs.«01_k».proof.Proof.Gen.First.Loops
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Loops
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstRefIdeal
public import proofs.«01_k».proof.Proof.Gen.FirstRefIdeal.Skeleton
public import proofs.«01_k».proof.Proof.Gen.FirstRefIdeal.Launch
public import proofs.«01_k».proof.Proof.Gen.FirstRefIdeal.Points
public import proofs.«01_k».proof.Proof.Gen.FirstRefIdeal.Frame
public import proofs.«01_k».proof.Proof.Gen.Cqr
public import proofs.«01_k».proof.Proof.Gen.Cqr.Skeleton
public import proofs.«01_k».proof.Proof.Gen.Cqr.Loops
public import proofs.«01_k».proof.Proof.Gen.Cqr.Launch
public import proofs.«01_k».proof.Proof.Gen.Cqr.Points
public import proofs.«01_k».proof.Proof.Gen.Cqr.Frame
public import proofs.«01_k».proof.Proof.Gen.CqrIdeal
public import proofs.«01_k».proof.Proof.Gen.CqrIdeal.Skeleton
public import proofs.«01_k».proof.Proof.Gen.CqrIdeal.Loops
public import proofs.«01_k».proof.Proof.Gen.CqrIdeal.Launch
public import proofs.«01_k».proof.Proof.Gen.CqrIdeal.Points
public import proofs.«01_k».proof.Proof.Gen.CqrIdeal.Frame
public import proofs.«01_k».proof.Proof.Gen.CqrRefIdeal
public import proofs.«01_k».proof.Proof.Gen.CqrRefIdeal.Skeleton
public import proofs.«01_k».proof.Proof.Gen.CqrRefIdeal.Loops
public import proofs.«01_k».proof.Proof.Gen.CqrRefIdeal.Launch
public import proofs.«01_k».proof.Proof.Gen.CqrRefIdeal.Points
public import proofs.«01_k».proof.Proof.Gen.CqrRefIdeal.Frame
public import Idealize.ShloMosaic.Adequacy
public import Idealize.ShloMosaic.Init
public import proofs.«01_k».proof.Proof.PowerFrame
public import proofs.«01_k».proof.Proof.LastValue
public import proofs.«01_k».proof.Proof.FirstValue
public import proofs.«01_k».proof.Proof.PowerValue
public import proofs.«01_k».proof.Proof.CqrValue

@[expose] public section

noncomputable section

namespace Cert.Proof

open Idealize.ShloMosaic Idealize.SL.Sem Cert.Last

theorem claim : Cert.Claim := ⟨Cert.Last.Gen.facts, Cert.LastIdeal.Gen.facts, Cert.LastRefIdeal.Gen.facts, Cert.First.Gen.facts, Cert.FirstIdeal.Gen.facts, Cert.FirstRefIdeal.Gen.facts, Cert.Power.Gen.facts, Cert.PowerIdeal.Gen.facts, Cert.PowerRefIdeal.Gen.facts, Cert.Cqr.Gen.facts, Cert.CqrIdeal.Gen.facts, Cert.CqrRefIdeal.Gen.facts, Cert.LastRefIdeal.Hand.preFacts, Cert.FirstRefIdeal.Hand.preFacts, Cert.CqrPre.preFacts,
  fun m g _ => Cert.Last.Gen.frame m g,
  fun m g _ => Cert.LastIdeal.Gen.frame m g,
  fun m g _ => Cert.LastIdeal.Gen.frame m g,
  fun m g _ => Cert.LastRefIdeal.Gen.frame m g,
  fun m g _ => Cert.LastRefIdeal.Gen.frame m g,
  fun m g _ => Cert.First.Gen.frame m g,
  fun m g _ => Cert.FirstIdeal.Gen.frame m g,
  fun m g _ => Cert.FirstIdeal.Gen.frame m g,
  fun m g _ => Cert.FirstRefIdeal.Gen.frame m g,
  fun m g _ => Cert.FirstRefIdeal.Gen.frame m g,
  fun m g _ => Cert.Power.Gen.frame m g,
  fun m g _ => Cert.PowerIdeal.Gen.frame m g,
  fun m g _ => Cert.PowerIdeal.Gen.frame m g,
  fun m g _ => Cert.PowerRefIdeal.Gen.frame m g,
  fun m g _ => Cert.PowerRefIdeal.Gen.frame m g,
  fun m g _ => Cert.Cqr.Gen.frame m g,
  fun m g _ => Cert.CqrIdeal.Gen.frame m g,
  fun m g _ => Cert.CqrIdeal.Gen.frame m g,
  fun m g _ => Cert.CqrRefIdeal.Gen.frame m g,
  fun m g _ => Cert.CqrRefIdeal.Gen.frame m g,
  trivial,
  Cert.LastRefIdeal.Hand.algebraic,
  trivial,
  Cert.FirstRefIdeal.Hand.algebraic,
  trivial,
  Cert.PowerRefIdeal.Hand.algebraic,
  trivial,
  Cert.CqrRefIdeal.Hand.algebraic⟩

end Cert.Proof

end
